-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15_0)) (v1 : (c : Dev Cert.KernelIdeal.nD) → Buf (Elt Ideal) ((c.tc : Thread Cert.KernelIdeal.nD Cert.KernelIdeal.τ).loc Cert.KernelIdeal.main_v15_1)) (v2 : (c : Dev Cert.KernelIdeal.nD) → Buf (Elt Ideal) ((c.tc : Thread Cert.KernelIdeal.nD Cert.KernelIdeal.τ).loc Cert.KernelIdeal.main_v15_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15_0) = v0 c
          ∧ r.2.mem ((c.tc : Thread Cert.KernelIdeal.nD Cert.KernelIdeal.τ).loc Cert.KernelIdeal.main_v15_1) = v1 c
          ∧ r.2.mem ((c.tc : Thread Cert.KernelIdeal.nD Cert.KernelIdeal.τ).loc Cert.KernelIdeal.main_v15_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v156) = v0 c
          ∧ r.2.mem ((c.tc : Thread Cert.ReferenceIdeal.nD Cert.ReferenceIdeal.τ).loc Cert.ReferenceIdeal.main_v158) = v1 c
          ∧ r.2.mem ((c.tc : Thread Cert.ReferenceIdeal.nD Cert.ReferenceIdeal.τ).loc Cert.ReferenceIdeal.main_v160) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v11) = v0 c
          ∧ r.2.mem ((c.tc : Thread Cert.Reference2Ideal.nD Cert.Reference2Ideal.τ).loc Cert.Reference2Ideal.main_v12) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v6) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v5) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v4) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v4) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v6) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)) (v3 : (c : Dev Cert.Kernel13Ideal.nD) → Buf (Elt Ideal) ((c.tc : Thread Cert.Kernel13Ideal.nD Cert.Kernel13Ideal.τ).loc Cert.Kernel13Ideal.main_v0_3)) (v4 : (c : Dev Cert.Kernel13Ideal.nD) → Buf (Elt Ideal) ((c.tc : Thread Cert.Kernel13Ideal.nD Cert.Kernel13Ideal.τ).loc Cert.Kernel13Ideal.main_v0_4)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_v0_3) = v3 c
          ∧ r.2.mem ((c.tc : Thread Cert.Kernel13Ideal.nD Cert.Kernel13Ideal.τ).loc Cert.Kernel13Ideal.main_v0_4) = v4 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v84) = v0 c
          ∧ r.2.mem ((c.tc : Thread Cert.Reference13Ideal.nD Cert.Reference13Ideal.τ).loc Cert.Reference13Ideal.main_v85) = v1 c
          ∧ r.2.mem ((c.tc : Thread Cert.Reference13Ideal.nD Cert.Reference13Ideal.τ).loc Cert.Reference13Ideal.main_v86) = v2 c
          ∧ r.2.mem ((c.tc : Thread Cert.Reference13Ideal.nD Cert.Reference13Ideal.τ).loc Cert.Reference13Ideal.main_v87) = v3 c
          ∧ r.2.mem ((c.tc : Thread Cert.Reference13Ideal.nD Cert.Reference13Ideal.τ).loc Cert.Reference13Ideal.main_v89) = v4 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v37) = v0 c
          ∧ r.2.mem ((c.tc : Thread Cert.Reference14Ideal.nD Cert.Reference14Ideal.τ).loc Cert.Reference14Ideal.main_v39) = v1 c
          ∧ r.2.mem ((c.tc : Thread Cert.Reference14Ideal.nD Cert.Reference14Ideal.τ).loc Cert.Reference14Ideal.main_v40) = v2 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_v7) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v3) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v47) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v14) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
-- ==== Pre_finite.lean ====
abbrev S4096x512 : Shape := ⟨2, ![4096, 512]⟩
abbrev S_ : Shape := ⟨0, ![]⟩

class Facts : Prop where
  bcast_S_S4096x512 : S_.BroadcastsInDim S4096x512 (![] : Fin 0 → Fin S4096x512.rank)

variable [Facts]

def fn {F : FTy → Type} [FloatOps F] (main_arg0 : FVec F S4096x512 .f32) (main_arg1 : FVec F S4096x512 .f32) (main_arg2 : FVec F S4096x512 .f32) (main_arg3 : FVec F S4096x512 .f32) (main_arg4 : FVec F S4096x512 .f32) : IVec S4096x512 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_v3 : FVec F S4096x512 .f32 := Host.absf main_arg1
  let main_cst_0 : FVec F S_ .f32 := constant S_ .f32 0x7F800000#32
  let main_v4 : FVec F S4096x512 .f32 := broadcastInDim S4096x512 ![] bcast_S_S4096x512 main_cst_0
  let main_v5 : IVec S4096x512 1 := cmpf .olt main_v3 main_v4
  let main_v6 : IVec S4096x512 1 := andi main_v2 main_v5
  let main_v7 : FVec F S4096x512 .f32 := Host.absf main_arg2
  let main_cst_1 : FVec F S_ .f32 := constant S_ .f32 0x7F800000#32
  let main_v8 : FVec F S4096x512 .f32 := broadcastInDim S4096x512 ![] bcast_S_S4096x512 main_cst_1
  let main_v9 : IVec S4096x512 1 := cmpf .olt main_v7 main_v8
  let main_v10 : IVec S4096x512 1 := andi main_v6 main_v9
  let main_v11 : FVec F S4096x512 .f32 := Host.absf main_arg3
  let main_cst_2 : FVec F S_ .f32 := constant S_ .f32 0x7F800000#32
  let main_v12 : FVec F S4096x512 .f32 := broadcastInDim S4096x512 ![] bcast_S_S4096x512 main_cst_2
  let main_v13 : IVec S4096x512 1 := cmpf .olt main_v11 main_v12
  let main_v14 : IVec S4096x512 1 := andi main_v10 main_v13
  let main_v15 : FVec F S4096x512 .f32 := Host.absf main_arg4
  let main_cst_3 : FVec F S_ .f32 := constant S_ .f32 0x7F800000#32
  let main_v16 : FVec F S4096x512 .f32 := broadcastInDim S4096x512 ![] bcast_S_S4096x512 main_cst_3
  let main_v17 : IVec S4096x512 1 := cmpf .olt main_v15 main_v16
  let main_v18 : IVec S4096x512 1 := andi main_v14 main_v17
  main_v18
-- ==== Kernel.lean ====
abbrev S4096x512 : Shape := ⟨2, ![4096, 512]⟩
abbrev S1024x4x512 : Shape := ⟨3, ![1024, 4, 512]⟩
abbrev S4x1024x512 : Shape := ⟨3, ![4, 1024, 512]⟩
abbrev S128x512 : Shape := ⟨2, ![128, 512]⟩
abbrev S128x64 : Shape := ⟨2, ![128, 64]⟩
abbrev S256x64 : Shape := ⟨2, ![256, 64]⟩
abbrev S128x256 : Shape := ⟨2, ![128, 256]⟩
abbrev S128 : Shape := ⟨1, ![128]⟩
abbrev S128x1 : Shape := ⟨2, ![128, 1]⟩
abbrev S64x256 : Shape := ⟨2, ![64, 256]⟩

abbrev nBuf : Space → Nat
  | .hbm => 23
  | .vmem => 22
  | .smem => 0
  | _ => 0

abbrev bufTy : (tb : Table) → Fin (tcTables nBuf tb) → BufTy
  | .hbm, ⟨0, _⟩ => ⟨S4096x512, .f32⟩
  | .hbm, ⟨1, _⟩ => ⟨S4096x512, .f32⟩
  | .hbm, ⟨2, _⟩ => ⟨S4096x512, .f32⟩
  | .hbm, ⟨3, _⟩ => ⟨S4096x512, .f32⟩
  | .hbm, ⟨4, _⟩ => ⟨S4096x512, .f32⟩
  | .hbm, ⟨5, _⟩ => ⟨S1024x4x512, .f32⟩
  | .hbm, ⟨6, _⟩ => ⟨S4x1024x512, .f32⟩
  | .hbm, ⟨7, _⟩ => ⟨S4096x512, .f32⟩
  | .hbm, ⟨8, _⟩ => ⟨S1024x4x512, .f32⟩
  | .hbm, ⟨9, _⟩ => ⟨S4x1024x512, .f32⟩
  | .hbm, ⟨10, _⟩ => ⟨S4096x512, .f32⟩
  | .hbm, ⟨11, _⟩ => ⟨S1024x4x512, .f32⟩
  | .hbm, ⟨12, _⟩ => ⟨S4x1024x512, .f32⟩
  | .hbm, ⟨13, _⟩ => ⟨S4096x512, .f32⟩
  | .hbm, ⟨14, _⟩ => ⟨S1024x4x512, .f32⟩
  | .hbm, ⟨15, _⟩ => ⟨S4x1024x512, .f32⟩
  | .hbm, ⟨16, _⟩ => ⟨S4096x512, .f32⟩
  | .hbm, ⟨17, _⟩ => ⟨S1024x4x512, .f32⟩
  | .hbm, ⟨18, _⟩ => ⟨S4x1024x512, .f32⟩
  | .hbm, ⟨19, _⟩ => ⟨S4096x512, .f32⟩
  | .hbm, ⟨20, _⟩ => ⟨S4096x512, .bf16⟩
  | .hbm, ⟨21, _⟩ => ⟨S4096x512, .bf16⟩
  | .hbm, ⟨22, _⟩ => ⟨S4096x512, .bf16⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | .local _ .vmem, ⟨8, _⟩ => ⟨S128x512, .f32⟩
  | .local _ .vmem, ⟨9, _⟩ => ⟨S128x512, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x512, .bf16⟩
  | .local _ .vmem, ⟨15, _⟩ => ⟨S128x512, .bf16⟩
  | .local _ .vmem, ⟨16, _⟩ => ⟨S128x512, .bf16⟩
  | .local _ .vmem, ⟨17, _⟩ => ⟨S128x512, .bf16⟩
  | .local _ .vmem, ⟨18, _⟩ => ⟨S128x512, .bf16⟩
  | .local _ .vmem, ⟨19, _⟩ => ⟨S128x512, .bf16⟩
  | .local _ .vmem, ⟨20, _⟩ => ⟨S128x512, .f32⟩
  | .local _ .vmem, ⟨21, _⟩ => ⟨S128x512, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15_0 : Ref sig .tc := ⟨.hbm, 20, rfl⟩
abbrev main_v15_1 : Ref sig .tc := ⟨.hbm, 21, rfl⟩
abbrev main_v15_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

abbrev stage0_0 : Fin 2 → Memref sig .tc .vmem S128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S4096x512 : Shape := ⟨2, ![4096, 512]⟩
abbrev S1x4096x8x64 : Shape := ⟨4, ![1, 4096, 8, 64]⟩
abbrev S1x1024x4x8x64 : Shape := ⟨5, ![1, 1024, 4, 8, 64]⟩
abbrev S1x4x1024x8x64 : Shape := ⟨5, ![1, 4, 1024, 8, 64]⟩
abbrev S4x1024x8x64 : Shape := ⟨4, ![4, 1024, 8, 64]⟩
abbrev S_ : Shape := ⟨0, ![]⟩
abbrev S4x1024x8 : Shape := ⟨3, ![4, 1024, 8]⟩
abbrev S4x8x128x8x1x64 : Shape := ⟨6, ![4, 8, 128, 8, 1, 64]⟩
abbrev S4x8x128x8x64 : Shape := ⟨5, ![4, 8, 128, 8, 64]⟩
abbrev S4x1x128x8x64 : Shape := ⟨5, ![4, 1, 128, 8, 64]⟩
abbrev S4x7x128x8x64 : Shape := ⟨5, ![4, 7, 128, 8, 64]⟩
abbrev S4x8x256x8x64 : Shape := ⟨5, ![4, 8, 256, 8, 64]⟩
abbrev S4x8x8x256x128x1 : Shape := ⟨6, ![4, 8, 8, 256, 128, 1]⟩
abbrev S4x8x8x1x128x256 : Shape := ⟨6, ![4, 8, 8, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S8 : Shape := ⟨1, ![8]⟩
abbrev S8x1x1 : Shape := ⟨3, ![8, 1, 1]⟩
abbrev S1x1x256 : Shape := ⟨3, ![1, 1, 256]⟩
abbrev S8x1x256 : Shape := ⟨3, ![8, 1, 256]⟩
abbrev S1x128x256 : Shape := ⟨3, ![1, 128, 256]⟩
abbrev S8x128x256 : Shape := ⟨3, ![8, 128, 256]⟩
abbrev S1x8x1x1x128x256 : Shape := ⟨6, ![1, 8, 1, 1, 128, 256]⟩
abbrev S4x8x8x1x128 : Shape := ⟨5, ![4, 8, 8, 1, 128]⟩
abbrev S4x8x8x1x128x1 : Shape := ⟨6, ![4, 8, 8, 1, 128, 1]⟩
abbrev S4x8x8x64x1x128 : Shape := ⟨6, ![4, 8, 8, 64, 1, 128]⟩
abbrev S4x8x128x8x1 : Shape := ⟨5, ![4, 8, 128, 8, 1]⟩
abbrev S4x8x128x8x1x1 : Shape := ⟨6, ![4, 8, 128, 8, 1, 1]⟩
abbrev S4x8x128x8 : Shape := ⟨4, ![4, 8, 128, 8]⟩
abbrev S4x8x8x64x256 : Shape := ⟨5, ![4, 8, 8, 64, 256]⟩
abbrev S4x8x8x128 : Shape := ⟨4, ![4, 8, 8, 128]⟩
abbrev S4x8x8x128x1x64 : Shape := ⟨6, ![4, 8, 8, 128, 1, 64]⟩
abbrev S4x8x8x256x64 : Shape := ⟨5, ![4, 8, 8, 256, 64]⟩

abbrev nBuf : Space → Nat
  | .hbm => 197
  | .vmem => 0
  | .smem => 0
  | _ => 0

abbrev hbmTy0_0 (i : Nat) : BufTy := match i % 128 with
  | 0 => ⟨S4096x512, .f32⟩
  | 1 => ⟨S4096x512, .f32⟩
  | 2 => ⟨S4096x512, .f32⟩
  | 3 => ⟨S4096x512, .f32⟩
  | 4 => ⟨S4096x512, .f32⟩
  | 5 => ⟨S1x4096x8x64, .f32⟩
  | 6 => ⟨S1x1024x4x8x64, .f32⟩
  | 7 => ⟨S1x4x1024x8x64, .f32⟩
  | 8 => ⟨S4x1024x8x64, .f32⟩
  | 9 => ⟨S1x4096x8x64, .f32⟩
  | 10 => ⟨S1x1024x4x8x64, .f32⟩
  | 11 => ⟨S1x4x1024x8x64, .f32⟩
  | 12 => ⟨S4x1024x8x64, .f32⟩
  | 13 => ⟨S_, .f32⟩
  | 14 => ⟨S4x1024x8, .f32⟩
  | 15 => ⟨S1x4096x8x64, .f32⟩
  | 16 => ⟨S1x1024x4x8x64, .f32⟩
  | 17 => ⟨S1x4x1024x8x64, .f32⟩
  | 18 => ⟨S4x1024x8x64, .f32⟩
  | 19 => ⟨S1x4096x8x64, .f32⟩
  | 20 => ⟨S1x1024x4x8x64, .f32⟩
  | 21 => ⟨S1x4x1024x8x64, .f32⟩
  | 22 => ⟨S4x1024x8x64, .f32⟩
  | 23 => ⟨S1x4096x8x64, .f32⟩
  | 24 => ⟨S1x1024x4x8x64, .f32⟩
  | 25 => ⟨S1x4x1024x8x64, .f32⟩
  | 26 => ⟨S4x1024x8x64, .f32⟩
  | 27 => ⟨S4x8x128x8x1x64, .f32⟩
  | 28 => ⟨S4x8x128x8x64, .f32⟩
  | 29 => ⟨S4x1x128x8x64, .f32⟩
  | 30 => ⟨S_, .f32⟩
  | 31 => ⟨S4x1x128x8x64, .f32⟩
  | 32 => ⟨S4x7x128x8x64, .f32⟩
  | 33 => ⟨S4x8x128x8x64, .f32⟩
  | 34 => ⟨S_, .f32⟩
  | 35 => ⟨S4x1x128x8x64, .f32⟩
  | 36 => ⟨S4x8x256x8x64, .f32⟩
  | 37 => ⟨S4x8x128x8x64, .f32⟩
  | 38 => ⟨S4x1x128x8x64, .f32⟩
  | 39 => ⟨S_, .f32⟩
  | 40 => ⟨S4x1x128x8x64, .f32⟩
  | 41 => ⟨S4x7x128x8x64, .f32⟩
  | 42 => ⟨S4x8x128x8x64, .f32⟩
  | 43 => ⟨S_, .f32⟩
  | 44 => ⟨S4x1x128x8x64, .f32⟩
  | 45 => ⟨S4x8x256x8x64, .f32⟩
  | 46 => ⟨S4x8x8x256x128x1, .f32⟩
  | 47 => ⟨S4x8x8x1x128x256, .f32⟩
  | 48 => ⟨S_, .f32⟩
  | 49 => ⟨S4x8x8x1x128x256, .f32⟩
  | 50 => ⟨S4x8x8x1x128x256, .f32⟩
  | 51 => ⟨S128, .i32⟩
  | 52 => ⟨S128x1, .i32⟩
  | 53 => ⟨S256, .i32⟩
  | 54 => ⟨S1x256, .i32⟩
  | 55 => ⟨S_, .i32⟩
  | 56 => ⟨S128x1, .i32⟩
  | 57 => ⟨S128x1, .i32⟩
  | 58 => ⟨S128x256, .i32⟩
  | 59 => ⟨S128x256, .i32⟩
  | 60 => ⟨S128x256, .i32⟩
  | 61 => ⟨S8, .i32⟩
  | 62 => ⟨S8x1x1, .i32⟩
  | 63 => ⟨S_, .i32⟩
  | 64 => ⟨S128x256, .i32⟩
  | 65 => ⟨S128x256, .i1⟩
  | 66 => ⟨S_, .i32⟩
  | 67 => ⟨S128x256, .i32⟩
  | 68 => ⟨S128x256, .i1⟩
  | 69 => ⟨S128x256, .i1⟩
  | 70 => ⟨S_, .i32⟩
  | 71 => ⟨S8x1x1, .i32⟩
  | 72 => ⟨S8x1x1, .i32⟩
  | 73 => ⟨S1x1x256, .i32⟩
  | 74 => ⟨S8x1x256, .i32⟩
  | 75 => ⟨S8x1x256, .i32⟩
  | 76 => ⟨S8x1x256, .i32⟩
  | 77 => ⟨S_, .i32⟩
  | 78 => ⟨S8x1x256, .i32⟩
  | 79 => ⟨S8x1x256, .i32⟩
  | 80 => ⟨S_, .i32⟩
  | 81 => ⟨S8x1x256, .i32⟩
  | 82 => ⟨S8x1x256, .i1⟩
  | 83 => ⟨S1x128x256, .i1⟩
  | 84 => ⟨S8x128x256, .i1⟩
  | 85 => ⟨S8x128x256, .i1⟩
  | 86 => ⟨S8x128x256, .i1⟩
  | 87 => ⟨S1x8x1x1x128x256, .i1⟩
  | 88 => ⟨S_, .f32⟩
  | 89 => ⟨S_, .f32⟩
  | 90 => ⟨S4x8x8x1x128x256, .i1⟩
  | 91 => ⟨S4x8x8x1x128x256, .f32⟩
  | 92 => ⟨S4x8x8x1x128x256, .f32⟩
  | 93 => ⟨S_, .f32⟩
  | 94 => ⟨S4x8x8x1x128x256, .f32⟩
  | 95 => ⟨S_, .f32⟩
  | 96 => ⟨S4x8x8x1x128, .f32⟩
  | 97 => ⟨S4x8x8x1x128x1, .f32⟩
  | 98 => ⟨S4x8x8x1x128x256, .f32⟩
  | 99 => ⟨S4x8x8x1x128x256, .i1⟩
  | 100 => ⟨S4x8x8x1x128x256, .f32⟩
  | 101 => ⟨S_, .f32⟩
  | 102 => ⟨S4x8x8x1x128, .f32⟩
  | 103 => ⟨S4x8x8x1x128x1, .f32⟩
  | 104 => ⟨S4x8x8x1x128x256, .f32⟩
  | 105 => ⟨S4x8x8x1x128x256, .f32⟩
  | 106 => ⟨S4x8x8x1x128x256, .f32⟩
  | 107 => ⟨S_, .f32⟩
  | 108 => ⟨S4x8x8x1x128, .f32⟩
  | 109 => ⟨S4x8x8x64x1x128, .f32⟩
  | 110 => ⟨S4x8x128x8x1x64, .f32⟩
  | 111 => ⟨S4x8x128x8x1, .f32⟩
  | 112 => ⟨S4x8x128x8x1x1, .f32⟩
  | 113 => ⟨S4x8x128x8x1x64, .f32⟩
  | 114 => ⟨S4x8x128x8x1x64, .f32⟩
  | 115 => ⟨S4x8x128x8x1x1, .f32⟩
  | 116 => ⟨S_, .f32⟩
  | 117 => ⟨S4x8x128x8x1x1, .f32⟩
  | 118 => ⟨S4x8x128x8x1x1, .f32⟩
  | 119 => ⟨S4x8x8x1x128, .f32⟩
  | 120 => ⟨S4x8x8x1x128, .f32⟩
  | 121 => ⟨S4x8x8x1x128, .f32⟩
  | 122 => ⟨S4x8x128x8x1, .f32⟩
  | 123 => ⟨S4x1024x8x64, .f32⟩
  | 124 => ⟨S4x1024x8, .f32⟩
  | 125 => ⟨S4x8x128x8x1, .f32⟩
  | 126 => ⟨S4x8x128x8x1x64, .f32⟩
  | 127 => ⟨S4x8x8x1x128, .f32⟩
  | _ => ⟨S4096x512, .f32⟩

abbrev hbmTy0_1 (i : Nat) : BufTy := match i % 128 with
  | 0 => ⟨S4x8x8x1x128, .f32⟩
  | 1 => ⟨S4x8x8x1x128x1, .f32⟩
  | 2 => ⟨S4x8x128x8x1x64, .f32⟩
  | 3 => ⟨S4x8x128x8x1x64, .f32⟩
  | 4 => ⟨S4x8x128x8x1x64, .f32⟩
  | 5 => ⟨S_, .f32⟩
  | 6 => ⟨S4x8x128x8x1, .f32⟩
  | 7 => ⟨S4x8x128x8x1x1, .f32⟩
  | 8 => ⟨S4x8x128x8x1x1, .f32⟩
  | 9 => ⟨S4x8x128x8x1x64, .f32⟩
  | 10 => ⟨S4x8x128x8x1x64, .f32⟩
  | 11 => ⟨S_, .f32⟩
  | 12 => ⟨S4x8x128x8, .f32⟩
  | 13 => ⟨S4x8x128x8x1, .f32⟩
  | 14 => ⟨S4x8x8x1x128, .f32⟩
  | 15 => ⟨S4x8x8x1x128, .f32⟩
  | 16 => ⟨S4x8x8x64x1x128, .f32⟩
  | 17 => ⟨S4x8x8x1x128x256, .f32⟩
  | 18 => ⟨S4x8x8x64x256, .f32⟩
  | 19 => ⟨S4x8x256x8x64, .f32⟩
  | 20 => ⟨S4x8x8x1x128x256, .f32⟩
  | 21 => ⟨S4x8x8x1x128x256, .f32⟩
  | 22 => ⟨S4x8x8x1x128x256, .f32⟩
  | 23 => ⟨S4x8x8x1x128x256, .f32⟩
  | 24 => ⟨S_, .f32⟩
  | 25 => ⟨S4x8x8x1x128, .f32⟩
  | 26 => ⟨S4x8x8x1x128x1, .f32⟩
  | 27 => ⟨S4x8x8x1x128x1, .f32⟩
  | 28 => ⟨S_, .f32⟩
  | 29 => ⟨S4x8x8x128, .f32⟩
  | 30 => ⟨S4x8x8x1x128, .f32⟩
  | 31 => ⟨S4x8x8x1x128, .f32⟩
  | 32 => ⟨S4x8x8x1x128x256, .f32⟩
  | 33 => ⟨S4x8x8x1x128x256, .f32⟩
  | 34 => ⟨S4x8x8x1x128x256, .f32⟩
  | 35 => ⟨S_, .f32⟩
  | 36 => ⟨S4x8x8x1x128x256, .f32⟩
  | 37 => ⟨S4x8x8x1x128x256, .f32⟩
  | 38 => ⟨S_, .f32⟩
  | 39 => ⟨S4x8x8x1x128x256, .f32⟩
  | 40 => ⟨S4x8x8x1x128x256, .f32⟩
  | 41 => ⟨S4x8x8x256x128x1, .f32⟩
  | 42 => ⟨S4x8x8x128x1x64, .f32⟩
  | 43 => ⟨S4x8x128x8x1x64, .f32⟩
  | 44 => ⟨S4x8x8x256x64, .f32⟩
  | 45 => ⟨S4x8x256x8x64, .f32⟩
  | 46 => ⟨S4x8x128x8x64, .f32⟩
  | 47 => ⟨S4x8x128x8x64, .f32⟩
  | 48 => ⟨S4x1x128x8x64, .f32⟩
  | 49 => ⟨S4x7x128x8x64, .f32⟩
  | 50 => ⟨S_, .f32⟩
  | 51 => ⟨S4x8x128x8x64, .f32⟩
  | 52 => ⟨S4x8x128x8x64, .f32⟩
  | 53 => ⟨S4x1024x8x64, .f32⟩
  | 54 => ⟨S4x8x128x8x64, .f32⟩
  | 55 => ⟨S4x8x128x8x64, .f32⟩
  | 56 => ⟨S4x1x128x8x64, .f32⟩
  | 57 => ⟨S4x7x128x8x64, .f32⟩
  | 58 => ⟨S_, .f32⟩
  | 59 => ⟨S4x8x128x8x64, .f32⟩
  | 60 => ⟨S4x8x128x8x64, .f32⟩
  | 61 => ⟨S4x1024x8x64, .f32⟩
  | 62 => ⟨S4x1024x8x64, .f32⟩
  | 63 => ⟨S4x1024x8x64, .bf16⟩
  | 64 => ⟨S4096x512, .bf16⟩
  | 65 => ⟨S4x1024x8x64, .bf16⟩
  | 66 => ⟨S4096x512, .bf16⟩
  | 67 => ⟨S4x1024x8x64, .bf16⟩
  | 68 => ⟨S4096x512, .bf16⟩
  | _ => ⟨S4096x512, .f32⟩

abbrev hbmTy (i : Nat) : BufTy := match i / 128 with
  | 0 => hbmTy0_0 i
  | 1 => hbmTy0_1 i
  | _ => ⟨S4096x512, .f32⟩

abbrev bufTy : (tb : Table) → Fin (tcTables nBuf tb) → BufTy
  | .hbm, ⟨i, _⟩ => hbmTy i
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_0 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_1 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_cst_2 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_4 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_c_5 : Ref sig .tc := ⟨.hbm, 63, rfl⟩
abbrev main_v51 : Ref sig .tc := ⟨.hbm, 64, rfl⟩
abbrev main_v52 : Ref sig .tc := ⟨.hbm, 65, rfl⟩
abbrev main_c_6 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_c_7 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_c_8 : Ref sig .tc := ⟨.hbm, 77, rfl⟩
abbrev main_v62 : Ref sig .tc := ⟨.hbm, 78, rfl⟩
abbrev main_v63 : Ref sig .tc := ⟨.hbm, 79, rfl⟩
abbrev main_c_9 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_cst_10 : Ref sig .tc := ⟨.hbm, 88, rfl⟩
abbrev main_call0_v0 : Ref sig .tc := ⟨.hbm, 89, rfl⟩
abbrev main_v71_1 : Ref sig .tc := ⟨.hbm, 90, rfl⟩
abbrev main_call0_v2 : Ref sig .tc := ⟨.hbm, 91, rfl⟩
abbrev main_v71_0 : Ref sig .tc := ⟨.hbm, 92, rfl⟩
abbrev main_call0_cst : Ref sig .tc := ⟨.hbm, 93, rfl⟩
abbrev main_v71_2 : Ref sig .tc := ⟨.hbm, 94, rfl⟩
abbrev main_cst_11 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_cst_13 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_cst_14 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_15 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_cst_16 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_cst_17 : Ref sig .tc := ⟨.hbm, 152, rfl⟩
abbrev main_v123 : Ref sig .tc := ⟨.hbm, 153, rfl⟩
abbrev main_v124 : Ref sig .tc := ⟨.hbm, 154, rfl⟩
abbrev main_v125 : Ref sig .tc := ⟨.hbm, 155, rfl⟩
abbrev main_cst_18 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_call1_cst : Ref sig .tc := ⟨.hbm, 163, rfl⟩
abbrev main_call1_v0 : Ref sig .tc := ⟨.hbm, 164, rfl⟩
abbrev main_v132 : Ref sig .tc := ⟨.hbm, 165, rfl⟩
abbrev main_cst_19 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_cst_20 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_cst_21 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩

abbrev nD : Nat := 1
abbrev τ : Topo := Topo.v7x

variable {F : FTy → Type} [FloatOps F]
-- ==== Kernel2.lean ====
abbrev S4096x2048 : Shape := ⟨2, ![4096, 2048]⟩
abbrev S5632x2048 : Shape := ⟨2, ![5632, 2048]⟩
abbrev S4096x5632 : Shape := ⟨2, ![4096, 5632]⟩
abbrev S1024x2048 : Shape := ⟨2, ![1024, 2048]⟩
abbrev S512x2048 : Shape := ⟨2, ![512, 2048]⟩
abbrev S1024x512 : Shape := ⟨2, ![1024, 512]⟩

abbrev nBuf : Space → Nat
  | .hbm => 6
  | .vmem => 12
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .hbm, ⟨5, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S512x2048, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S4096x2048 : Shape := ⟨2, ![4096, 2048]⟩
abbrev S5632x2048 : Shape := ⟨2, ![5632, 2048]⟩
abbrev S4096x5632 : Shape := ⟨2, ![4096, 5632]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S5632x2048, .bf16⟩
  | .hbm, ⟨2, _⟩ => ⟨S4096x5632, .bf16⟩
  | .hbm, ⟨3, _⟩ => ⟨S4096x5632, .bf16⟩
  | .hbm, ⟨4, _⟩ => ⟨S4096x5632, .f32⟩
  | .hbm, ⟨5, _⟩ => ⟨S4096x5632, .f32⟩
  | .hbm, ⟨6, _⟩ => ⟨S4096x5632, .f32⟩
  | .hbm, ⟨7, _⟩ => ⟨S4096x5632, .f32⟩
  | .hbm, ⟨8, _⟩ => ⟨S_, .f32⟩
  | .hbm, ⟨9, _⟩ => ⟨S4096x5632, .f32⟩
  | .hbm, ⟨10, _⟩ => ⟨S4096x5632, .f32⟩
  | .hbm, ⟨11, _⟩ => ⟨S_, .f32⟩
  | .hbm, ⟨12, _⟩ => ⟨S4096x5632, .f32⟩
  | .hbm, ⟨13, _⟩ => ⟨S4096x5632, .f32⟩
  | .hbm, ⟨14, _⟩ => ⟨S_, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .f32⟩
  | .hbm, ⟨19, _⟩ => ⟨S4096x5632, .f32⟩
  | .hbm, ⟨20, _⟩ => ⟨S5632x2048, .f32⟩
  | .hbm, ⟨21, _⟩ => ⟨S4096x2048, .f32⟩
  | .hbm, ⟨22, _⟩ => ⟨S4096x2048, .f32⟩
  | .hbm, ⟨23, _⟩ => ⟨S4096x5632, .f32⟩
  | .hbm, ⟨24, _⟩ => ⟨S4096x5632, .f32⟩
  | .hbm, ⟨25, _⟩ => ⟨S4096x5632, .f32⟩
  | .hbm, ⟨26, _⟩ => ⟨S4096x5632, .f32⟩
  | .hbm, ⟨27, _⟩ => ⟨S4096x5632, .f32⟩
  | .hbm, ⟨28, _⟩ => ⟨S4096x5632, .f32⟩
  | .hbm, ⟨29, _⟩ => ⟨S4096x5632, .f32⟩
  | .hbm, ⟨30, _⟩ => ⟨S4096x5632, .bf16⟩
  | .hbm, ⟨31, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel3.lean ====
abbrev S4096x2048 : Shape := ⟨2, ![4096, 2048]⟩
abbrev S4096x5632 : Shape := ⟨2, ![4096, 5632]⟩
abbrev S2048x5632 : Shape := ⟨2, ![2048, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x2048 : Shape := ⟨2, ![4096, 2048]⟩
abbrev S4096x5632 : Shape := ⟨2, ![4096, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x5632, .bf16⟩
  | .hbm, ⟨2, _⟩ => ⟨S_, .f32⟩
  | .hbm, ⟨3, _⟩ => ⟨S2048x5632, .f32⟩
  | .hbm, ⟨4, _⟩ => ⟨S4096x2048, .f32⟩
  | .hbm, ⟨5, _⟩ => ⟨S4096x5632, .f32⟩
  | .hbm, ⟨6, _⟩ => ⟨S4096x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel4.lean ====
abbrev S4096x5632 : Shape := ⟨2, ![4096, 5632]⟩
abbrev S4096x2048 : Shape := ⟨2, ![4096, 2048]⟩
abbrev S5632x2048 : Shape := ⟨2, ![5632, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S5632x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![11, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x5632 : Shape := ⟨2, ![4096, 5632]⟩
abbrev S4096x2048 : Shape := ⟨2, ![4096, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x2048, .bf16⟩
  | .hbm, ⟨2, _⟩ => ⟨S_, .f32⟩
  | .hbm, ⟨3, _⟩ => ⟨S5632x2048, .f32⟩
  | .hbm, ⟨4, _⟩ => ⟨S4096x5632, .f32⟩
  | .hbm, ⟨5, _⟩ => ⟨S4096x2048, .f32⟩
  | .hbm, ⟨6, _⟩ => ⟨S4096x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference5Ideal.lean ====
abbrev S4096x5632 : Shape := ⟨2, ![4096, 5632]⟩
abbrev S2048x5632 : Shape := ⟨2, ![2048, 5632]⟩
abbrev S4096x2048 : Shape := ⟨2, ![4096, 2048]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S2048x5632, .f32⟩
  | .hbm, ⟨6, _⟩ => ⟨S4096x5632, .f32⟩
  | .hbm, ⟨7, _⟩ => ⟨S4096x5632, .f32⟩
  | .hbm, ⟨8, _⟩ => ⟨S4096x2048, .f32⟩
  | .hbm, ⟨9, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel6.lean ====
abbrev S4096x5632 : Shape := ⟨2, ![4096, 5632]⟩
abbrev S2048x5632 : Shape := ⟨2, ![2048, 5632]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4096x5632 : Shape := ⟨2, ![4096, 5632]⟩
abbrev S2048x5632 : Shape := ⟨2, ![2048, 5632]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S2048x5632, .bf16⟩
  | .hbm, ⟨2, _⟩ => ⟨S_, .f32⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .f32⟩
  | .hbm, ⟨7, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel7.lean ====
abbrev S4096x2048 : Shape := ⟨2, ![4096, 2048]⟩
abbrev S4096x12672 : Shape := ⟨2, ![4096, 12672]⟩
abbrev S2048x12672 : Shape := ⟨2, ![2048, 12672]⟩
abbrev S2048x1024 : Shape := ⟨2, ![2048, 1024]⟩
abbrev S2048x1152 : Shape := ⟨2, ![2048, 1152]⟩
abbrev S1024x1152 : Shape := ⟨2, ![1024, 1152]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x12672, .bf16⟩
  | .hbm, ⟨2, _⟩ => ⟨S2048x12672, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1152, .bf16⟩
  | .local _ .vmem, ⟨3, _⟩ => ⟨S2048x1152, .bf16⟩
  | .local _ .vmem, ⟨4, _⟩ => ⟨S1024x1152, .bf16⟩
  | .local _ .vmem, ⟨5, _⟩ => ⟨S1024x1152, .bf16⟩
  | .local _ .vmem, ⟨6, _⟩ => ⟨S1024x1152, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 11, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4096x2048 : Shape := ⟨2, ![4096, 2048]⟩
abbrev S4096x12672 : Shape := ⟨2, ![4096, 12672]⟩
abbrev S_ : Shape := ⟨0, ![]⟩
abbrev S2048x12672 : Shape := ⟨2, ![2048, 12672]⟩
abbrev S12672x2048 : Shape := ⟨2, ![12672, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x12672, .bf16⟩
  | .hbm, ⟨2, _⟩ => ⟨S_, .f32⟩
  | .hbm, ⟨3, _⟩ => ⟨S2048x12672, .f32⟩
  | .hbm, ⟨4, _⟩ => ⟨S4096x2048, .f32⟩
  | .hbm, ⟨5, _⟩ => ⟨S4096x12672, .f32⟩
  | .hbm, ⟨6, _⟩ => ⟨S4096x12672, .f32⟩
  | .hbm, ⟨7, _⟩ => ⟨S12672x2048, .f32⟩
  | .hbm, ⟨8, _⟩ => ⟨S2048x12672, .f32⟩
  | .hbm, ⟨9, _⟩ => ⟨S2048x12672, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x12672 : Shape := ⟨2, ![4096, 12672]⟩
abbrev S2048x12672 : Shape := ⟨2, ![2048, 12672]⟩
abbrev S4096x2048 : Shape := ⟨2, ![4096, 2048]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x12672, .bf16⟩
  | .hbm, ⟨1, _⟩ => ⟨S2048x12672, .bf16⟩
  | .hbm, ⟨2, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x12672, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 9], ![false, false, false]⟩

def k0_cond3 (i : grid0.Coords) : BitVec 1 :=
  let arg2 : BitVec 32 := BitVec.ofNat 32 (i 2).val
  let c8_i32_6 : BitVec 32 := 8#32
  let v11 : BitVec 1 := Scalar.cmpi .eq arg2 c8_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4096x12672 : Shape := ⟨2, ![4096, 12672]⟩
abbrev S2048x12672 : Shape := ⟨2, ![2048, 12672]⟩
abbrev S_ : Shape := ⟨0, ![]⟩
abbrev S4096x2048 : Shape := ⟨2, ![4096, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x12672, .bf16⟩
  | .hbm, ⟨1, _⟩ => ⟨S2048x12672, .bf16⟩
  | .hbm, ⟨2, _⟩ => ⟨S_, .f32⟩
  | .hbm, ⟨3, _⟩ => ⟨S4096x2048, .f32⟩
  | .hbm, ⟨4, _⟩ => ⟨S2048x12672, .f32⟩
  | .hbm, ⟨5, _⟩ => ⟨S4096x12672, .f32⟩
  | .hbm, ⟨6, _⟩ => ⟨S4096x12672, .f32⟩
  | .hbm, ⟨7, _⟩ => ⟨S4096x2048, .f32⟩
  | _, _ => ⟨S4096x12672, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel9.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .f32⟩
  | .local _ .vmem, ⟨5, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4096x2048 : Shape := ⟨2, ![4096, 2048]⟩
abbrev S2048x2048 : Shape := ⟨2, ![2048, 2048]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S_, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel10.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4096x2048 : Shape := ⟨2, ![4096, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x2048, .bf16⟩
  | .hbm, ⟨2, _⟩ => ⟨S_, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel11.lean ====
abbrev S4096x2048 : Shape := ⟨2, ![4096, 2048]⟩
abbrev S512x2048 : Shape := ⟨2, ![512, 2048]⟩
abbrev S4096x512 : Shape := ⟨2, ![4096, 512]⟩
abbrev S1024x2048 : Shape := ⟨2, ![1024, 2048]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S4096x512, .f32⟩
  | .local _ .vmem, ⟨0, _⟩ => ⟨S1024x2048, .bf16⟩
  | .local _ .vmem, ⟨1, _⟩ => ⟨S1024x2048, .bf16⟩
  | .local _ .vmem, ⟨2, _⟩ => ⟨S512x2048, .bf16⟩
  | .local _ .vmem, ⟨3, _⟩ => ⟨S1024x512, .f32⟩
  | .local _ .vmem, ⟨4, _⟩ => ⟨S1024x512, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x2048 : Shape := ⟨2, ![4096, 2048]⟩
abbrev S512x2048 : Shape := ⟨2, ![512, 2048]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S512x2048, .bf16⟩
  | .hbm, ⟨2, _⟩ => ⟨S_, .f32⟩
  | .hbm, ⟨3, _⟩ => ⟨S4096x512, .f32⟩
  | .hbm, ⟨4, _⟩ => ⟨S512x2048, .f32⟩
  | .hbm, ⟨5, _⟩ => ⟨S4096x2048, .f32⟩
  | .hbm, ⟨6, _⟩ => ⟨S4096x2048, .f32⟩
  | .hbm, ⟨7, _⟩ => ⟨S4096x512, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S4096x512 : Shape := ⟨2, ![4096, 512]⟩
abbrev S4096x2048 : Shape := ⟨2, ![4096, 2048]⟩
abbrev S512x2048 : Shape := ⟨2, ![512, 2048]⟩
abbrev S2048x512 : Shape := ⟨2, ![2048, 512]⟩
abbrev S2048x1024 : Shape := ⟨2, ![2048, 1024]⟩
abbrev S512x1024 : Shape := ⟨2, ![512, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S512x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4096x512 : Shape := ⟨2, ![4096, 512]⟩
abbrev S4096x2048 : Shape := ⟨2, ![4096, 2048]⟩
abbrev S_ : Shape := ⟨0, ![]⟩
abbrev S512x2048 : Shape := ⟨2, ![512, 2048]⟩
abbrev S2048x512 : Shape := ⟨2, ![2048, 512]⟩

abbrev nBuf : Space → Nat
  | .hbm => 10
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x2048, .bf16⟩
  | .hbm, ⟨2, _⟩ => ⟨S_, .f32⟩
  | .hbm, ⟨3, _⟩ => ⟨S512x2048, .f32⟩
  | .hbm, ⟨4, _⟩ => ⟨S4096x512, .f32⟩
  | .hbm, ⟨5, _⟩ => ⟨S4096x2048, .f32⟩
  | .hbm, ⟨6, _⟩ => ⟨S4096x2048, .f32⟩
  | .hbm, ⟨7, _⟩ => ⟨S2048x512, .f32⟩
  | .hbm, ⟨8, _⟩ => ⟨S512x2048, .f32⟩
  | .hbm, ⟨9, _⟩ => ⟨S512x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel13.lean ====
abbrev S4096x12672 : Shape := ⟨2, ![4096, 12672]⟩
abbrev S4096x2048 : Shape := ⟨2, ![4096, 2048]⟩
abbrev S4x4096x2048 : Shape := ⟨3, ![4, 4096, 2048]⟩
abbrev S512x512 : Shape := ⟨2, ![512, 512]⟩
abbrev S4x512x512 : Shape := ⟨3, ![4, 512, 512]⟩
abbrev S1x512x512 : Shape := ⟨3, ![1, 512, 512]⟩

abbrev nBuf : Space → Nat
  | .hbm => 11
  | .vmem => 28
  | .smem => 0
  | _ => 0

abbrev bufTy : (tb : Table) → Fin (tcTables nBuf tb) → BufTy
  | .hbm, ⟨0, _⟩ => ⟨S4096x12672, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .bf16⟩
  | .hbm, ⟨7, _⟩ => ⟨S4096x2048, .bf16⟩
  | .hbm, ⟨8, _⟩ => ⟨S4096x2048, .bf16⟩
  | .hbm, ⟨9, _⟩ => ⟨S4096x2048, .bf16⟩
  | .hbm, ⟨10, _⟩ => ⟨S4x4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .f32⟩
  | .local _ .vmem, ⟨17, _⟩ => ⟨S512x512, .f32⟩
  | .local _ .vmem, ⟨18, _⟩ => ⟨S512x512, .bf16⟩
  | .local _ .vmem, ⟨19, _⟩ => ⟨S512x512, .bf16⟩
  | .local _ .vmem, ⟨20, _⟩ => ⟨S512x512, .bf16⟩
  | .local _ .vmem, ⟨21, _⟩ => ⟨S512x512, .bf16⟩
  | .local _ .vmem, ⟨22, _⟩ => ⟨S512x512, .bf16⟩
  | .local _ .vmem, ⟨23, _⟩ => ⟨S512x512, .bf16⟩
  | .local _ .vmem, ⟨24, _⟩ => ⟨S512x512, .bf16⟩
  | .local _ .vmem, ⟨25, _⟩ => ⟨S512x512, .bf16⟩
  | .local _ .vmem, ⟨26, _⟩ => ⟨S4x512x512, .bf16⟩
  | .local _ .vmem, ⟨27, _⟩ => ⟨S4x512x512, .bf16⟩
  | _, _ => ⟨S4096x12672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S4x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Reference13Ideal.lean ====
abbrev S4096x12672 : Shape := ⟨2, ![4096, 12672]⟩
abbrev S4096x2048 : Shape := ⟨2, ![4096, 2048]⟩
abbrev S4096x8192 : Shape := ⟨2, ![4096, 8192]⟩
abbrev S4096x4x2048 : Shape := ⟨3, ![4096, 4, 2048]⟩
abbrev S4096x1x2048 : Shape := ⟨3, ![4096, 1, 2048]⟩
abbrev S_ : Shape := ⟨0, ![]⟩
abbrev S4x4096x2048 : Shape := ⟨3, ![4, 4096, 2048]⟩

abbrev nBuf : Space → Nat
  | .hbm => 113
  | .vmem => 0
  | .smem => 0
  | _ => 0

abbrev bufTy : (tb : Table) → Fin (tcTables nBuf tb) → BufTy
  | .hbm, ⟨0, _⟩ => ⟨S4096x12672, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x8192, .f32⟩
  | .hbm, ⟨11, _⟩ => ⟨S4096x4x2048, .f32⟩
  | .hbm, ⟨12, _⟩ => ⟨S4096x1x2048, .f32⟩
  | .hbm, ⟨13, _⟩ => ⟨S4096x2048, .f32⟩
  | .hbm, ⟨14, _⟩ => ⟨S4096x2048, .f32⟩
  | .hbm, ⟨15, _⟩ => ⟨S4096x2048, .f32⟩
  | .hbm, ⟨16, _⟩ => ⟨S_, .f32⟩
  | .hbm, ⟨17, _⟩ => ⟨S4096x2048, .f32⟩
  | .hbm, ⟨18, _⟩ => ⟨S4096x2048, .f32⟩
  | .hbm, ⟨19, _⟩ => ⟨S_, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S4096x2048, .f32⟩
  | .hbm, ⟨29, _⟩ => ⟨S4096x2048, .f32⟩
  | .hbm, ⟨30, _⟩ => ⟨S4096x1x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S_, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S_, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x1x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S4096x2048, .f32⟩
  | .hbm, ⟨71, _⟩ => ⟨S4096x2048, .f32⟩
  | .hbm, ⟨72, _⟩ => ⟨S_, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S4096x2048, .f32⟩
  | .hbm, ⟨81, _⟩ => ⟨S4096x2048, .f32⟩
  | .hbm, ⟨82, _⟩ => ⟨S4096x2048, .f32⟩
  | .hbm, ⟨83, _⟩ => ⟨S4096x1x2048, .f32⟩
  | .hbm, ⟨84, _⟩ => ⟨S_, .f32⟩
  | .hbm, ⟨85, _⟩ => ⟨S4096x4x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S4096x1x2048, .f32⟩
  | .hbm, ⟨90, _⟩ => ⟨S_, .f32⟩
  | .hbm, ⟨91, _⟩ => ⟨S4096x4x2048, .f32⟩
  | .hbm, ⟨92, _⟩ => ⟨S4096x4x2048, .f32⟩
  | .hbm, ⟨93, _⟩ => ⟨S4096x2048, .f32⟩
  | .hbm, ⟨94, _⟩ => ⟨S4096x2048, .f32⟩
  | .hbm, ⟨95, _⟩ => ⟨S4096x2048, .f32⟩
  | .hbm, ⟨96, _⟩ => ⟨S4096x1x2048, .f32⟩
  | .hbm, ⟨97, _⟩ => ⟨S_, .f32⟩
  | .hbm, ⟨98, _⟩ => ⟨S4096x4x2048, .f32⟩
  | .hbm, ⟨99, _⟩ => ⟨S4096x4x2048, .f32⟩
  | .hbm, ⟨100, _⟩ => ⟨S4096x2048, .f32⟩
  | .hbm, ⟨101, _⟩ => ⟨S4096x2048, .f32⟩
  | .hbm, ⟨102, _⟩ => ⟨S4096x2048, .f32⟩
  | .hbm, ⟨103, _⟩ => ⟨S4096x1x2048, .f32⟩
  | .hbm, ⟨104, _⟩ => ⟨S_, .f32⟩
  | .hbm, ⟨105, _⟩ => ⟨S4096x4x2048, .f32⟩
  | .hbm, ⟨106, _⟩ => ⟨S4096x4x2048, .f32⟩
  | .hbm, ⟨107, _⟩ => ⟨S4096x2048, .bf16⟩
  | .hbm, ⟨108, _⟩ => ⟨S4096x2048, .bf16⟩
  | .hbm, ⟨109, _⟩ => ⟨S4096x2048, .bf16⟩
  | .hbm, ⟨110, _⟩ => ⟨S4096x2048, .bf16⟩
  | .hbm, ⟨111, _⟩ => ⟨S4x4096x2048, .f32⟩
  | .hbm, ⟨112, _⟩ => ⟨S4x4096x2048, .bf16⟩
  | _, _ => ⟨S4096x12672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_3 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_6 : Ref sig .tc := ⟨.hbm, 50, rfl⟩
abbrev main_v37 : Ref sig .tc := ⟨.hbm, 51, rfl⟩
abbrev main_v38 : Ref sig .tc := ⟨.hbm, 52, rfl⟩
abbrev main_cst_7 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_cst_11 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_cst_12 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_cst_15 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩

abbrev nD : Nat := 1
abbrev τ : Topo := Topo.v7x

variable {F : FTy → Type} [FloatOps F]
-- ==== Kernel14.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 7
  | .vmem => 12
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference14Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .bf16⟩
  | .hbm, ⟨53, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Kernel15.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S4096x2048 : Shape := ⟨2, ![4096, 2048]⟩
abbrev S2048x5632 : Shape := ⟨2, ![2048, 5632]⟩
abbrev S4096x5632 : Shape := ⟨2, ![4096, 5632]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x2048, .f32⟩
  | .hbm, ⟨3, _⟩ => ⟨S2048x5632, .f32⟩
  | .hbm, ⟨4, _⟩ => ⟨S4096x5632, .f32⟩
  | .hbm, ⟨5, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel16.lean ====
abbrev S4096x2048 : Shape := ⟨2, ![4096, 2048]⟩
abbrev S2048x5632 : Shape := ⟨2, ![2048, 5632]⟩
abbrev S4096x5632 : Shape := ⟨2, ![4096, 5632]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 5
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x5632, .bf16⟩
  | .hbm, ⟨3, _⟩ => ⟨S4096x5632, .bf16⟩
  | .hbm, ⟨4, _⟩ => ⟨S4096x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![4, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference16Ideal.lean ====
abbrev S4096x2048 : Shape := ⟨2, ![4096, 2048]⟩
abbrev S2048x5632 : Shape := ⟨2, ![2048, 5632]⟩
abbrev S4096x5632 : Shape := ⟨2, ![4096, 5632]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x5632, .bf16⟩
  | .hbm, ⟨2, _⟩ => ⟨S4096x5632, .bf16⟩
  | .hbm, ⟨3, _⟩ => ⟨S4096x2048, .f32⟩
  | .hbm, ⟨4, _⟩ => ⟨S2048x5632, .f32⟩
  | .hbm, ⟨5, _⟩ => ⟨S4096x5632, .f32⟩
  | .hbm, ⟨6, _⟩ => ⟨S4096x5632, .bf16⟩
  | .hbm, ⟨7, _⟩ => ⟨S4096x5632, .f32⟩
  | .hbm, ⟨8, _⟩ => ⟨S4096x5632, .f32⟩
  | .hbm, ⟨9, _⟩ => ⟨S4096x5632, .f32⟩
  | .hbm, ⟨10, _⟩ => ⟨S_, .f32⟩
  | .hbm, ⟨11, _⟩ => ⟨S4096x5632, .f32⟩
  | .hbm, ⟨12, _⟩ => ⟨S4096x5632, .f32⟩
  | .hbm, ⟨13, _⟩ => ⟨S_, .f32⟩
  | .hbm, ⟨14, _⟩ => ⟨S4096x5632, .f32⟩
  | .hbm, ⟨15, _⟩ => ⟨S4096x5632, .f32⟩
  | .hbm, ⟨16, _⟩ => ⟨S4096x5632, .f32⟩
  | .hbm, ⟨17, _⟩ => ⟨S4096x5632, .f32⟩
  | .hbm, ⟨18, _⟩ => ⟨S4096x5632, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== Kernel17.lean ====
abbrev S4096x5632 : Shape := ⟨2, ![4096, 5632]⟩
abbrev S5632x2048 : Shape := ⟨2, ![5632, 2048]⟩
abbrev S4096x2048 : Shape := ⟨2, ![4096, 2048]⟩
abbrev S1024x1408 : Shape := ⟨2, ![1024, 1408]⟩
abbrev S1408x1024 : Shape := ⟨2, ![1408, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x2048, .f32⟩
  | .local _ .vmem, ⟨0, _⟩ => ⟨S1024x1408, .bf16⟩
  | .local _ .vmem, ⟨1, _⟩ => ⟨S1024x1408, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_6 : BitVec 32 := 3#32
  let v11 : BitVec 1 := Scalar.cmpi .eq arg2 c3_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference17Ideal.lean ====
abbrev S4096x5632 : Shape := ⟨2, ![4096, 5632]⟩
abbrev S5632x2048 : Shape := ⟨2, ![5632, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x2048, .bf16⟩
  | .hbm, ⟨2, _⟩ => ⟨S4096x2048, .f32⟩
  | .hbm, ⟨3, _⟩ => ⟨S4096x5632, .f32⟩
  | .hbm, ⟨4, _⟩ => ⟨S5632x2048, .f32⟩
  | .hbm, ⟨5, _⟩ => ⟨S4096x2048, .f32⟩
  | .hbm, ⟨6, _⟩ => ⟨S4096x2048, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference18Ideal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel19.lean ====
abbrev S4096x512 : Shape := ⟨2, ![4096, 512]⟩
abbrev S512x2048 : Shape := ⟨2, ![512, 2048]⟩
abbrev S4096x2048 : Shape := ⟨2, ![4096, 2048]⟩
abbrev S1024x512 : Shape := ⟨2, ![1024, 512]⟩
abbrev S512x1024 : Shape := ⟨2, ![512, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x2048, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .bf16⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S4096x512 : Shape := ⟨2, ![4096, 512]⟩
abbrev S512x2048 : Shape := ⟨2, ![512, 2048]⟩
abbrev S4096x2048 : Shape := ⟨2, ![4096, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x2048, .bf16⟩
  | .hbm, ⟨2, _⟩ => ⟨S4096x512, .f32⟩
  | .hbm, ⟨3, _⟩ => ⟨S512x2048, .f32⟩
  | .hbm, ⟨4, _⟩ => ⟨S4096x2048, .f32⟩
  | .hbm, ⟨5, _⟩ => ⟨S4096x2048, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel20.lean ====
abbrev S4096x12672 : Shape := ⟨2, ![4096, 12672]⟩
abbrev S4096x2048 : Shape := ⟨2, ![4096, 2048]⟩
abbrev S512x512 : Shape := ⟨2, ![512, 512]⟩

abbrev nBuf : Space → Nat
  | .hbm => 6
  | .vmem => 18
  | .smem => 0
  | _ => 0

abbrev bufTy : (tb : Table) → Fin (tcTables nBuf tb) → BufTy
  | .hbm, ⟨0, _⟩ => ⟨S4096x12672, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x2048, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x512, .bf16⟩
  | .local _ .vmem, ⟨17, _⟩ => ⟨S512x512, .bf16⟩
  | _, _ => ⟨S4096x12672, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference20Ideal.lean ====
abbrev S4096x12672 : Shape := ⟨2, ![4096, 12672]⟩
abbrev S4096x2048 : Shape := ⟨2, ![4096, 2048]⟩
abbrev S4096x8192 : Shape := ⟨2, ![4096, 8192]⟩
abbrev S4096x4x2048 : Shape := ⟨3, ![4096, 4, 2048]⟩
abbrev S4096x1x2048 : Shape := ⟨3, ![4096, 1, 2048]⟩
abbrev S_ : Shape := ⟨0, ![]⟩

abbrev nBuf : Space → Nat
  | .hbm => 62
  | .vmem => 0
  | .smem => 0
  | _ => 0

abbrev bufTy : (tb : Table) → Fin (tcTables nBuf tb) → BufTy
  | .hbm, ⟨0, _⟩ => ⟨S4096x12672, .f32⟩
  | .hbm, ⟨1, _⟩ => ⟨S4096x2048, .bf16⟩
  | .hbm, ⟨2, _⟩ => ⟨S4096x2048, .bf16⟩
  | .hbm, ⟨3, _⟩ => ⟨S4096x2048, .bf16⟩
  | .hbm, ⟨4, _⟩ => ⟨S4096x2048, .bf16⟩
  | .hbm, ⟨5, _⟩ => ⟨S4096x8192, .f32⟩
  | .hbm, ⟨6, _⟩ => ⟨S4096x4x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S4096x2048, .f32⟩
  | .hbm, ⟨11, _⟩ => ⟨S4096x1x2048, .f32⟩
  | .hbm, ⟨12, _⟩ => ⟨S4096x2048, .f32⟩
  | .hbm, ⟨13, _⟩ => ⟨S4096x2048, .f32⟩
  | .hbm, ⟨14, _⟩ => ⟨S4096x2048, .f32⟩
  | .hbm, ⟨15, _⟩ => ⟨S_, .f32⟩
  | .hbm, ⟨16, _⟩ => ⟨S4096x2048, .f32⟩
  | .hbm, ⟨17, _⟩ => ⟨S4096x2048, .f32⟩
  | .hbm, ⟨18, _⟩ => ⟨S_, .f32⟩
  | .hbm, ⟨19, _⟩ => ⟨S4096x2048, .f32⟩
  | .hbm, ⟨20, _⟩ => ⟨S4096x2048, .f32⟩
  | .hbm, ⟨21, _⟩ => ⟨S4096x2048, .f32⟩
  | .hbm, ⟨22, _⟩ => ⟨S_, .f32⟩
  | .hbm, ⟨23, _⟩ => ⟨S4096x2048, .f32⟩
  | .hbm, ⟨24, _⟩ => ⟨S4096x2048, .f32⟩
  | .hbm, ⟨25, _⟩ => ⟨S4096x1x2048, .f32⟩
  | .hbm, ⟨26, _⟩ => ⟨S4096x2048, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S4096x2048, .f32⟩
  | .hbm, ⟨37, _⟩ => ⟨S4096x1x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S_, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x1x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .bf16⟩
  | _, _ => ⟨S4096x12672, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel21.lean ====
abbrev S4096x2048 : Shape := ⟨2, ![4096, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .bf16⟩
  | .local _ .vmem, ⟨4, _⟩ => ⟨S256x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Proof.Body.lean ====
/-
  The idealized kernel's body at a grid point, and the launch: what each point leaves in the three output blocks and in
  the two scratch buffers that carry the previous block's gradient of k and v to the next point, the body's
  obligation over the generated runs of its two cases (the first grid point, and the others), and the run of @main.
-/
module

public import proofs.«01_k».proof.Proof.Gen.KernelIdeal.Frame.RunB
public import Idealize.ShloMosaic.Lib.Claim
public import Idealize.ShloMosaic.Lib.Pipeline.Value

@[expose] public section

set_option maxRecDepth 16384

noncomputable section

namespace Cert.Proof.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The body's run at the first point, at the point's staging buffers and input blocks. -/
abbrev runA (c : Dev nD) (t : Fin cfg0.N) (h : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h) (iblk m c 0 t) (iblk m c 1 t) (iblk m c 2 t) (iblk m c 3 t) (iblk m c 4 t) (iblk m c 5 t) (iblk m c 6 t)

/-- The same at any later point, over what the scratch buffers hold. -/
abbrev runB (c : Dev nD) (t : Fin cfg0.N) (h : ¬t.val % 32 = 0) (s0 s1 : Vec F S128x512 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h' => h ((hcond0_0 t).mp h')) (iblk m c 0 t) (iblk m c 1 t) (iblk m c 2 t) (iblk m c 3 t) (iblk m c 4 t) (iblk m c 5 t) (iblk m c 6 t) s0 s1

/-- What a point leaves: the blocks of the three gradients and the two carried buffers. -/
structure Left (F : FTy → Type) where
  dq : Vec F S128x512 .bf16
  dk : Vec F S128x512 .bf16
  dv : Vec F S128x512 .bf16
  ck : Vec F S128x512 .f32
  cv : Vec F S128x512 .f32

def leftA (c : Dev nD) (t : Fin cfg0.N) (h : t.val % 32 = 0) : Left F :=
  ⟨View.canon (runA m c t h).1, View.canon (runA m c t h).2.1, View.canon (runA m c t h).2.2.1,
    View.canon (runA m c t h).2.2.2.1, View.canon (runA m c t h).2.2.2.2.1⟩

def leftB (c : Dev nD) (t : Fin cfg0.N) (h : ¬t.val % 32 = 0) (s0 s1 : Vec F S128x512 .f32) : Left F :=
  ⟨View.canon (runB m c t h s0 s1).1, View.canon (runB m c t h s0 s1).2.1, View.canon (runB m c t h s0 s1).2.2.1,
    View.canon (runB m c t h s0 s1).2.2.2.1, View.canon (runB m c t h s0 s1).2.2.2.2.1⟩

/-- What point `n` leaves, over what the point before left. -/
def left (c : Dev nD) : (n : ℕ) → n < cfg0.N → Left F
  | 0, hn => leftA m c ⟨0, hn⟩ (Nat.zero_mod _)
  | n + 1, hn =>
    if h : (n + 1) % 32 = 0 then leftA m c ⟨n + 1, hn⟩ h
    else leftB m c ⟨n + 1, hn⟩ h (left c n (Nat.lt_of_succ_lt hn)).ck (left c n (Nat.lt_of_succ_lt hn)).cv

/-- What the point before `t` left. -/
abbrev prior (c : Dev nD) (t : Fin cfg0.N) : Left F := left m c (t.val - 1) (Nat.lt_of_le_of_lt (Nat.sub_le _ _) t.isLt)

theorem left_A (c : Dev nD) (t : Fin cfg0.N) (h : t.val % 32 = 0) : left m c t.val t.isLt = leftA m c t h := by
  obtain ⟨n, hn⟩ := t
  cases n with
  | zero => rfl
  | succ n => rw [left]; exact dif_pos h

theorem left_B (c : Dev nD) (t : Fin cfg0.N) (h : ¬t.val % 32 = 0) :
    left m c t.val t.isLt = leftB m c t h (prior m c t).ck (prior m c t).cv := by
  obtain ⟨n, hn⟩ := t
  cases n with
  | zero => exact absurd (Nat.zero_mod _) h
  | succ n => rw [left]; exact dif_neg h

/-! ## The pieces a point writes cover its blocks -/

theorem coverA_q (c : Dev nD) (t : Fin cfg0.N) (h : t.val % 32 = 0) (y : S128x512.Idx) :
    ∃ pc ∈ (runA m c t h).1, y ∈ pc.1.set :=
  View.cover_of_tiledL (runA m c t h).1 S128x64.size (by sl_kernel_rfl) y

theorem coverB_q (c : Dev nD) (t : Fin cfg0.N) (h : ¬t.val % 32 = 0) (s0 s1 : Vec F S128x512 .f32) (y : S128x512.Idx) :
    ∃ pc ∈ (runB m c t h s0 s1).1, y ∈ pc.1.set :=
  View.cover_of_tiledL (runB m c t h s0 s1).1 S128x64.size (by sl_kernel_rfl) y

theorem coverA_k (c : Dev nD) (t : Fin cfg0.N) (h : t.val % 32 = 0) (y : S128x512.Idx) :
    ∃ pc ∈ (runA m c t h).2.1, y ∈ pc.1.set :=
  View.cover_of_tiledL (runA m c t h).2.1 S128x64.size (by sl_kernel_rfl) y

theorem coverB_k (c : Dev nD) (t : Fin cfg0.N) (h : ¬t.val % 32 = 0) (s0 s1 : Vec F S128x512 .f32) (y : S128x512.Idx) :
    ∃ pc ∈ (runB m c t h s0 s1).2.1, y ∈ pc.1.set :=
  View.cover_of_tiledL (runB m c t h s0 s1).2.1 S128x64.size (by sl_kernel_rfl) y

theorem coverA_v (c : Dev nD) (t : Fin cfg0.N) (h : t.val % 32 = 0) (y : S128x512.Idx) :
    ∃ pc ∈ (runA m c t h).2.2.1, y ∈ pc.1.set :=
  View.cover_of_tiledL (runA m c t h).2.2.1 S128x64.size (by sl_kernel_rfl) y

theorem coverB_v (c : Dev nD) (t : Fin cfg0.N) (h : ¬t.val % 32 = 0) (s0 s1 : Vec F S128x512 .f32) (y : S128x512.Idx) :
    ∃ pc ∈ (runB m c t h s0 s1).2.2.1, y ∈ pc.1.set :=
  View.cover_of_tiledL (runB m c t h s0 s1).2.2.1 S128x64.size (by sl_kernel_rfl) y

theorem coverA_ck (c : Dev nD) (t : Fin cfg0.N) (h : t.val % 32 = 0) (y : S128x512.Idx) :
    ∃ pc ∈ (runA m c t h).2.2.2.1, y ∈ pc.1.set :=
  View.cover_of_tiledL (runA m c t h).2.2.2.1 S128x64.size (by sl_kernel_rfl) y

theorem coverB_ck (c : Dev nD) (t : Fin cfg0.N) (h : ¬t.val % 32 = 0) (s0 s1 : Vec F S128x512 .f32) (y : S128x512.Idx) :
    ∃ pc ∈ (runB m c t h s0 s1).2.2.2.1, y ∈ pc.1.set :=
  View.cover_of_tiledL (runB m c t h s0 s1).2.2.2.1 S128x64.size (by sl_kernel_rfl) y

theorem coverA_cv (c : Dev nD) (t : Fin cfg0.N) (h : t.val % 32 = 0) (y : S128x512.Idx) :
    ∃ pc ∈ (runA m c t h).2.2.2.2.1, y ∈ pc.1.set :=
  View.cover_of_tiledL (runA m c t h).2.2.2.2.1 S128x64.size (by sl_kernel_rfl) y

theorem coverB_cv (c : Dev nD) (t : Fin cfg0.N) (h : ¬t.val % 32 = 0) (s0 s1 : Vec F S128x512 .f32) (y : S128x512.Idx) :
    ∃ pc ∈ (runB m c t h s0 s1).2.2.2.2.1, y ∈ pc.1.set :=
  View.cover_of_tiledL (runB m c t h s0 s1).2.2.2.2.1 S128x64.size (by sl_kernel_rfl) y

/-! ## The pipeline's proof data -/

/-- Before the first point the scratch holds anything; before a later one, what the point before left. -/
def Phi (c : Dev nD) : (n : ℕ) → n ≤ cfg0.N → sProp 𝕄
  | 0, _ => Pipeline.ΦA spec0 c
  | n + 1, hn => iprop(iprop(owns (c : Thread nD τ) scM0_0 fullShare (left m c n hn).ck
      ∗ owns (c : Thread nD τ) scM0_1 fullShare (left m c n hn).cv) ∗ (∃ r, prngReg c r))

theorem Phi_zero (c : Dev nD) (n : ℕ) (h : n ≤ cfg0.N) (hz : n = 0) : Phi m c n h = Pipeline.ΦA spec0 c := by
  subst hz; rfl

theorem Phi_succ (c : Dev nD) (n : ℕ) (hn : n < cfg0.N) :
    Phi m c (n + 1) hn = iprop(iprop(owns (c : Thread nD τ) scM0_0 fullShare (left m c n hn).ck
      ∗ owns (c : Thread nD τ) scM0_1 fullShare (left m c n hn).cv) ∗ (∃ r, prngReg c r)) := rfl

theorem Phi_pos (c : Dev nD) (n : ℕ) (h : n ≤ cfg0.N) (hz : n ≠ 0) :
    Phi m c n h = iprop(iprop(owns (c : Thread nD τ) scM0_0 fullShare (left m c (n - 1) (by omega)).ck
      ∗ owns (c : Thread nD τ) scM0_1 fullShare (left m c (n - 1) (by omega)).cv) ∗ (∃ r, prngReg c r)) := by
  cases n with
  | zero => exact absurd rfl hz
  | succ n => rfl

/-- Each input's buffer holds its block at every point, each output's what `left` names; nothing is owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => (left m c t.val t.isLt).dq
    | ⟨8, _⟩ => (left m c t.val t.isLt).dk
    | ⟨9, _⟩ => (left m c t.val t.isLt).dv
  Φ t := Phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = Phi m c t.val (Nat.le_of_lt t.isLt) := by
  dsimp only [dats]; exact Pipeline.Dat.Φ_castSucc (Phi m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = (left m c t.val t.isLt).dq := by dsimp only [dats]
theorem after_8 (c : Dev nD) (t : Fin cfg0.N) : (dats m 0 c).after 8 t = (left m c t.val t.isLt).dk := by dsimp only [dats]
theorem after_9 (c : Dev nD) (t : Fin cfg0.N) : (dats m 0 c).after 9 t = (left m c t.val t.isLt).dv := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-! ## The body's obligation at a point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

/-- A buffer written piece by piece, the pieces covering it, is held at the pieces' canonical contents. -/
theorem owns_canon {S : Shape} {e : EltTy} (c : Dev nD) (M : Memref sig .tc .vmem S e) (L : List (View.Piece (Elt F) S e))
    (hL : ∀ y, ∃ pc ∈ L, y ∈ pc.1.set) (f : M.view.ty.Contents (Elt F)) :
    (M.view.loc (c : Thread nD τ) ↦[M.view.set]{fullShare} M.view.writes (Elt F) f L : sProp 𝕄)
      ⊢ owns (c : Thread nD τ) M fullShare (View.canon L) := by
  iintro H
  unfold owns; iexists _; isplitr
  swap; · iexact H
  ipureintro; exact View.read_writes_eq_canon _ _ _ hL

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).owesAt () t.succ = (dats m 0 c).owesAt () t.castSucc from rfl,
    after_0, after_1, after_2, after_3, after_4, after_5, after_6, after_7, after_8, after_9]
  rw [show (dats m 0 c).Φ t.succ = Phi m c (t.val + 1) t.isLt from rfl, Phi_succ]
  have hN : t.val < 32 := lt_of_lt_of_eq t.isLt (show cfg0.N = 32 from N_0)
  by_cases h : t.val % 32 = 0
  · have hz : t.val = 0 := by omega
    · rw [Phi_castSucc m c t, Phi_zero m c _ _ hz, PhiA0_eq]
      rw [left_A m c t h]
      unfold leftA; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runA m c t h).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hg]
      · isplitl [HS0 HS1]
        · isplitl [HS0]
          · iapply (owns_canon c _ _ (coverA_ck m c t h) _); iexact HS0
          iapply (owns_canon c _ _ (coverA_cv m c t h) _); iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (owns_canon c _ _ (coverA_q m c t h) _); iexact H7
      isplitl [H8]; · iapply (owns_canon c _ _ (coverA_k m c t h) _); iexact H8
      iapply (owns_canon c _ _ (coverA_v m c t h) _); iexact H9
  · have hz : t.val ≠ 0 := by omega
    · rw [Phi_castSucc m c t, Phi_pos m c _ _ hz]
      rw [left_B m c t h]
      unfold leftB; dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((runB m c t h _ _).2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [HS0]; · iexact HS0
      isplitl [HS1]; · iexact HS1
      iintro ⟨H0, H1, H2, H3, H4, H5, H6, ⟨%e7, H7⟩, ⟨%e8, H8⟩, ⟨%e9, H9⟩, ⟨%es0, HS0⟩, ⟨%es1, HS1⟩⟩
      isplitl [HS0 HS1 Hg]
      · isplitl [HS0 HS1]
        · isplitl [HS0]
          · iapply (owns_canon c _ _ (coverB_ck m c t h _ _) _); iexact HS0
          iapply (owns_canon c _ _ (coverB_cv m c t h _ _) _); iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iapply (owns_canon c _ _ (coverB_q m c t h _ _) _); iexact H7
      isplitl [H8]; · iapply (owns_canon c _ _ (coverB_k m c t h _ _) _); iexact H8
      iapply (owns_canon c _ _ (coverB_v m c t h _ _) _); iexact H9

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Phi m c 0 (Nat.zero_le _) from rfl, Phi_zero m c 0 _ rfl]
  try exact Idealize.SL.BI.Entails.refl _

theorem hout (c : Dev nD) : (dats m 0 c).Φ (Fin.last cfg0.N) ⊢ Pipeline.ΦA spec0 c := by
  have hN : cfg0.N = 32 := N_0
  rw [show (dats m 0 c).Φ (Fin.last cfg0.N) = Phi m c cfg0.N le_rfl from rfl, Phi_pos m c _ _ (by omega), PhiA0_eq]
  iintro ⟨⟨HS0, HS1⟩, Hg⟩
  isplitl [HS0 HS1]
  · isplitl [HS0]
    · iexists _; iexact HS0
    iexists _; iexact HS1
  iexact Hg

/-! ## The run -/

set_option backward.isDefEq.respectTransparency.types false in
/-- The launch's run: every array of the pipeline as the proof data compute it, every counter at zero. -/
theorem run_main : θ_run defs (onTc (τ := τ) (main (F := F))) (s₀ m ρ)
    (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The run with its three result arrays named and the arguments kept. -/
theorem run_named : θ_run defs (onTc (τ := τ) (main (F := F))) ⟨m, fun _ => 0, ρ⟩ fun r => (∀ c : Dev nD,
      r.2.mem ((c : Thread nD τ).loc main_v15_0) = (dats m 0 c).arrAt 7 cfg0.N
      ∧ r.2.mem ((c : Thread nD τ).loc main_v15_1) = (dats m 0 c).arrAt 8 cfg0.N
      ∧ r.2.mem ((c : Thread nD τ).loc main_v15_2) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r h => ⟨fun c => ⟨(h.1 c).1 7, (h.1 c).1 8, (h.1 c).1 9,
    ((h.1 c).2 main_arg0 (Pipeline.mem_restRefs_of main_arg0 (by decide) (by decide))).trans (V_main_arg0 m c),
    ((h.1 c).2 main_arg1 (Pipeline.mem_restRefs_of main_arg1 (by decide) (by decide))).trans (V_main_arg1 m c),
    ((h.1 c).2 main_arg2 (Pipeline.mem_restRefs_of main_arg2 (by decide) (by decide))).trans (V_main_arg2 m c),
    ((h.1 c).2 main_arg3 (Pipeline.mem_restRefs_of main_arg3 (by decide) (by decide))).trans (V_main_arg3 m c),
    ((h.1 c).2 main_arg4 (Pipeline.mem_restRefs_of main_arg4 (by decide) (by decide))).trans (V_main_arg4 m c)⟩, h.2⟩)
    (run_main m ρ)

/-- The frame: every execution ends, with every counter at zero and the arguments kept. -/
theorem frame_any : θ_run defs (onTc (τ := τ) (main (F := F))) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run defs _ _).mono (fun r h => ⟨fun c => (h.1 c).2.2.2, h.2⟩) (run_named m ρ)

end Cert.Proof.Body

end
-- ==== Proof.Spec.lean ====
/-
  The gradient of one block of banded attention over the real numbers: 128 query rows against 256 key rows (the
  previous block's 128 and the own block's 128), one head of 64 lanes. Both programs' blocks are read as these sums.
-/
module

public import Idealize.ShloMosaic.PureOps.Ideal

@[expose] public section

noncomputable section

namespace Cert.Proof.Spec

open Idealize.ShloMosaic
open scoped BigOperators

/-- A block's operands: queries, keys, values, the cotangent of the output rows and of the rows' log-sum, and
    which key each query row may see. -/
structure Block where
  Q : Fin 128 → Fin 64 → ℝ
  K : Fin 256 → Fin 64 → ℝ
  V : Fin 256 → Fin 64 → ℝ
  DO : Fin 128 → Fin 64 → ℝ
  DL : Fin 128 → ℝ
  M : Fin 128 → Fin 256 → Bool

/-- The scale the scores are multiplied by. -/
def scale : ℝ := 1 / 8

namespace Block

variable (b : Block)

/-- The scaled score of query row `t` against key row `j`. -/
def sc (t : Fin 128) (j : Fin 256) : ℝ := (∑ d, b.Q t d * b.K j d) * scale

/-- The score as the programs hold it: minus infinity where the key is masked. -/
def scE (t : Fin 128) (j : Fin 256) : EReal := if b.M t j then (b.sc t j : EReal) else ⊥

/-- The row's largest score, an extended real, and the real number it is. -/
def mxE (t : Fin 128) : EReal := (Finset.univ : Finset (Fin 256)).fold max ⊥ (b.scE t)
def mx (t : Fin 128) : ℝ := (b.mxE t).toReal

def p (t : Fin 128) (j : Fin 256) : ℝ := if b.M t j then Real.exp (b.sc t j - b.mx t) else 0
def den (t : Fin 128) : ℝ := ∑ j, b.p t j
def num (t : Fin 128) (d : Fin 64) : ℝ := ∑ j, b.p t j * b.V j d
def dnum (t : Fin 128) (d : Fin 64) : ℝ := b.DO t d / b.den t
def dden (t : Fin 128) : ℝ := b.DL t / b.den t - ∑ d, b.DO t d * (1 / (b.den t * b.den t)) * b.num t d
def dp (t : Fin 128) (j : Fin 256) : ℝ := (∑ d, b.dnum t d * b.V j d) + b.dden t
def ds (t : Fin 128) (j : Fin 256) : ℝ := if b.M t j then b.dp t j * b.p t j * scale else 0
def dq (t : Fin 128) (d : Fin 64) : ℝ := ∑ j, b.ds t j * b.K j d
def dk (j : Fin 256) (d : Fin 64) : ℝ := ∑ t, b.ds t j * b.Q t d
def dv (j : Fin 256) (d : Fin 64) : ℝ := ∑ t, b.dnum t d * b.p t j

/-- Every query row sees a key. -/
def Sees : Prop := ∀ t, ∃ j, b.M t j = true

variable {b}

theorem mxE_ne_top (t : Fin 128) : b.mxE t ≠ ⊤ := by
  unfold mxE
  refine ne_of_lt ((Finset.fold_max_lt ⊤).mpr ⟨bot_lt_top, fun j _ => ?_⟩)
  unfold scE
  split
  · exact EReal.coe_lt_top _
  · exact bot_lt_top

theorem mxE_ne_bot (h : b.Sees) (t : Fin 128) : b.mxE t ≠ ⊥ := by
  obtain ⟨j, hj⟩ := h t
  refine ne_of_gt ((Finset.lt_fold_max ⊥).mpr (Or.inr ⟨j, Finset.mem_univ _, ?_⟩))
  unfold scE
  rw [if_pos hj]
  exact EReal.bot_lt_coe _

theorem mxE_eq (h : b.Sees) (t : Fin 128) : b.mxE t = (b.mx t : EReal) :=
  (EReal.coe_toReal (mxE_ne_top t) (mxE_ne_bot h t)).symm

theorem p_nonneg (t : Fin 128) (j : Fin 256) : 0 ≤ b.p t j := by
  unfold p
  split
  · exact (Real.exp_pos _).le
  · exact le_rfl

theorem den_pos (h : b.Sees) (t : Fin 128) : 0 < b.den t := by
  obtain ⟨j, hj⟩ := h t
  refine Finset.sum_pos' (fun j _ => p_nonneg t j) ⟨j, Finset.mem_univ _, ?_⟩
  unfold p
  rw [if_pos hj]
  exact Real.exp_pos _

theorem den_ne (h : b.Sees) (t : Fin 128) : b.den t ≠ 0 := (den_pos h t).ne'

/-- The exponential of a score less the row's largest, as the programs compute it. -/
theorem exp_scE (h : b.Sees) (t : Fin 128) (j : Fin 256) :
    Ideal.exp (b.scE t j - b.mxE t) = (b.p t j : EReal) := by
  rw [mxE_eq h t]
  unfold scE p
  split
  · rw [← EReal.coe_sub]; rfl
  · rw [EReal.bot_sub]; rfl

/-- The cotangent that reaches a row's largest score through the exponentials is that of the log-sum itself: the
    two cancel, so the largest score has no gradient of its own. -/
theorem sum_dp_p (h : b.Sees) (t : Fin 128) : ∑ j, b.dp t j * b.p t j = b.DL t := by
  have hd := den_ne h t
  have e1 : ∑ j, b.dp t j * b.p t j = (∑ d, b.dnum t d * b.num t d) + b.dden t * b.den t := by
    unfold dp num den
    simp only [add_mul, Finset.sum_add_distrib, Finset.mul_sum, Finset.sum_mul]
    congr 1
    rw [Finset.sum_comm]
    exact Finset.sum_congr rfl fun d _ => Finset.sum_congr rfl fun j _ => by ring
  have e2 : b.dden t * b.den t = b.DL t - ∑ d, b.dnum t d * b.num t d := by
    unfold dden dnum
    rw [sub_mul, div_mul_cancel₀ _ hd, Finset.sum_mul]
    congr 1
    refine Finset.sum_congr rfl fun d _ => ?_
    field_simp
  rw [e1, e2]; ring

/-- A masked key takes no part in anything: two blocks that differ in masked key rows only have one gradient. -/
structure Agrees (a b : Block) : Prop where
  hQ : a.Q = b.Q
  hDO : a.DO = b.DO
  hDL : a.DL = b.DL
  hM : a.M = b.M
  hK : ∀ t j, b.M t j = true → ∀ d, a.K j d = b.K j d
  hV : ∀ t j, b.M t j = true → ∀ d, a.V j d = b.V j d

section agree
variable {a : Block} (h : Agrees a b)
include h

theorem Agrees.scE (t : Fin 128) : a.scE t = b.scE t := by
  funext j
  unfold Block.scE
  rw [h.hM]
  by_cases hm : b.M t j = true
  · rw [if_pos hm, if_pos hm]
    unfold sc
    rw [h.hQ]
    simp only [h.hK t j hm]
  · rw [if_neg hm, if_neg hm]

theorem Agrees.mx (t : Fin 128) : a.mx t = b.mx t := by
  unfold Block.mx mxE; rw [h.scE t]

theorem Agrees.p (t : Fin 128) (j : Fin 256) : a.p t j = b.p t j := by
  unfold Block.p
  rw [h.hM, h.mx t]
  by_cases hm : b.M t j = true
  · rw [if_pos hm, if_pos hm]
    unfold sc
    rw [h.hQ]
    simp only [h.hK t j hm]
  · rw [if_neg hm, if_neg hm]

theorem Agrees.den (t : Fin 128) : a.den t = b.den t := Finset.sum_congr rfl fun j _ => h.p t j

theorem Agrees.dnum (t : Fin 128) (d : Fin 64) : a.dnum t d = b.dnum t d := by
  unfold Block.dnum; rw [h.den t, h.hDO]

theorem Agrees.num (t : Fin 128) (d : Fin 64) : a.num t d = b.num t d := by
  refine Finset.sum_congr rfl fun j _ => ?_
  rw [h.p t j]
  by_cases hm : b.M t j = true
  · rw [h.hV t j hm]
  · have : b.p t j = 0 := if_neg hm
    rw [this, zero_mul, zero_mul]

theorem Agrees.dden (t : Fin 128) : a.dden t = b.dden t := by
  unfold Block.dden
  rw [h.den t, h.hDL, h.hDO]
  simp only [h.num]

theorem Agrees.ds (t : Fin 128) (j : Fin 256) : a.ds t j = b.ds t j := by
  unfold Block.ds
  rw [h.hM]
  by_cases hm : b.M t j = true
  · rw [if_pos hm, if_pos hm, h.p t j]
    unfold dp
    rw [h.dden t]
    simp only [h.dnum, h.hV t j hm]
  · rw [if_neg hm, if_neg hm]

theorem Agrees.dq (t : Fin 128) (d : Fin 64) : a.dq t d = b.dq t d := by
  refine Finset.sum_congr rfl fun j _ => ?_
  rw [h.ds t j]
  by_cases hm : b.M t j = true
  · rw [h.hK t j hm]
  · have : b.ds t j = 0 := if_neg hm
    rw [this, zero_mul, zero_mul]

theorem Agrees.dk (j : Fin 256) (d : Fin 64) : a.dk j d = b.dk j d := by
  unfold Block.dk; rw [h.hQ]; simp only [h.ds]

theorem Agrees.dv (j : Fin 256) (d : Fin 64) : a.dv j d = b.dv j d := by
  unfold Block.dv; simp only [h.dnum, h.p]

end agree

/-- A key no row sees has no gradient. -/
theorem dk_of_masked (j : Fin 256) (d : Fin 64) (h : ∀ t, b.M t j = false) : b.dk j d = 0 := by
  refine Finset.sum_eq_zero fun t _ => ?_
  unfold ds
  rw [if_neg (by rw [h t]; decide), zero_mul]

theorem dv_of_masked (j : Fin 256) (d : Fin 64) (h : ∀ t, b.M t j = false) : b.dv j d = 0 := by
  refine Finset.sum_eq_zero fun t _ => ?_
  unfold p
  rw [if_neg (by rw [h t]; decide), mul_zero]

end Block

/-- The band: query row `t` sees key row `j` of the previous and own block when the key is at most 128 rows back,
    not ahead, and, in the first block of a residue class (`first`), not in the block before it. -/
def band (first : Bool) (t : Fin 128) (j : Fin 256) : Bool :=
  decide (j.val ≤ 128 + t.val) && decide (t.val ≤ j.val) && (!first || decide (128 ≤ j.val))

theorem band_self (first : Bool) (t : Fin 128) : ∃ j, band first t j = true :=
  ⟨⟨128 + t.val, by omega⟩, by simp [band]⟩

/-! ## The whole arrays

The arrays are [4096, 512]: eight heads of 64 lanes a row. The rows of one residue class modulo 4 come one after the
other in the results, 1024 rows a class, eight blocks of 128 rows. -/

/-- The two halves of a block's key rows: the previous block's and the own block's. -/
def lo (j : Fin 128) : Fin 256 := ⟨j.val, by omega⟩
def hi (j : Fin 128) : Fin 256 := ⟨128 + j.val, by omega⟩

theorem halves {P : Fin 256 → Prop} (h0 : ∀ j, P (lo j)) (h1 : ∀ j, P (hi j)) (j : Fin 256) : P j := by
  by_cases hj : j.val < 128
  · exact h0 ⟨j.val, hj⟩
  · have e : j = hi ⟨j.val - 128, by omega⟩ := Fin.ext (by show j.val = 128 + (j.val - 128); omega)
    rw [e]; exact h1 _

/-- Lane `d` of head `hd`, among the 512. -/
def lane (hd : Fin 8) (d : Fin 64) : Fin 512 := ⟨64 * hd.val + d.val, by have := hd.isLt; have := d.isLt; omega⟩

/-- The head and the lane of a column. -/
def headOf (y : Fin 512) : Fin 8 := ⟨y.val / 64, by have := y.isLt; omega⟩
def laneOf (y : Fin 512) : Fin 64 := ⟨y.val % 64, Nat.mod_lt _ (by decide)⟩

theorem lane_of (y : Fin 512) : lane (headOf y) (laneOf y) = y := Fin.ext (Nat.div_add_mod y.val 64)
theorem headOf_lane (hd : Fin 8) (d : Fin 64) : headOf (lane hd d) = hd :=
  Fin.ext (by show (64 * hd.val + d.val) / 64 = hd.val; have := d.isLt; omega)
theorem laneOf_lane (hd : Fin 8) (d : Fin 64) : laneOf (lane hd d) = d :=
  Fin.ext (by show (64 * hd.val + d.val) % 64 = d.val; have := d.isLt; omega)

/-- Row `t` of block `b` in the results' order, and where that row stands in the arguments. -/
def srow (b : Fin 32) (t : Fin 128) : Fin 4096 := ⟨128 * b.val + t.val, by have := b.isLt; have := t.isLt; omega⟩
def row (b : Fin 32) (t : Fin 128) : Fin 4096 :=
  ⟨4 * (128 * (b.val % 8) + t.val) + b.val / 8, by have := b.isLt; have := t.isLt; omega⟩

/-- The block and the row in it of a row of the results. -/
def blockOf (s : Fin 4096) : Fin 32 := ⟨s.val / 128, by have := s.isLt; omega⟩
def rowOf (s : Fin 4096) : Fin 128 := ⟨s.val % 128, Nat.mod_lt _ (by decide)⟩

theorem srow_of (s : Fin 4096) : srow (blockOf s) (rowOf s) = s := Fin.ext (Nat.div_add_mod s.val 128)

/-- The block before (a class's first block sees none of its rows), and the block after. -/
def prev (b : Fin 32) : Fin 32 := ⟨b.val - 1, by have := b.isLt; omega⟩

/-- A block is the first of its residue class. -/
def isFirst (b : Fin 32) : Bool := decide (b.val % 8 = 0)

theorem band_first (t : Fin 128) (j : Fin 128) : band true t (lo j) = false := by
  unfold band
  rw [show decide (128 ≤ (lo j).val) = false from decide_eq_false (by show ¬128 ≤ j.val; omega)]
  simp

/-- The five arguments as real arrays. -/
structure Args where
  q : Fin 4096 → Fin 512 → ℝ
  k : Fin 4096 → Fin 512 → ℝ
  v : Fin 4096 → Fin 512 → ℝ
  go : Fin 4096 → Fin 512 → ℝ
  gl : Fin 4096 → Fin 512 → ℝ

/-- One head of one block. -/
def Args.block (a : Args) (b : Fin 32) (hd : Fin 8) : Block where
  Q t d := a.q (row b t) (lane hd d)
  K j d := if h : j.val < 128 then a.k (row (prev b) ⟨j.val, h⟩) (lane hd d) else a.k (row b ⟨j.val - 128, by omega⟩) (lane hd d)
  V j d := if h : j.val < 128 then a.v (row (prev b) ⟨j.val, h⟩) (lane hd d) else a.v (row b ⟨j.val - 128, by omega⟩) (lane hd d)
  DO t d := a.go (row b t) (lane hd d)
  DL t := ∑ d, a.gl (row b t) (lane hd d)
  M := band (isFirst b)

theorem Args.K_lo (a : Args) (b : Fin 32) (hd : Fin 8) (j : Fin 128) (d : Fin 64) : (a.block b hd).K (lo j) d = a.k (row (prev b) j) (lane hd d) :=
  dif_pos j.isLt
theorem Args.V_lo (a : Args) (b : Fin 32) (hd : Fin 8) (j : Fin 128) (d : Fin 64) : (a.block b hd).V (lo j) d = a.v (row (prev b) j) (lane hd d) :=
  dif_pos j.isLt
theorem Args.K_hi (a : Args) (b : Fin 32) (hd : Fin 8) (j : Fin 128) (d : Fin 64) : (a.block b hd).K (hi j) d = a.k (row b j) (lane hd d) := by
  refine (dif_neg (by show ¬(128 + j.val < 128); omega)).trans ?_
  exact congrArg (fun r => a.k (row b r) (lane hd d)) (Fin.ext (by show 128 + j.val - 128 = j.val; omega))
theorem Args.V_hi (a : Args) (b : Fin 32) (hd : Fin 8) (j : Fin 128) (d : Fin 64) : (a.block b hd).V (hi j) d = a.v (row b j) (lane hd d) := by
  refine (dif_neg (by show ¬(128 + j.val < 128); omega)).trans ?_
  exact congrArg (fun r => a.v (row b r) (lane hd d)) (Fin.ext (by show 128 + j.val - 128 = j.val; omega))

/-- What the block after adds to the gradient of a row of k or v: its own gradient at its previous block's rows. -/
def Args.nextK (a : Args) (b : Fin 32) (hd : Fin 8) (j : Fin 128) (d : Fin 64) : ℝ :=
  if h : b.val + 1 < 32 then (a.block ⟨b.val + 1, h⟩ hd).dk (lo j) d else 0
def Args.nextV (a : Args) (b : Fin 32) (hd : Fin 8) (j : Fin 128) (d : Fin 64) : ℝ :=
  if h : b.val + 1 < 32 then (a.block ⟨b.val + 1, h⟩ hd).dv (lo j) d else 0

/-- The three gradients. -/
def Args.dq (a : Args) (b : Fin 32) (hd : Fin 8) (t : Fin 128) (d : Fin 64) : ℝ := (a.block b hd).dq t d
def Args.dk (a : Args) (b : Fin 32) (hd : Fin 8) (t : Fin 128) (d : Fin 64) : ℝ := (a.block b hd).dk (hi t) d + a.nextK b hd t d
def Args.dv (a : Args) (b : Fin 32) (hd : Fin 8) (t : Fin 128) (d : Fin 64) : ℝ := (a.block b hd).dv (hi t) d + a.nextV b hd t d

/-- The last block of a class takes nothing from the block after it, which is another class's first. -/
theorem Args.nextK_last (a : Args) (b : Fin 32) (h7 : b.val % 8 = 7) (hd : Fin 8) (j : Fin 128) (d : Fin 64) : a.nextK b hd j d = 0 := by
  unfold Args.nextK
  split
  · refine Block.dk_of_masked _ _ fun t => ?_
    show band (isFirst ⟨b.val + 1, _⟩) t (lo j) = false
    have : isFirst ⟨b.val + 1, by assumption⟩ = true := decide_eq_true (by show (b.val + 1) % 8 = 0; omega)
    rw [this]
    exact band_first t j
  · rfl
theorem Args.nextV_last (a : Args) (b : Fin 32) (h7 : b.val % 8 = 7) (hd : Fin 8) (j : Fin 128) (d : Fin 64) : a.nextV b hd j d = 0 := by
  unfold Args.nextV
  split
  · refine Block.dv_of_masked _ _ fun t => ?_
    show band (isFirst ⟨b.val + 1, _⟩) t (lo j) = false
    have : isFirst ⟨b.val + 1, by assumption⟩ = true := decide_eq_true (by show (b.val + 1) % 8 = 0; omega)
    rw [this]
    exact band_first t j
  · rfl

end Cert.Proof.Spec

end
-- ==== Proof.Head.lean ====
/-
  One head of one block of the kernel, at the real values: the body's operations read at an index, as the sums of the
  block's gradient. The body runs the same operations for each of its eight heads; they are read once here.
-/
module

public import proofs.«01_k».proof.Proof.Gen.KernelIdeal.Skeleton
public import proofs.«01_k».proof.Proof.Spec
public import Idealize.ShloMosaic.Lib.Pipeline.Value
public import Idealize.ShloMosaic.Lib.ValueIdx
public import Idealize.ShloMosaic.PureOps.Ideal.Laws

@[expose] public section

noncomputable section

namespace Cert.Proof.Head

open Cert.KernelIdeal Cert.KernelIdeal.Gen
open Idealize.ShloMosaic Idealize.ShloMosaic.ValueIdx
open Cert.Proof.Spec
open scoped BigOperators

/-! ## Real sums among the extended reals -/

theorem coe_sum {ι : Type} (s : Finset ι) (f : ι → ℝ) : ∑ i ∈ s, ((f i : ℝ) : EReal) = ((∑ i ∈ s, f i : ℝ) : EReal) :=
  (map_sum (⟨⟨fun x : ℝ => (x : EReal), EReal.coe_zero⟩, EReal.coe_add⟩ : ℝ →+ EReal) f s).symm

theorem ofBits_eighth : Ideal.ofBits .f32 0x3E000000#32 = ((Spec.scale : ℝ) : EReal) := by
  unfold Spec.scale
  simp [Ideal.ofBits, Ideal.ieee, -EReal.coe_mul]
  norm_num

theorem ofBits_one : Ideal.ofBits .f32 0x3F800000#32 = ((1 : ℝ) : EReal) := by
  simp [Ideal.ofBits, Ideal.ieee, -EReal.coe_mul]
  norm_num

theorem ofBits_bot : Ideal.ofBits .f32 0xFF800000#32 = ⊥ := by
  simp [Ideal.ofBits, Ideal.ieee, -EReal.coe_mul]

theorem div_real {x y : ℝ} (h : y ≠ 0) : Ideal.div (x : EReal) (y : EReal) = ((x / y : ℝ) : EReal) := by
  rw [Ideal.div_coe h, ← EReal.coe_mul, mul_one_div]

/-! ## The four products -/

theorem dot_rows (x : FVec Ideal S128x64 .f32) (y : FVec Ideal S256x64 .f32) (t : Fin 128) (j : Fin 256) :
    FloatOps.matmul (F := Ideal) (φ₁ := .f32) (φ₂ := .f32) dot_S128x64_S256x64_S128x256_1_1_0_0_n_n none x y (constant S128x256 .f32 0x00000000#32) (ix2 t j)
      = ∑ d : Fin 64, x (ix2 t d) * y (ix2 j d) := by
  rw [Ideal.matmul_constant_zero_apply]
  refine Fintype.sum_equiv (contrEquiv1 dot_S128x64_S256x64_S128x256_1_1_0_0_n_n 64 rfl rfl) _ _ fun k => ?_
  congr 1
  · exact congrArg x (Shape.idx_ext₂ rfl rfl)
  · exact congrArg y (Shape.idx_ext₂ rfl rfl)

theorem dot_mid (x : FVec Ideal S128x256 .f32) (y : FVec Ideal S256x64 .f32) (t : Fin 128) (d : Fin 64) :
    FloatOps.matmul (F := Ideal) (φ₁ := .f32) (φ₂ := .f32) dot_S128x256_S256x64_S128x64_1_0_0_1_n_n none x y (constant S128x64 .f32 0x00000000#32) (ix2 t d)
      = ∑ j : Fin 256, x (ix2 t j) * y (ix2 j d) := by
  rw [Ideal.matmul_constant_zero_apply]
  refine Fintype.sum_equiv (contrEquiv1 dot_S128x256_S256x64_S128x64_1_0_0_1_n_n 256 rfl rfl) _ _ fun k => ?_
  congr 1
  · exact congrArg x (Shape.idx_ext₂ rfl rfl)
  · exact congrArg y (Shape.idx_ext₂ rfl rfl)

theorem dot_cols (x : FVec Ideal S128x64 .f32) (y : FVec Ideal S128x256 .f32) (d : Fin 64) (j : Fin 256) :
    FloatOps.matmul (F := Ideal) (φ₁ := .f32) (φ₂ := .f32) dot_S128x64_S128x256_S64x256_0_0_1_1_n_n none x y (constant S64x256 .f32 0x00000000#32) (ix2 d j)
      = ∑ t : Fin 128, x (ix2 t d) * y (ix2 t j) := by
  rw [Ideal.matmul_constant_zero_apply]
  refine Fintype.sum_equiv (contrEquiv1 dot_S128x64_S128x256_S64x256_0_0_1_1_n_n 128 rfl rfl) _ _ fun k => ?_
  congr 1
  · exact congrArg x (Shape.idx_ext₂ rfl rfl)
  · exact congrArg y (Shape.idx_ext₂ rfl rfl)

theorem dot_cols' (x : FVec Ideal S128x256 .f32) (y : FVec Ideal S128x64 .f32) (j : Fin 256) (d : Fin 64) :
    FloatOps.matmul (F := Ideal) (φ₁ := .f32) (φ₂ := .f32) dot_S128x256_S128x64_S256x64_0_0_1_1_n_n none x y (constant S256x64 .f32 0x00000000#32) (ix2 j d)
      = ∑ t : Fin 128, x (ix2 t j) * y (ix2 t d) := by
  rw [Ideal.matmul_constant_zero_apply]
  refine Fintype.sum_equiv (contrEquiv1 dot_S128x256_S128x64_S256x64_0_0_1_1_n_n 128 rfl rfl) _ _ fun k => ?_
  congr 1
  · exact congrArg x (Shape.idx_ext₂ rfl rfl)
  · exact congrArg y (Shape.idx_ext₂ rfl rfl)

/-! ## Rows and columns -/

/-- A row of a [128, n] array summed, kept as a column. -/
theorem row_sum {n : ℕ} (x : FVec Ideal ⟨2, ![128, n]⟩ .f32) (h : Shape.Reduces ⟨2, ![128, n]⟩ [1] S128)
    (hφ : FKind.Formats .f32) (hacc : (0x00000000#32 : BitVec 32) = FKind.add.neutral .f32 hφ) (t : Fin 128) (u : Fin 1) :
    shapeCast S128x1 (multiReduction .add [1] S128 x 0x00000000#32 h hφ hacc) shapeCasts_S128_S128x1 (ix2 t u)
      = ∑ j : Fin n, x (ix2 t j) := by
  rw [shapeCast_apply _ shapeCasts_S128_S128x1 (ix2 t u) (ix1 t)
    (by rw [Shape.rowMajor_val_one, Shape.rowMajor_val_two]; have := u.isLt; show t.val = t.val * 1 + u.val; omega)]
  refine (Ideal.multiReduction_add_single x _ h hφ hacc (ix1 t)).trans ?_
  refine Finset.sum_congr rfl fun k _ => congrArg x ?_
  exact Shape.idx_ext₂ rfl rfl

/-- A row's largest element, kept as a column. -/
theorem row_max (x : FVec Ideal S128x256 .f32) (t : Fin 128) (u : Fin 1) :
    shapeCast S128x1 (multiReduction .maximumf [1] S128 x 0xFF800000#32 reduces_S128x256_S128 (.inl rfl) rfl) shapeCasts_S128_S128x1 (ix2 t u)
      = (Finset.univ : Finset (Fin 256)).fold max ⊥ (fun j => x (ix2 t j)) := by
  rw [shapeCast_apply _ shapeCasts_S128_S128x1 (ix2 t u) (ix1 t)
    (by rw [Shape.rowMajor_val_one, Shape.rowMajor_val_two]; have := u.isLt; show t.val = t.val * 1 + u.val; omega)]
  refine (Ideal.multiReduction_maximumf_single x _ reduces_S128x256_S128 (.inl rfl) rfl (ix1 t)).trans ?_
  refine congrArg₂ (fun z f => (Finset.univ : Finset (Fin 256)).fold max z f) ofBits_bot ?_
  funext k
  exact congrArg x (Shape.idx_ext₂ rfl rfl)

/-- A column repeated along the row. -/
theorem col_256 (x : FVec Ideal S128x1 .f32) (t : Fin 128) (j : Fin 256) :
    broadcastTo S128x256 x broadcasts_S128x1_S128x256 (ix2 t j) = x (ix2 t 0) :=
  broadcastTo_apply x _ _ _ (fun a => by fin_cases a <;> rfl)

theorem col_64 (x : FVec Ideal S128x1 .f32) (t : Fin 128) (d : Fin 64) :
    broadcastTo S128x64 x broadcasts_S128x1_S128x64 (ix2 t d) = x (ix2 t 0) :=
  broadcastTo_apply x _ _ _ (fun a => by fin_cases a <;> rfl)

theorem same {n : ℕ} {α : Type} (x : (⟨2, ![128, n]⟩ : Shape).Idx → α) (h : Shape.ShapeCasts ⟨2, ![128, n]⟩ ⟨2, ![128, n]⟩) :
    shapeCast ⟨2, ![128, n]⟩ x h = x := funext fun i => shapeCast_apply x h i i rfl

theorem cat_lo (x y : FVec Ideal S128x64 .f32) (j : Fin 128) (d : Fin 64) :
    concatenate S256x64 0 [⟨S128x64, x⟩, ⟨S128x64, y⟩] concatenates_S128x64_S128x64_S256x64_d0 (ix2 (lo j) d) = x (ix2 j d) :=
  concatenate_pair_apply_left (t := S256x64) 0 x y _ _ rfl _ (fun b => by fin_cases b <;> rfl)

theorem cat_hi (x y : FVec Ideal S128x64 .f32) (j : Fin 128) (d : Fin 64) :
    concatenate S256x64 0 [⟨S128x64, x⟩, ⟨S128x64, y⟩] concatenates_S128x64_S128x64_S256x64_d0 (ix2 (hi j) d) = y (ix2 j d) :=
  concatenate_pair_apply_right (t := S256x64) 0 x y _ _ rfl rfl (ix2 j d)
    (fun b hb => by fin_cases b <;> first | exact absurd rfl hb | rfl) (by show j.val + 128 = 128 + j.val; omega)

/-! ## The mask -/

/-- The word the kernel compares the key row with: the first block of a residue class sees no earlier block. -/
def limit (first : Bool) : BitVec 32 := if first then 128#32 else 0#32

/-- The mask's two coordinates. -/
abbrev keyRow : IVec S128x256 32 := iota .tc S128x256 32 [1] iota_S128x256_d1_w32

theorem toInt_dist (t : Fin 128) (j : Fin 256) :
    ((128#32 + BitVec.ofNat 32 t.val) - BitVec.ofNat 32 j.val).toInt = 128 + (t.val : ℤ) - j.val := by
  have ht := t.isLt
  have hj := j.isLt
  rw [BitVec.toInt_eq_toNat_bmod]
  simp only [BitVec.toNat_sub, BitVec.toNat_add, BitVec.toNat_ofNat]
  simp only [Int.bmod_def]
  omega

theorem toInt_row (j : Fin 256) : (BitVec.ofNat 32 j.val).toInt = j.val := by
  have hj := j.isLt
  rw [BitVec.toInt_eq_toNat_bmod]
  simp only [BitVec.toNat_ofNat, Int.bmod_def]
  omega

theorem ofBool_and : ∀ a b : Bool, BitVec.ofBool a &&& BitVec.ofBool b = BitVec.ofBool (a && b) := by decide

theorem mask_words (f : Bool) (t : Fin 128) (j : Fin 256) :
    (IntOp.cmpi .sge ((128#32 + BitVec.ofNat 32 t.val) - BitVec.ofNat 32 j.val) 0#32
      &&& IntOp.cmpi .sle ((128#32 + BitVec.ofNat 32 t.val) - BitVec.ofNat 32 j.val) 128#32)
      &&& IntOp.cmpi .sge (BitVec.ofNat 32 j.val) (limit f) = BitVec.ofBool (Spec.band f t j) := by
  have h0 : (0#32 : BitVec 32).toInt = 0 := rfl
  have h1 : (128#32 : BitVec 32).toInt = 128 := rfl
  unfold IntOp.cmpi limit Spec.band
  simp only [BitVec.sle_eq_decide, ofBool_and, toInt_dist, h0, h1]
  congr 2
  · congr 1 <;> (refine decide_eq_decide.mpr ?_; constructor <;> intro h <;> omega)
  · cases f <;> simp only [toInt_row, if_true, if_false, Bool.false_eq_true, h0, h1] <;> simp

/-- The kernel's mask at a query and a key row. -/
theorem mask_apply (f : Bool) (t : Fin 128) (j : Fin 256) :
    k0_pay42 (limit f) keyRow k0_pay40 k0_pay41 (ix2 t j) = BitVec.ofBool (Spec.band f t j) := by
  rw [← mask_words]
  unfold k0_pay42 k0_pay41 k0_pay40
  have e0 : iota .tc S128x256 32 [0] iota_S128x256_d0_w32 (ix2 t j) = BitVec.ofNat 32 t.val := iota_single_apply _ _ _ _ _ _
  have e1 : keyRow (ix2 t j) = BitVec.ofNat 32 j.val := iota_single_apply _ _ _ _ _ _
  simp only [andi, cmpi, subi, addi, broadcast_apply, e0, e1]
  rfl

/-! ## The head's operands and what they are -/

/-- The seven operands of a head read as a block's: all real, and the mask the band's. -/
structure Reads (b : Spec.Block) (f : Bool) (q kp kc vp vc go gl : Vec Ideal S128x64 .f32) : Prop where
  hq : ∀ t d, q (ix2 t d) = ((b.Q t d : ℝ) : EReal)
  hkp : ∀ j d, kp (ix2 j d) = ((b.K (lo j) d : ℝ) : EReal)
  hkc : ∀ j d, kc (ix2 j d) = ((b.K (hi j) d : ℝ) : EReal)
  hvp : ∀ j d, vp (ix2 j d) = ((b.V (lo j) d : ℝ) : EReal)
  hvc : ∀ j d, vc (ix2 j d) = ((b.V (hi j) d : ℝ) : EReal)
  hgo : ∀ t d, go (ix2 t d) = ((b.DO t d : ℝ) : EReal)
  hgl : ∀ t, ∑ d : Fin 64, gl (ix2 t d) = ((b.DL t : ℝ) : EReal)
  hM : b.M = Spec.band f

variable {b : Spec.Block} {f : Bool} {q kp kc vp vc go gl : Vec Ideal S128x64 .f32}

theorem Reads.sees (h : Reads b f q kp kc vp vc go gl) : b.Sees := fun t => by
  rw [h.hM]; exact Spec.band_self f t

/-- The head's mask, scores, exponentials, and so on, each from the operands. -/
abbrev hMask (lim : BitVec 32) : IVec S128x256 1 := k0_pay42 lim keyRow k0_pay40 k0_pay41
abbrev hP (lim : BitVec 32) (q kp kc : Vec Ideal S128x64 .f32) : FVec Ideal S128x256 .f32 :=
  k0_pay43 (F := Ideal) lim (k0_pay39 q kp kc) keyRow k0_pay40 k0_pay41
abbrev hDen (lim : BitVec 32) (q kp kc : Vec Ideal S128x64 .f32) : FVec Ideal S128x1 .f32 :=
  k0_pay44 (F := Ideal) lim (k0_pay39 q kp kc) keyRow k0_pay40 k0_pay41
abbrev hDnum (lim : BitVec 32) (q kp kc go : Vec Ideal S128x64 .f32) : FVec Ideal S128x64 .f32 :=
  k0_pay49 (F := Ideal) lim (k0_pay39 q kp kc) keyRow k0_pay40 k0_pay41 go
abbrev hDden (lim : BitVec 32) (q kp kc vp vc go gl : Vec Ideal S128x64 .f32) : FVec Ideal S128x1 .f32 :=
  k0_pay48 (F := Ideal) lim (k0_pay36 vp vc) (k0_pay39 q kp kc) keyRow k0_pay40 k0_pay41 go gl
abbrev hDp (lim : BitVec 32) (q kp kc vp vc go : Vec Ideal S128x64 .f32) : FVec Ideal S128x256 .f32 :=
  k0_pay51 (F := Ideal) lim (k0_pay36 vp vc) (k0_pay39 q kp kc) keyRow k0_pay40 k0_pay41 go
abbrev hDs (lim : BitVec 32) (q kp kc vp vc go gl : Vec Ideal S128x64 .f32) : FVec Ideal S128x256 .f32 :=
  k0_pay52 (F := Ideal) (hMask lim) (hP lim q kp kc) (hDden lim q kp kc vp vc go gl) (hDp lim q kp kc vp vc go)
abbrev hDq (lim : BitVec 32) (q kp kc vp vc go gl : Vec Ideal S128x64 .f32) : FVec Ideal S128x64 .f32 :=
  k0_pay54 (F := Ideal) (k0_pay38 kp kc) (hMask lim) (hP lim q kp kc) (hDden lim q kp kc vp vc go gl) (hDp lim q kp kc vp vc go)
abbrev hDk (lim : BitVec 32) (q kp kc vp vc go gl : Vec Ideal S128x64 .f32) : FVec Ideal S256x64 .f32 :=
  k0_pay53 (F := Ideal) (k0_pay37 q) (hMask lim) (hP lim q kp kc) (hDden lim q kp kc vp vc go gl) (hDp lim q kp kc vp vc go)
abbrev hDv (lim : BitVec 32) (q kp kc go : Vec Ideal S128x64 .f32) : FVec Ideal S256x64 .f32 :=
  k0_pay50 (F := Ideal) lim (k0_pay39 q kp kc) keyRow k0_pay40 k0_pay41 go

theorem q_apply (h : Reads b f q kp kc vp vc go gl) (t : Fin 128) (d : Fin 64) :
    k0_pay37 (F := Ideal) q (ix2 t d) = ((b.Q t d : ℝ) : EReal) := by
  unfold k0_pay37
  rw [same]
  exact h.hq t d

theorem k_apply (h : Reads b f q kp kc vp vc go gl) (j : Fin 256) (d : Fin 64) :
    k0_pay38 (F := Ideal) kp kc (ix2 j d) = ((b.K j d : ℝ) : EReal) := by
  unfold k0_pay38
  rw [same, same]
  exact halves (P := fun j => concatenate S256x64 0 [⟨S128x64, kp⟩, ⟨S128x64, kc⟩] concatenates_S128x64_S128x64_S256x64_d0 (ix2 j d) = ((b.K j d : ℝ) : EReal))
    (fun j => (cat_lo kp kc j d).trans (h.hkp j d)) (fun j => (cat_hi kp kc j d).trans (h.hkc j d)) j

theorem v_apply (h : Reads b f q kp kc vp vc go gl) (j : Fin 256) (d : Fin 64) :
    k0_pay36 (F := Ideal) vp vc (ix2 j d) = ((b.V j d : ℝ) : EReal) := by
  unfold k0_pay36
  rw [same, same]
  exact halves (P := fun j => concatenate S256x64 0 [⟨S128x64, vp⟩, ⟨S128x64, vc⟩] concatenates_S128x64_S128x64_S256x64_d0 (ix2 j d) = ((b.V j d : ℝ) : EReal))
    (fun j => (cat_lo vp vc j d).trans (h.hvp j d)) (fun j => (cat_hi vp vc j d).trans (h.hvc j d)) j

theorem go_apply (h : Reads b f q kp kc vp vc go gl) (t : Fin 128) (d : Fin 64) :
    k0_pay47 (F := Ideal) go (ix2 t d) = ((b.DO t d : ℝ) : EReal) := by
  unfold k0_pay47
  rw [same]
  exact h.hgo t d

theorem sc_apply (h : Reads b f q kp kc vp vc go gl) (t : Fin 128) (j : Fin 256) :
    k0_pay39 (F := Ideal) q kp kc (ix2 t j) = ((b.sc t j : ℝ) : EReal) := by
  unfold k0_pay39 Spec.Block.sc
  refine (congrArg₂ (· * ·) (dot_rows (k0_pay37 (F := Ideal) q) (k0_pay38 (F := Ideal) kp kc) t j) ofBits_eighth).trans ?_
  simp only [q_apply h, k_apply h]
  rw [EReal.coe_mul, ← coe_sum]
  simp only [EReal.coe_mul]

theorem scE_apply (h : Reads b f q kp kc vp vc go gl) (t : Fin 128) (j : Fin 256) :
    select (hMask (limit f)) (k0_pay39 (F := Ideal) q kp kc) (broadcast S128x256 (Scalar.ofBits (F := Ideal) .f32 0xFF800000#32)) (ix2 t j) = b.scE t j := by
  unfold Spec.Block.scE
  have hm : b.M t j = Spec.band f t j := by rw [h.hM]
  have e : select (hMask (limit f)) (k0_pay39 (F := Ideal) q kp kc) (broadcast S128x256 (Scalar.ofBits (F := Ideal) .f32 0xFF800000#32)) (ix2 t j)
      = if hMask (limit f) (ix2 t j) = 1#1 then k0_pay39 (F := Ideal) q kp kc (ix2 t j) else Ideal.ofBits .f32 0xFF800000#32 := rfl
  rw [e, show hMask (limit f) (ix2 t j) = _ from mask_apply f t j, hm, sc_apply h, ofBits_bot]
  cases Spec.band f t j <;> rfl

theorem p_apply (h : Reads b f q kp kc vp vc go gl) (t : Fin 128) (j : Fin 256) :
    hP (limit f) q kp kc (ix2 t j) = ((b.p t j : ℝ) : EReal) := by
  rw [← Spec.Block.exp_scE h.sees t j]
  unfold hP k0_pay43
  refine congrArg Ideal.exp (congrArg₂ (· - ·) (scE_apply h t j) ?_)
  rw [col_256]
  refine (row_max _ t 0).trans ?_
  unfold Spec.Block.mxE
  refine congrArg (fun g => (Finset.univ : Finset (Fin 256)).fold max ⊥ g) (funext fun j => scE_apply h t j)

theorem den_apply (h : Reads b f q kp kc vp vc go gl) (t : Fin 128) :
    hDen (limit f) q kp kc (ix2 t 0) = ((b.den t : ℝ) : EReal) := by
  unfold hDen k0_pay44
  refine (row_sum (n := 256) _ _ _ _ t 0).trans ?_
  simp only [p_apply h, coe_sum]
  rfl

theorem dnum_apply (h : Reads b f q kp kc vp vc go gl) (t : Fin 128) (d : Fin 64) :
    hDnum (limit f) q kp kc go (ix2 t d) = ((b.dnum t d : ℝ) : EReal) := by
  unfold hDnum k0_pay49
  refine (congrArg₂ Ideal.div (go_apply h t d) ((col_64 _ t d).trans (den_apply h t))).trans ?_
  exact div_real (Spec.Block.den_ne h.sees t)

theorem num_apply (h : Reads b f q kp kc vp vc go gl) (t : Fin 128) (d : Fin 64) :
    matmul (F := Ideal) dot_S128x256_S256x64_S128x64_1_0_0_1_n_n none (k0_pay45 (limit f) (k0_pay39 q kp kc) keyRow k0_pay40 k0_pay41)
      (k0_pay46 (k0_pay36 vp vc)) (constant S128x64 .f32 0x00000000#32) (ix2 t d) = ((b.num t d : ℝ) : EReal) := by
  refine (dot_mid (hP (limit f) q kp kc) (k0_pay36 (F := Ideal) vp vc) t d).trans ?_
  simp only [p_apply h, v_apply h, ← EReal.coe_mul, coe_sum]
  rfl

theorem dden_apply (h : Reads b f q kp kc vp vc go gl) (t : Fin 128) :
    hDden (limit f) q kp kc vp vc go gl (ix2 t 0) = ((b.dden t : ℝ) : EReal) := by
  unfold hDden k0_pay48
  have hd := Spec.Block.den_ne h.sees t
  have e1 : Ideal.div (shapeCast S128x1 (multiReduction (F := Ideal) (φ := .f32) .add [1] S128 (shapeCast S128x64 gl shapeCasts_S128x64_S128x64) 0x00000000#32 reduces_S128x64_S128 (.inl rfl) rfl) shapeCasts_S128_S128x1 (ix2 t 0))
      (hDen (limit f) q kp kc (ix2 t 0)) = ((b.DL t / b.den t : ℝ) : EReal) := by
    rw [same]
    refine (congrArg₂ Ideal.div ((row_sum (n := 64) gl _ _ _ t 0).trans (h.hgl t)) (den_apply h t)).trans (div_real hd)
  have e2 : ∀ d, mulf (F := Ideal) (mulf (k0_pay47 go) (broadcastTo S128x64 (divf (broadcast S128x1 (Scalar.ofBits .f32 0x3F800000#32))
      (mulf (hDen (limit f) q kp kc) (hDen (limit f) q kp kc))) broadcasts_S128x1_S128x64))
      (matmul (F := Ideal) dot_S128x256_S256x64_S128x64_1_0_0_1_n_n none (k0_pay45 (limit f) (k0_pay39 q kp kc) keyRow k0_pay40 k0_pay41)
        (k0_pay46 (k0_pay36 vp vc)) (constant S128x64 .f32 0x00000000#32)) (ix2 t d)
      = ((b.DO t d * (1 / (b.den t * b.den t)) * b.num t d : ℝ) : EReal) := by
    intro d
    rw [EReal.coe_mul, EReal.coe_mul]
    refine congrArg₂ (· * ·) (congrArg₂ (· * ·) (go_apply h t d) ((col_64 _ t d).trans ?_)) (num_apply h t d)
    refine (congrArg₂ Ideal.div ofBits_one (congrArg₂ (· * ·) (den_apply h t) (den_apply h t))).trans ?_
    rw [← EReal.coe_mul, div_real (mul_ne_zero hd hd)]
  unfold Spec.Block.dden
  refine (congrArg₂ (· + ·) e1 (congrArg₂ (· - ·) Ideal.ofBits_zero_f32 ((row_sum (n := 64) _ _ _ _ t 0).trans
    ((Finset.sum_congr rfl fun d _ => e2 d).trans (coe_sum _ _))))).trans ?_
  rw [zero_sub, ← EReal.coe_neg, ← EReal.coe_add, sub_eq_add_neg]

theorem dp_apply (h : Reads b f q kp kc vp vc go gl) (t : Fin 128) (j : Fin 256) :
    hDp (limit f) q kp kc vp vc go (ix2 t j) = ((∑ d, b.dnum t d * b.V j d : ℝ) : EReal) := by
  unfold hDp k0_pay51
  refine (dot_rows (hDnum (limit f) q kp kc go) (k0_pay36 (F := Ideal) vp vc) t j).trans ?_
  simp only [dnum_apply h, v_apply h, ← EReal.coe_mul, coe_sum]

theorem ds_apply (h : Reads b f q kp kc vp vc go gl) (t : Fin 128) (j : Fin 256) :
    hDs (limit f) q kp kc vp vc go gl (ix2 t j) = ((b.ds t j : ℝ) : EReal) := by
  unfold hDs k0_pay52
  have hm : b.M t j = Spec.band f t j := by rw [h.hM]
  have e1 : broadcastTo S128x256 (shapeCast S128x1 (multiReduction .add [1] S128 (hDden (limit f) q kp kc vp vc go gl) 0x00000000#32 reduces_S128x1_S128 (.inl rfl) rfl) shapeCasts_S128_S128x1)
      broadcasts_S128x1_S128x256 (ix2 t j) = ((b.dden t : ℝ) : EReal) := by
    rw [col_256]
    refine (row_sum (n := 1) _ _ _ _ t 0).trans ?_
    rw [Fin.sum_univ_one]
    exact dden_apply h t
  have e2 : mulf (F := Ideal) (addf (hDp (limit f) q kp kc vp vc go) (broadcastTo S128x256 (shapeCast S128x1 (multiReduction .add [1] S128 (hDden (limit f) q kp kc vp vc go gl) 0x00000000#32 reduces_S128x1_S128 (.inl rfl) rfl) shapeCasts_S128_S128x1)
      broadcasts_S128x1_S128x256)) (hP (limit f) q kp kc) (ix2 t j) = ((b.dp t j * b.p t j : ℝ) : EReal) := by
    unfold Spec.Block.dp
    refine (congrArg₂ (· * ·) (congrArg₂ (· + ·) (dp_apply h t j) e1) (p_apply h t j)).trans ?_
    rw [← EReal.coe_add, ← EReal.coe_mul]
  have e3 : ∀ x : FVec Ideal S128x256 .f32, mulf (F := Ideal) (select (hMask (limit f)) x (broadcast S128x256 (Scalar.ofBits .f32 0x00000000#32))) (broadcast S128x256 (Scalar.ofBits .f32 0x3E000000#32)) (ix2 t j)
      = (if hMask (limit f) (ix2 t j) = 1#1 then x (ix2 t j) else Ideal.ofBits .f32 0x00000000#32) * Ideal.ofBits .f32 0x3E000000#32 := fun _ => rfl
  refine (e3 _).trans ?_
  rw [e2, show hMask (limit f) (ix2 t j) = _ from mask_apply f t j, ofBits_eighth, Ideal.ofBits_zero_f32]
  unfold Spec.Block.ds
  rw [hm]
  cases Spec.band f t j
  · show (if (BitVec.ofBool false) = 1#1 then _ else (0 : EReal)) * _ = ((if false = true then _ else 0 : ℝ) : EReal)
    rw [if_neg (by decide), if_neg (by decide), zero_mul, EReal.coe_zero]
  · show (if (BitVec.ofBool true) = 1#1 then _ else (0 : EReal)) * _ = ((if true = true then _ else 0 : ℝ) : EReal)
    rw [if_pos (by decide), if_pos rfl, ← EReal.coe_mul]

theorem dq_apply (h : Reads b f q kp kc vp vc go gl) (t : Fin 128) (d : Fin 64) :
    hDq (limit f) q kp kc vp vc go gl (ix2 t d) = ((b.dq t d : ℝ) : EReal) := by
  unfold hDq k0_pay54
  refine (dot_mid (hDs (limit f) q kp kc vp vc go gl) (k0_pay38 (F := Ideal) kp kc) t d).trans ?_
  simp only [ds_apply h, k_apply h, ← EReal.coe_mul, coe_sum]
  rfl

theorem dk_apply (h : Reads b f q kp kc vp vc go gl) (j : Fin 256) (d : Fin 64) :
    hDk (limit f) q kp kc vp vc go gl (ix2 j d) = ((b.dk j d : ℝ) : EReal) := by
  unfold hDk k0_pay53
  refine (dot_cols' (hDs (limit f) q kp kc vp vc go gl) (k0_pay37 (F := Ideal) q) j d).trans ?_
  simp only [ds_apply h, q_apply h, ← EReal.coe_mul, coe_sum]
  rfl

theorem dv_apply (h : Reads b f q kp kc vp vc go gl) (j : Fin 256) (d : Fin 64) :
    hDv (limit f) q kp kc go (ix2 j d) = ((b.dv j d : ℝ) : EReal) := by
  unfold hDv k0_pay50
  have e : ∀ x : FVec Ideal S64x256 .f32, extf .f32 (truncf .bf16 (transpose S256x64 [1, 0] x transposes_S64x256_p1_0_S256x64) bitsLt_bf16_f32) bitsLt_bf16_f32 (ix2 j d) = x (ix2 d j) :=
    fun x => transpose_apply [1, 0] x transposes_S64x256_p1_0_S256x64 (ix2 j d) (ix2 d j) (fun a => match a with | ⟨0, _⟩ => rfl | ⟨1, _⟩ => rfl)
  refine (e _).trans ?_
  refine (dot_cols (hDnum (limit f) q kp kc go) (hP (limit f) q kp kc) d j).trans ?_
  simp only [dnum_apply h, p_apply h, ← EReal.coe_mul, coe_sum]
  rfl

end Cert.Proof.Head

end
-- ==== Proof.Block.lean ====
/-
  What the body leaves at a grid point, at the real values: every tile of the three gradients' blocks and of the two
  carried buffers is one head's gradient, read once for all heads and both cases of the body.
-/
module

public import proofs.«01_k».proof.Proof.Body
public import proofs.«01_k».proof.Proof.Head
public import Idealize.ShloMosaic.Lib.Pipeline.ValueKit
public import Idealize.ShloMosaic.Lib.Pipeline.ReadBack

@[expose] public section

set_option maxRecDepth 16384

noncomputable section

namespace Cert.Proof.Block

open Cert.KernelIdeal Cert.KernelIdeal.Gen Cert.Proof.Body Cert.Proof.Head
open Cert.Proof.Spec (lo hi lane headOf laneOf headOf_lane laneOf_lane)
open Idealize.ShloMosaic hiding ix2
open Idealize.ShloMosaic.ValueIdx Idealize.ShloMosaic.TcCoe Idealize.ShloMosaic.Tactic Idealize.SL.Sem
open scoped BigOperators

/-! ## Loads of one head's lanes -/

/-- One head's lanes loaded from a whole buffer. -/
abbrev rd (arg : Memref sig .tc .vmem S128x512 .f32) (harg : arg.IsWhole) (o : ℕ)
    (inb : ∀ a, (![0, o] : Fin 2 → ℕ) a + S128x64.size a ≤ S128x512.size a) (x : Vec Ideal S128x512 .f32) : Vec Ideal S128x64 .f32 :=
  View.readAt (Elt Ideal) arg.view (Rect.unit (s := S128x512) ![0, o] S128x64.size inb).toLoadRect (harg.unread x)

theorem load_head (arg : Memref sig .tc .vmem S128x512 .f32) (harg : arg.IsWhole) (x : Vec Ideal S128x512 .f32) (hd : Fin 8)
    (o : ℕ) (ho : o = 64 * hd.val) (inb : ∀ a, (![0, o] : Fin 2 → ℕ) a + S128x64.size a ≤ S128x512.size a) (t : Fin 128) (d : Fin 64) :
    View.readAt (Elt Ideal) arg.view (Rect.unit (s := S128x512) ![0, o] S128x64.size inb).toLoadRect (harg.unread x) (ix2 t d)
      = x (ix2 t (lane hd d)) := by
  subst ho
  rw [View.readAt_eq_ld, harg.read_unread]
  exact View.ld_unit_apply_of x _ _ inb _ _ (fun a => match a with
    | ⟨0, _⟩ => (Nat.zero_add _).symm
    | ⟨1, _⟩ => rfl)

/-- The seven input blocks read as eight heads' blocks. -/
structure AllReads (b : Fin 8 → Spec.Block) (f : Bool) (q kp kc vp vc go gl : Vec Ideal S128x512 .f32) : Prop where
  hq : ∀ hd t d, q (ix2 t (lane hd d)) = (((b hd).Q t d : ℝ) : EReal)
  hkp : ∀ hd j d, kp (ix2 j (lane hd d)) = (((b hd).K (lo j) d : ℝ) : EReal)
  hkc : ∀ hd j d, kc (ix2 j (lane hd d)) = (((b hd).K (hi j) d : ℝ) : EReal)
  hvp : ∀ hd j d, vp (ix2 j (lane hd d)) = (((b hd).V (lo j) d : ℝ) : EReal)
  hvc : ∀ hd j d, vc (ix2 j (lane hd d)) = (((b hd).V (hi j) d : ℝ) : EReal)
  hgo : ∀ hd t d, go (ix2 t (lane hd d)) = (((b hd).DO t d : ℝ) : EReal)
  hgl : ∀ hd t, ∑ d : Fin 64, gl (ix2 t (lane hd d)) = (((b hd).DL t : ℝ) : EReal)
  hM : ∀ hd, (b hd).M = Spec.band f

section heads

variable {b : Fin 8 → Spec.Block} {f : Bool} {q kp kc vp vc go gl : Vec Ideal S128x512 .f32} {lim : BitVec 32}
  {a1 a2 a3 a4 a5 a6 a7 : Memref sig .tc .vmem S128x512 .f32} {h1 : a1.IsWhole} {h2 : a2.IsWhole} {h3 : a3.IsWhole}
  {h4 : a4.IsWhole} {h5 : a5.IsWhole} {h6 : a6.IsWhole} {h7 : a7.IsWhole}
  {o : ℕ} {inb : ∀ a, (![0, o] : Fin 2 → ℕ) a + S128x64.size a ≤ S128x512.size a}

theorem AllReads.head (h : AllReads b f q kp kc vp vc go gl) (hd : Fin 8) (ho : o = 64 * hd.val) :
    Reads (b hd) f (rd a1 h1 o inb q) (rd a2 h2 o inb kp) (rd a3 h3 o inb kc) (rd a4 h4 o inb vp) (rd a5 h5 o inb vc) (rd a6 h6 o inb go) (rd a7 h7 o inb gl) where
  hq t d := (load_head a1 h1 q hd o ho inb t d).trans (h.hq hd t d)
  hkp t d := (load_head a2 h2 kp hd o ho inb t d).trans (h.hkp hd t d)
  hkc t d := (load_head a3 h3 kc hd o ho inb t d).trans (h.hkc hd t d)
  hvp t d := (load_head a4 h4 vp hd o ho inb t d).trans (h.hvp hd t d)
  hvc t d := (load_head a5 h5 vc hd o ho inb t d).trans (h.hvc hd t d)
  hgo t d := (load_head a6 h6 go hd o ho inb t d).trans (h.hgo hd t d)
  hgl t := (Finset.sum_congr rfl fun d _ => load_head a7 h7 gl hd o ho inb t d).trans (h.hgl hd t)
  hM := h.hM hd

end heads

/-! ## A tile of each result -/

/-- A tile's element, from its array index. -/
theorem at_head {hd : Fin 8} {y : S128x512.Idx} {x : S128x64.Idx} (e0 : (y 0).val = (x 0).val) (e1 : (y 1).val = 64 * hd.val + (x 1).val) :
    y = ix2 (n0 := 128) (n1 := 512) (x 0) (lane hd (x 1)) := Shape.idx_ext₂ e0 e1

theorem ix_eta (x : S128x64.Idx) : x = ix2 (n0 := 128) (n1 := 64) (x 0) (x 1) := Shape.idx_ext₂ rfl rfl

theorem slice_hi (x : FVec Ideal S256x64 .f32) (t : Fin 128) (d : Fin 64) :
    extractStridedSlice S128x64 ![128, 0] x slices_S256x64_o128_0_S128x64 (ix2 t d) = x (ix2 (hi t) d) :=
  extractStridedSlice_apply _ x _ _ _ (fun a => match a with | ⟨0, _⟩ => rfl | ⟨1, _⟩ => (Nat.zero_add _).symm)

theorem slice_lo (x : FVec Ideal S256x64 .f32) (t : Fin 128) (d : Fin 64) :
    extractStridedSlice S128x64 ![0, 0] x slices_S256x64_o0_0_S128x64 (ix2 t d) = x (ix2 (lo t) d) :=
  extractStridedSlice_apply _ x _ _ _ (fun a => match a with | ⟨0, _⟩ => (Nat.zero_add _).symm | ⟨1, _⟩ => (Nat.zero_add _).symm)

/-- The zero a gradient of k or v is added to. -/
abbrev zero64 : FVec Ideal S128x64 .f32 := broadcast S128x64 (Scalar.ofBits (F := Ideal) .f32 0x00000000#32)

theorem zero_add_apply (x : FVec Ideal S128x64 .f32) (y : S128x64.Idx) : addf zero64 x y = x y := by
  refine (congrArg (· + x y) Ideal.ofBits_zero_f32).trans (zero_add _)

/-- Each head's tile of a block. -/
theorem onHeads {P : Fin 8 → Fin 128 → Fin 64 → EReal} (hd : Fin 8) {y : S128x512.Idx} {x : S128x64.Idx} (e0 : (y 0).val = (x 0).val)
    (e1 : (y 1).val = 64 * hd.val + (x 1).val) : P hd (x 0) (x 1) = P (headOf (y 1)) (y 0) (laneOf (y 1)) := by
  rw [at_head e0 e1]
  exact (congrArg₂ (fun a d => P a (x 0) d) (headOf_lane hd (x 1)) (laneOf_lane hd (x 1))).symm

section tiles
variable {b : Spec.Block} {f : Bool} {q kp kc vp vc go gl : Vec Ideal S128x64 .f32} {lim : BitVec 32}
  (hr : Reads b f q kp kc vp vc go gl) (hl : lim = limit f)
include hr hl

theorem tileQ (x : S128x64.Idx) :
    hDq lim q kp kc vp vc go gl x
      = ((b.dq (x 0) (x 1) : ℝ) : EReal) := by
  subst hl
  rw [ix_eta x]
  exact dq_apply hr _ _

theorem tileK (cr : FVec Ideal S128x64 .f32) (x : S128x64.Idx) :
    addf (addf zero64 (extractStridedSlice S128x64 ![128, 0] (hDk lim q kp kc vp vc go gl) slices_S256x64_o128_0_S128x64)) cr x
      = ((b.dk (hi (x 0)) (x 1) : ℝ) : EReal) + cr x := by
  subst hl
  refine congrArg (· + cr x) ((zero_add_apply _ x).trans ?_)
  rw [ix_eta x]
  exact (slice_hi _ _ _).trans (dk_apply hr _ _)

theorem tileV (cr : FVec Ideal S128x64 .f32) (x : S128x64.Idx) :
    addf (addf zero64 (extractStridedSlice S128x64 ![128, 0] (hDv lim q kp kc go) slices_S256x64_o128_0_S128x64)) cr x
      = ((b.dv (hi (x 0)) (x 1) : ℝ) : EReal) + cr x := by
  subst hl
  refine congrArg (· + cr x) ((zero_add_apply _ x).trans ?_)
  rw [ix_eta x]
  exact (slice_hi _ _ _).trans (dv_apply hr _ _)

theorem carryK (x : S128x64.Idx) :
    shapeCast S128x64 (addf zero64 (extractStridedSlice S128x64 ![0, 0] (hDk lim q kp kc vp vc go gl) slices_S256x64_o0_0_S128x64)) shapeCasts_S128x64_S128x64 x
      = ((b.dk (lo (x 0)) (x 1) : ℝ) : EReal) := by
  subst hl
  rw [same]
  refine (zero_add_apply _ x).trans ?_
  rw [ix_eta x]
  exact (slice_lo _ _ _).trans (dk_apply hr _ _)

theorem carryV (x : S128x64.Idx) :
    shapeCast S128x64 (addf zero64 (extractStridedSlice S128x64 ![0, 0] (hDv lim q kp kc go) slices_S256x64_o0_0_S128x64)) shapeCasts_S128x64_S128x64 x
      = ((b.dv (lo (x 0)) (x 1) : ℝ) : EReal) := by
  subst hl
  rw [same]
  refine (zero_add_apply _ x).trans ?_
  rw [ix_eta x]
  exact (slice_lo _ _ _).trans (dv_apply hr _ _)

end tiles

/-! ## The same at an index of the whole block -/

section whole

variable {b : Fin 8 → Spec.Block} {f : Bool} {q kp kc vp vc go gl : Vec Ideal S128x512 .f32} {lim : BitVec 32}
  {a1 a2 a3 a4 a5 a6 a7 : Memref sig .tc .vmem S128x512 .f32} {h1 : a1.IsWhole} {h2 : a2.IsWhole} {h3 : a3.IsWhole}
  {h4 : a4.IsWhole} {h5 : a5.IsWhole} {h6 : a6.IsWhole} {h7 : a7.IsWhole}
  {o : ℕ} {inb : ∀ a, (![0, o] : Fin 2 → ℕ) a + S128x64.size a ≤ S128x512.size a}
  (hr : AllReads b f q kp kc vp vc go gl) (hl : lim = limit f) (hd : Fin 8) (ho : o = 64 * hd.val)
  {y : S128x512.Idx} {x : S128x64.Idx} (e0 : (y 0).val = (x 0).val) (e1 : (y 1).val = 64 * hd.val + (x 1).val)

/-- The three gradients' blocks and the two carried ones, at an index. -/
abbrev outQ (b : Fin 8 → Spec.Block) (y : S128x512.Idx) : EReal := (((b (headOf (y 1))).dq (y 0) (laneOf (y 1)) : ℝ) : EReal)
abbrev outK (b : Fin 8 → Spec.Block) (y : S128x512.Idx) : EReal := (((b (headOf (y 1))).dk (hi (y 0)) (laneOf (y 1)) : ℝ) : EReal)
abbrev outV (b : Fin 8 → Spec.Block) (y : S128x512.Idx) : EReal := (((b (headOf (y 1))).dv (hi (y 0)) (laneOf (y 1)) : ℝ) : EReal)
abbrev outCk (b : Fin 8 → Spec.Block) (y : S128x512.Idx) : EReal := (((b (headOf (y 1))).dk (lo (y 0)) (laneOf (y 1)) : ℝ) : EReal)
abbrev outCv (b : Fin 8 → Spec.Block) (y : S128x512.Idx) : EReal := (((b (headOf (y 1))).dv (lo (y 0)) (laneOf (y 1)) : ℝ) : EReal)

include ho e0 e1 in
theorem load_at (a : Memref sig .tc .vmem S128x512 .f32) (ha : a.IsWhole) (s : Vec Ideal S128x512 .f32) : rd a ha o inb s x = s y := by
  rw [at_head e0 e1]
  exact (congrArg (rd a ha o inb s) (ix_eta x)).trans (load_head a ha s hd o ho inb _ _)

include hr hl ho e0 e1

theorem AllReads.dq : hDq lim (rd a1 h1 o inb q) (rd a2 h2 o inb kp) (rd a3 h3 o inb kc) (rd a4 h4 o inb vp) (rd a5 h5 o inb vc) (rd a6 h6 o inb go) (rd a7 h7 o inb gl) x = outQ b y :=
  (tileQ (hr.head hd ho) hl x).trans (onHeads (P := fun hd t d => (((b hd).dq t d : ℝ) : EReal)) hd e0 e1)

theorem AllReads.dk (cr : FVec Ideal S128x64 .f32) {v : EReal} (hc : cr x = v) :
    addf (addf zero64 (extractStridedSlice S128x64 ![128, 0] (hDk lim (rd a1 h1 o inb q) (rd a2 h2 o inb kp) (rd a3 h3 o inb kc) (rd a4 h4 o inb vp) (rd a5 h5 o inb vc) (rd a6 h6 o inb go) (rd a7 h7 o inb gl)) slices_S256x64_o128_0_S128x64)) cr x = outK b y + v :=
  (tileK (hr.head hd ho) hl cr x).trans (congrArg₂ (· + ·) (onHeads (P := fun hd t d => (((b hd).dk (hi t) d : ℝ) : EReal)) hd e0 e1) hc)

theorem AllReads.dv (cr : FVec Ideal S128x64 .f32) {v : EReal} (hc : cr x = v) :
    addf (addf zero64 (extractStridedSlice S128x64 ![128, 0] (hDv lim (rd a1 h1 o inb q) (rd a2 h2 o inb kp) (rd a3 h3 o inb kc) (rd a6 h6 o inb go)) slices_S256x64_o128_0_S128x64)) cr x = outV b y + v :=
  (tileV (hr.head (a4 := a1) (h4 := h1) (a5 := a1) (h5 := h1) (a7 := a1) (h7 := h1) hd ho) hl cr x).trans (congrArg₂ (· + ·) (onHeads (P := fun hd t d => (((b hd).dv (hi t) d : ℝ) : EReal)) hd e0 e1) hc)

theorem AllReads.ck : shapeCast S128x64 (addf zero64 (extractStridedSlice S128x64 ![0, 0] (hDk lim (rd a1 h1 o inb q) (rd a2 h2 o inb kp) (rd a3 h3 o inb kc) (rd a4 h4 o inb vp) (rd a5 h5 o inb vc) (rd a6 h6 o inb go) (rd a7 h7 o inb gl)) slices_S256x64_o0_0_S128x64)) shapeCasts_S128x64_S128x64 x = outCk b y :=
  (carryK (hr.head hd ho) hl x).trans (onHeads (P := fun hd t d => (((b hd).dk (lo t) d : ℝ) : EReal)) hd e0 e1)

theorem AllReads.cv : shapeCast S128x64 (addf zero64 (extractStridedSlice S128x64 ![0, 0] (hDv lim (rd a1 h1 o inb q) (rd a2 h2 o inb kp) (rd a3 h3 o inb kc) (rd a6 h6 o inb go)) slices_S256x64_o0_0_S128x64)) shapeCasts_S128x64_S128x64 x = outCv b y :=
  (carryV (hr.head (a4 := a1) (h4 := h1) (a5 := a1) (h5 := h1) (a7 := a1) (h7 := h1) hd ho) hl x).trans (onHeads (P := fun hd t d => (((b hd).dv (lo t) d : ℝ) : EReal)) hd e0 e1)

end whole

/-! ## The results at a later point -/

section later

variable (m : (ℓ : Loc nD τ sig) → Buf (Elt Ideal) ℓ) (c : Dev nD) (t : Fin cfg0.N)
  {b : Fin 8 → Spec.Block} {f : Bool} (hl : kernelRun0_B.sl.v15 (grid0.coords t) = limit f)
  (hr : AllReads b f (iblk m c 0 t) (iblk m c 1 t) (iblk m c 2 t) (iblk m c 3 t) (iblk m c 4 t) (iblk m c 5 t) (iblk m c 6 t))
  (h : ¬t.val % 32 = 0) (s0 s1 : Vec Ideal S128x512 .f32)
include hl hr

theorem dqB (y : S128x512.Idx) : View.canon (runB m c t h s0 s1).1 y = outQ b y := by
  unfold runB kernelRun0_B
  canon_tiles x hx
  case piece0 => exact hr.dq hl 7 rfl hx0 hx1
  case piece1 => exact hr.dq hl 6 rfl hx0 hx1
  case piece2 => exact hr.dq hl 5 rfl hx0 hx1
  case piece3 => exact hr.dq hl 4 rfl hx0 hx1
  case piece4 => exact hr.dq hl 3 rfl hx0 hx1
  case piece5 => exact hr.dq hl 2 rfl hx0 hx1
  case piece6 => exact hr.dq hl 1 rfl hx0 hx1
  case piece7 => exact hr.dq hl 0 rfl hx0 (hx1.trans (Nat.zero_add _).symm)

theorem dkB (y : S128x512.Idx) : View.canon (runB m c t h s0 s1).2.1 y = outK b y + s0 y := by
  unfold runB kernelRun0_B
  canon_tiles x hx
  case piece0 => exact hr.dk hl 7 rfl hx0 hx1 _ (load_at 7 rfl hx0 hx1 _ _ s0)
  case piece1 => exact hr.dk hl 6 rfl hx0 hx1 _ (load_at 6 rfl hx0 hx1 _ _ s0)
  case piece2 => exact hr.dk hl 5 rfl hx0 hx1 _ (load_at 5 rfl hx0 hx1 _ _ s0)
  case piece3 => exact hr.dk hl 4 rfl hx0 hx1 _ (load_at 4 rfl hx0 hx1 _ _ s0)
  case piece4 => exact hr.dk hl 3 rfl hx0 hx1 _ (load_at 3 rfl hx0 hx1 _ _ s0)
  case piece5 => exact hr.dk hl 2 rfl hx0 hx1 _ (load_at 2 rfl hx0 hx1 _ _ s0)
  case piece6 => exact hr.dk hl 1 rfl hx0 hx1 _ (load_at 1 rfl hx0 hx1 _ _ s0)
  case piece7 => exact hr.dk hl 0 rfl hx0 (hx1.trans (Nat.zero_add _).symm) _ (load_at 0 rfl hx0 (hx1.trans (Nat.zero_add _).symm) _ _ s0)

theorem dvB (y : S128x512.Idx) : View.canon (runB m c t h s0 s1).2.2.1 y = outV b y + s1 y := by
  unfold runB kernelRun0_B
  canon_tiles x hx
  case piece0 => exact hr.dv hl 7 rfl hx0 hx1 _ (load_at 7 rfl hx0 hx1 _ _ s1)
  case piece1 => exact hr.dv hl 6 rfl hx0 hx1 _ (load_at 6 rfl hx0 hx1 _ _ s1)
  case piece2 => exact hr.dv hl 5 rfl hx0 hx1 _ (load_at 5 rfl hx0 hx1 _ _ s1)
  case piece3 => exact hr.dv hl 4 rfl hx0 hx1 _ (load_at 4 rfl hx0 hx1 _ _ s1)
  case piece4 => exact hr.dv hl 3 rfl hx0 hx1 _ (load_at 3 rfl hx0 hx1 _ _ s1)
  case piece5 => exact hr.dv hl 2 rfl hx0 hx1 _ (load_at 2 rfl hx0 hx1 _ _ s1)
  case piece6 => exact hr.dv hl 1 rfl hx0 hx1 _ (load_at 1 rfl hx0 hx1 _ _ s1)
  case piece7 => exact hr.dv hl 0 rfl hx0 (hx1.trans (Nat.zero_add _).symm) _ (load_at 0 rfl hx0 (hx1.trans (Nat.zero_add _).symm) _ _ s1)

theorem ckB (y : S128x512.Idx) : View.canon (runB m c t h s0 s1).2.2.2.1 y = outCk b y := by
  unfold runB kernelRun0_B
  canon_tiles x hx
  case piece0 => exact hr.ck hl 7 rfl hx0 hx1
  case piece1 => exact hr.ck hl 6 rfl hx0 hx1
  case piece2 => exact hr.ck hl 5 rfl hx0 hx1
  case piece3 => exact hr.ck hl 4 rfl hx0 hx1
  case piece4 => exact hr.ck hl 3 rfl hx0 hx1
  case piece5 => exact hr.ck hl 2 rfl hx0 hx1
  case piece6 => exact hr.ck hl 1 rfl hx0 hx1
  case piece7 => exact hr.ck hl 0 rfl hx0 (hx1.trans (Nat.zero_add _).symm)

theorem cvB (y : S128x512.Idx) : View.canon (runB m c t h s0 s1).2.2.2.2.1 y = outCv b y := by
  unfold runB kernelRun0_B
  canon_tiles x hx
  case piece0 => exact hr.cv hl 7 rfl hx0 hx1
  case piece1 => exact hr.cv hl 6 rfl hx0 hx1
  case piece2 => exact hr.cv hl 5 rfl hx0 hx1
  case piece3 => exact hr.cv hl 4 rfl hx0 hx1
  case piece4 => exact hr.cv hl 3 rfl hx0 hx1
  case piece5 => exact hr.cv hl 2 rfl hx0 hx1
  case piece6 => exact hr.cv hl 1 rfl hx0 hx1
  case piece7 => exact hr.cv hl 0 rfl hx0 (hx1.trans (Nat.zero_add _).symm)

end later

/-! ## The results at the first point: the carried buffers are zero before it -/

theorem tile_inb (hd : Fin 8) (a : Fin 2) : (![0, 64 * hd.val] : Fin 2 → ℕ) a + S128x64.size a ≤ S128x512.size a := by
  revert a hd; decide

/-- A tile placed in the block, from the tile at an index. -/
theorem emb_tile (hd : Fin 8) {pay : S128x64.Idx → EReal} {G : S128x512.Idx → EReal}
    (H : ∀ {y : S128x512.Idx} {x : S128x64.Idx}, (y 0).val = (x 0).val → (y 1).val = 64 * hd.val + (x 1).val → pay x = G y)
    (x : S128x64.Idx) : pay x = G ((Rect.unit (s := S128x512) ![0, 64 * hd.val] S128x64.size (tile_inb hd)).emb x) :=
  H (by show 0 + 1 * (x 0).val = (x 0).val; omega) (by show 64 * hd.val + 1 * (x 1).val = 64 * hd.val + (x 1).val; omega)

/-- A head's lanes of a buffer filled with zeros. -/
theorem load_zero {o : ℕ} {inb : ∀ a, (![0, o] : Fin 2 → ℕ) a + S128x64.size a ≤ S128x512.size a} (M : Memref sig .tc .vmem S128x512 .f32)
    (Z : Vec Ideal S128x512 .f32) (hZ : ∀ y, Z y = 0) (x : S128x64.Idx) :
    View.readCov (Val := Elt Ideal) M.view [⟨Rect.unit ![0, 0] S128x512.size inb_S128x512_S128x512_0_0, Z⟩] (Rect.unit (s := S128x512) ![0, o] S128x64.size inb).toLoadRect x = 0 := by
  rw [View.readCov_fill M.view inb_S128x512_S128x512_0_0 Z [] _ (fun a => by fin_cases a <;> rfl)]
  exact hZ _

theorem fill0 (y : S128x512.Idx) : k0_pay2 (F := Ideal) y = 0 := by
  unfold k0_pay2
  rw [same]
  exact Ideal.ofBits_zero_f32

theorem fill1 (y : S128x512.Idx) : k0_pay3 (F := Ideal) y = 0 := by
  unfold k0_pay3
  rw [same]
  exact Ideal.ofBits_zero_f32

section first

variable (m : (ℓ : Loc nD τ sig) → Buf (Elt Ideal) ℓ) (c : Dev nD) (t : Fin cfg0.N)
  {b : Fin 8 → Spec.Block} {f : Bool} (hl : kernelRun0_A.sl.v15 (grid0.coords t) = limit f)
  (hr : AllReads b f (iblk m c 0 t) (iblk m c 1 t) (iblk m c 2 t) (iblk m c 3 t) (iblk m c 4 t) (iblk m c 5 t) (iblk m c 6 t))
  (h : t.val % 32 = 0)
include hl hr

theorem dqA (y : S128x512.Idx) : View.canon (runA m c t h).1 y = outQ b y := by
  unfold runA kernelRun0_A
  canon_tiles x hx
  case piece0 => exact hr.dq hl 7 rfl hx0 hx1
  case piece1 => exact hr.dq hl 6 rfl hx0 hx1
  case piece2 => exact hr.dq hl 5 rfl hx0 hx1
  case piece3 => exact hr.dq hl 4 rfl hx0 hx1
  case piece4 => exact hr.dq hl 3 rfl hx0 hx1
  case piece5 => exact hr.dq hl 2 rfl hx0 hx1
  case piece6 => exact hr.dq hl 1 rfl hx0 hx1
  case piece7 => exact hr.dq hl 0 rfl hx0 (hx1.trans (Nat.zero_add _).symm)

theorem dkA (y : S128x512.Idx) : View.canon (runA m c t h).2.1 y = outK b y + 0 := by
  unfold runA kernelRun0_A
  canon_tiles x hx
  case piece0 => exact hr.dk hl 7 rfl hx0 hx1 _ (load_zero _ _ fill0 _)
  case piece1 => exact hr.dk hl 6 rfl hx0 hx1 _ (load_zero _ _ fill0 _)
  case piece2 => exact hr.dk hl 5 rfl hx0 hx1 _ (load_zero _ _ fill0 _)
  case piece3 => exact hr.dk hl 4 rfl hx0 hx1 _ (load_zero _ _ fill0 _)
  case piece4 => exact hr.dk hl 3 rfl hx0 hx1 _ (load_zero _ _ fill0 _)
  case piece5 => exact hr.dk hl 2 rfl hx0 hx1 _ (load_zero _ _ fill0 _)
  case piece6 => exact hr.dk hl 1 rfl hx0 hx1 _ (load_zero _ _ fill0 _)
  case piece7 => exact hr.dk hl 0 rfl hx0 (hx1.trans (Nat.zero_add _).symm) _ (load_zero _ _ fill0 _)

theorem dvA (y : S128x512.Idx) : View.canon (runA m c t h).2.2.1 y = outV b y + 0 := by
  unfold runA kernelRun0_A
  canon_tiles x hx
  case piece0 => exact hr.dv hl 7 rfl hx0 hx1 _ (load_zero _ _ fill1 _)
  case piece1 => exact hr.dv hl 6 rfl hx0 hx1 _ (load_zero _ _ fill1 _)
  case piece2 => exact hr.dv hl 5 rfl hx0 hx1 _ (load_zero _ _ fill1 _)
  case piece3 => exact hr.dv hl 4 rfl hx0 hx1 _ (load_zero _ _ fill1 _)
  case piece4 => exact hr.dv hl 3 rfl hx0 hx1 _ (load_zero _ _ fill1 _)
  case piece5 => exact hr.dv hl 2 rfl hx0 hx1 _ (load_zero _ _ fill1 _)
  case piece6 => exact hr.dv hl 1 rfl hx0 hx1 _ (load_zero _ _ fill1 _)
  case piece7 => exact hr.dv hl 0 rfl hx0 (hx1.trans (Nat.zero_add _).symm) _ (load_zero _ _ fill1 _)

theorem ckA (y : S128x512.Idx) : View.canon (runA m c t h).2.2.2.1 y = outCk b y := by
  unfold runA kernelRun0_A
  refine View.canon_append_of_piecesOf (Val := Elt Ideal) (outCk b) kernelRun0_A.sl.HS0_1 [_, _, _, _, _, _, _, _] ?_ y ?_
  · exact ⟨emb_tile 7 (hr.ck hl 7 rfl), emb_tile 6 (hr.ck hl 6 rfl), emb_tile 5 (hr.ck hl 5 rfl), emb_tile 4 (hr.ck hl 4 rfl), emb_tile 3 (hr.ck hl 3 rfl), emb_tile 2 (hr.ck hl 2 rfl), emb_tile 1 (hr.ck hl 1 rfl), emb_tile 0 (hr.ck hl 0 rfl), trivial⟩
  · exact View.cover_of_tiledL (s := S128x512) _ S128x64.size (by sl_kernel_rfl) y

theorem cvA (y : S128x512.Idx) : View.canon (runA m c t h).2.2.2.2.1 y = outCv b y := by
  unfold runA kernelRun0_A
  refine View.canon_append_of_piecesOf (Val := Elt Ideal) (outCv b) kernelRun0_A.sl.HS1_1 [_, _, _, _, _, _, _, _] ?_ y ?_
  · exact ⟨emb_tile 7 (hr.cv hl 7 rfl), emb_tile 6 (hr.cv hl 6 rfl), emb_tile 5 (hr.cv hl 5 rfl), emb_tile 4 (hr.cv hl 4 rfl), emb_tile 3 (hr.cv hl 3 rfl), emb_tile 2 (hr.cv hl 2 rfl), emb_tile 1 (hr.cv hl 1 rfl), emb_tile 0 (hr.cv hl 0 rfl), trivial⟩
  · exact View.cover_of_tiledL (s := S128x512) _ S128x64.size (by sl_kernel_rfl) y

end first

end Cert.Proof.Block

end
-- ==== Proof.KernelValue.lean ====
/-
  The kernel's three result arrays, at the real values: every element is the gradient of the block and head it stands
  in, plus, for k and v, what the block after adds.
-/
module

public import proofs.«01_k».proof.Proof.Block

@[expose] public section

set_option maxRecDepth 16384

noncomputable section

namespace Cert.Proof.KernelValue

open Cert.KernelIdeal Cert.KernelIdeal.Gen Cert.Proof.Body Cert.Proof.Block
open Cert.Proof.Spec (Args lo hi lane headOf laneOf headOf_lane laneOf_lane lane_of row srow blockOf rowOf srow_of prev isFirst)
open Idealize.ShloMosaic hiding ix2 ix3
open Idealize.ShloMosaic.ValueIdx Idealize.ShloMosaic.TcCoe Idealize.ShloMosaic.Tactic Idealize.SL.Sem
open scoped BigOperators

variable (m : (ℓ : Loc nD τ sig) → Buf (Elt Ideal) ℓ) (c : Dev nD)

/-! ## The host's reordering of the rows -/

/-- An argument with its rows taken class by class. -/
def strided (x : Vec Ideal S4096x512 .f32) : Vec Ideal S4096x512 .f32 :=
  shapeCast S4096x512 (transpose S4x1024x512 [1, 0, 2] (shapeCast S1024x4x512 x shapeCasts_S4096x512_S1024x4x512)
    transposes_S1024x4x512_S4x1024x512_1_0_2) shapeCasts_S4x1024x512_S4096x512

theorem strided_apply (x : Vec Ideal S4096x512 .f32) (b : Fin 32) (t : Fin 128) (y : Fin 512) :
    strided x (ix2 (srow b t) y) = x (ix2 (row b t) y) := by
  have hb := b.isLt
  have ht := t.isLt
  unfold strided
  rw [shapeCast_apply _ shapeCasts_S4x1024x512_S4096x512 (ix2 (srow b t) y)
    (ix3 (n0 := 4) (n1 := 1024) (n2 := 512) ⟨b.val / 8, by omega⟩ ⟨128 * (b.val % 8) + t.val, by omega⟩ y)
    (by rw [Shape.rowMajor_val_three, Shape.rowMajor_val_two]; show (b.val / 8 * 1024 + (128 * (b.val % 8) + t.val)) * 512 + y.val = (128 * b.val + t.val) * 512 + y.val; omega)]
  rw [transpose_apply [1, 0, 2] _ transposes_S1024x4x512_S4x1024x512_1_0_2 _
    (ix3 (n0 := 1024) (n1 := 4) (n2 := 512) ⟨128 * (b.val % 8) + t.val, by omega⟩ ⟨b.val / 8, by omega⟩ y)
    (fun a => match a with | ⟨0, _⟩ => rfl | ⟨1, _⟩ => rfl | ⟨2, _⟩ => rfl)]
  exact shapeCast_apply _ shapeCasts_S4096x512_S1024x4x512 _ (ix2 (row b t) y)
    (by rw [Shape.rowMajor_val_three, Shape.rowMajor_val_two]; show (4 * (128 * (b.val % 8) + t.val) + b.val / 8) * 512 + y.val = ((128 * (b.val % 8) + t.val) * 4 + b.val / 8) * 512 + y.val; omega)

/-- The five operands as the kernel finds them. -/
theorem V_q : V m c main_v2 = strided (m ((c : Thread nD τ).loc main_arg0)) := by
  unfold_abbrev_sides; after_results; rfl
theorem V_k : V m c main_v5 = strided (m ((c : Thread nD τ).loc main_arg1)) := by
  unfold_abbrev_sides; after_results; rfl
theorem V_v : V m c main_v8 = strided (m ((c : Thread nD τ).loc main_arg2)) := by
  unfold_abbrev_sides; after_results; rfl
theorem V_go : V m c main_v11 = strided (m ((c : Thread nD τ).loc main_arg3)) := by
  unfold_abbrev_sides; after_results; rfl
theorem V_gl : V m c main_v14 = strided (m ((c : Thread nD τ).loc main_arg4)) := by
  unfold_abbrev_sides; after_results; rfl

/-! ## The blocks of a point -/

theorem lt32 (t : Fin cfg0.N) : t.val < 32 := lt_of_lt_of_eq t.isLt (show cfg0.N = 32 from N_0)

/-- The points run through the blocks from the last to the first. -/
def bk (t : Fin cfg0.N) : Fin 32 := ⟨31 - t.val, by omega⟩

theorem idx_own : ∀ t : Fin cfg0.N, ((cfg0.win 0).index t 0 = 31 - t.val ∧ (cfg0.win 0).index t 1 = 0)
    ∧ ((cfg0.win 2).index t 0 = 31 - t.val ∧ (cfg0.win 2).index t 1 = 0)
    ∧ ((cfg0.win 4).index t 0 = 31 - t.val ∧ (cfg0.win 4).index t 1 = 0)
    ∧ ((cfg0.win 5).index t 0 = 31 - t.val ∧ (cfg0.win 5).index t 1 = 0)
    ∧ ((cfg0.win 6).index t 0 = 31 - t.val ∧ (cfg0.win 6).index t 1 = 0) := by decide +kernel
theorem idx_out : ∀ t : Fin cfg0.N, ((cfg0.win 7).index t 0 = 31 - t.val ∧ (cfg0.win 7).index t 1 = 0)
    ∧ ((cfg0.win 8).index t 0 = 31 - t.val ∧ (cfg0.win 8).index t 1 = 0)
    ∧ ((cfg0.win 9).index t 0 = 31 - t.val ∧ (cfg0.win 9).index t 1 = 0) := by decide +kernel
theorem idx_prev : ∀ t : Fin cfg0.N, ((cfg0.win 1).index t 0 = 31 - t.val - 1 ∧ (cfg0.win 1).index t 1 = 0)
    ∧ ((cfg0.win 3).index t 0 = 31 - t.val - 1 ∧ (cfg0.win 3).index t 1 = 0) := by decide +kernel

theorem lim_A : ∀ t : Fin cfg0.N, kernelRun0_A.sl.v15 (grid0.coords t) = Head.limit (isFirst (bk t)) := by decide +kernel
theorem lim_B : ∀ t : Fin cfg0.N, kernelRun0_B.sl.v15 (grid0.coords t) = Head.limit (isFirst (bk t)) := by decide +kernel

variable (t : Fin cfg0.N) (r : Fin 128) (y : Fin 512)

theorem blk_0 : iblk m c 0 t (ix2 r y) = m ((c : Thread nD τ).loc main_arg0) (ix2 (row (bk t) r) y) := by
  refine Eq.trans ?_ ((congrFun (V_q m c) (ix2 (srow (bk t) r) y)).trans (strided_apply _ _ _ _))
  refine congrArg (V m c main_v2) (Shape.idx_ext₂ ?_ ?_)
  · blk_simp [(idx_own t).1.1]; show (31 - t.val) * 128 + r.val = 128 * (31 - t.val) + r.val; omega
  · blk_simp [(idx_own t).1.2]

theorem blk_1 : iblk m c 1 t (ix2 r y) = m ((c : Thread nD τ).loc main_arg1) (ix2 (row (prev (bk t)) r) y) := by
  refine Eq.trans ?_ ((congrFun (V_k m c) (ix2 (srow (prev (bk t)) r) y)).trans (strided_apply _ _ _ _))
  refine congrArg (V m c main_v5) (Shape.idx_ext₂ ?_ ?_)
  · blk_simp [(idx_prev t).1.1]; show (31 - t.val - 1) * 128 + r.val = 128 * (31 - t.val - 1) + r.val; omega
  · blk_simp [(idx_prev t).1.2]

theorem blk_2 : iblk m c 2 t (ix2 r y) = m ((c : Thread nD τ).loc main_arg1) (ix2 (row (bk t) r) y) := by
  refine Eq.trans ?_ ((congrFun (V_k m c) (ix2 (srow (bk t) r) y)).trans (strided_apply _ _ _ _))
  refine congrArg (V m c main_v5) (Shape.idx_ext₂ ?_ ?_)
  · blk_simp [(idx_own t).2.1.1]; show (31 - t.val) * 128 + r.val = 128 * (31 - t.val) + r.val; omega
  · blk_simp [(idx_own t).2.1.2]

theorem blk_3 : iblk m c 3 t (ix2 r y) = m ((c : Thread nD τ).loc main_arg2) (ix2 (row (prev (bk t)) r) y) := by
  refine Eq.trans ?_ ((congrFun (V_v m c) (ix2 (srow (prev (bk t)) r) y)).trans (strided_apply _ _ _ _))
  refine congrArg (V m c main_v8) (Shape.idx_ext₂ ?_ ?_)
  · blk_simp [(idx_prev t).2.1]; show (31 - t.val - 1) * 128 + r.val = 128 * (31 - t.val - 1) + r.val; omega
  · blk_simp [(idx_prev t).2.2]

theorem blk_4 : iblk m c 4 t (ix2 r y) = m ((c : Thread nD τ).loc main_arg2) (ix2 (row (bk t) r) y) := by
  refine Eq.trans ?_ ((congrFun (V_v m c) (ix2 (srow (bk t) r) y)).trans (strided_apply _ _ _ _))
  refine congrArg (V m c main_v8) (Shape.idx_ext₂ ?_ ?_)
  · blk_simp [(idx_own t).2.2.1.1]; show (31 - t.val) * 128 + r.val = 128 * (31 - t.val) + r.val; omega
  · blk_simp [(idx_own t).2.2.1.2]

theorem blk_5 : iblk m c 5 t (ix2 r y) = m ((c : Thread nD τ).loc main_arg3) (ix2 (row (bk t) r) y) := by
  refine Eq.trans ?_ ((congrFun (V_go m c) (ix2 (srow (bk t) r) y)).trans (strided_apply _ _ _ _))
  refine congrArg (V m c main_v11) (Shape.idx_ext₂ ?_ ?_)
  · blk_simp [(idx_own t).2.2.2.1.1]; show (31 - t.val) * 128 + r.val = 128 * (31 - t.val) + r.val; omega
  · blk_simp [(idx_own t).2.2.2.1.2]

theorem blk_6 : iblk m c 6 t (ix2 r y) = m ((c : Thread nD τ).loc main_arg4) (ix2 (row (bk t) r) y) := by
  refine Eq.trans ?_ ((congrFun (V_gl m c) (ix2 (srow (bk t) r) y)).trans (strided_apply _ _ _ _))
  refine congrArg (V m c main_v14) (Shape.idx_ext₂ ?_ ?_)
  · blk_simp [(idx_own t).2.2.2.2.1]; show (31 - t.val) * 128 + r.val = 128 * (31 - t.val) + r.val; omega
  · blk_simp [(idx_own t).2.2.2.2.2]

/-! ## What each point leaves -/

/-- The five arguments hold the real arrays `a`. -/
structure Holds (a : Args) (x0 x1 x2 x3 x4 : Vec Ideal S4096x512 .f32) : Prop where
  hq : ∀ s y, x0 (ix2 s y) = ((a.q s y : ℝ) : EReal)
  hk : ∀ s y, x1 (ix2 s y) = ((a.k s y : ℝ) : EReal)
  hv : ∀ s y, x2 (ix2 s y) = ((a.v s y : ℝ) : EReal)
  hgo : ∀ s y, x3 (ix2 s y) = ((a.go s y : ℝ) : EReal)
  hgl : ∀ s y, x4 (ix2 s y) = ((a.gl s y : ℝ) : EReal)

variable {a : Args} (H : Holds a (m ((c : Thread nD τ).loc main_arg0)) (m ((c : Thread nD τ).loc main_arg1)) (m ((c : Thread nD τ).loc main_arg2))
  (m ((c : Thread nD τ).loc main_arg3)) (m ((c : Thread nD τ).loc main_arg4)))
include H

theorem reads (t : Fin cfg0.N) : AllReads (a.block (bk t)) (isFirst (bk t)) (iblk m c 0 t) (iblk m c 1 t) (iblk m c 2 t) (iblk m c 3 t) (iblk m c 4 t) (iblk m c 5 t) (iblk m c 6 t) where
  hq hd r d := (blk_0 m c t r _).trans (H.hq _ _)
  hkp hd r d := (blk_1 m c t r _).trans ((H.hk _ _).trans (congrArg _ (a.K_lo (bk t) hd r d).symm))
  hkc hd r d := (blk_2 m c t r _).trans ((H.hk _ _).trans (congrArg _ (a.K_hi (bk t) hd r d).symm))
  hvp hd r d := (blk_3 m c t r _).trans ((H.hv _ _).trans (congrArg _ (a.V_lo (bk t) hd r d).symm))
  hvc hd r d := (blk_4 m c t r _).trans ((H.hv _ _).trans (congrArg _ (a.V_hi (bk t) hd r d).symm))
  hgo hd r d := (blk_5 m c t r _).trans (H.hgo _ _)
  hgl hd r := by
    have e : ∀ d, (iblk m c 6 t (ix2 r (lane hd d)) : EReal) = ((a.gl (row (bk t) r) (lane hd d) : ℝ) : EReal) :=
      fun d => (blk_6 m c t r _).trans (H.hgl _ _)
    exact (congrArg (fun g : Fin 64 → EReal => ∑ d, g d) (funext e)).trans (Head.coe_sum _ _)
  hM hd := rfl

theorem left_q (t : Fin cfg0.N) (y : S128x512.Idx) : (left m c t.val t.isLt).dq y = outQ (a.block (bk t)) y := by
  by_cases h : t.val % 32 = 0
  · rw [left_A m c t h]; exact dqA m c t (lim_A t) (reads m c H t) h y
  · rw [left_B m c t h]; exact dqB m c t (lim_B t) (reads m c H t) h (prior m c t).ck (prior m c t).cv y

theorem left_ck (t : Fin cfg0.N) (y : S128x512.Idx) : (left m c t.val t.isLt).ck y = outCk (a.block (bk t)) y := by
  by_cases h : t.val % 32 = 0
  · rw [left_A m c t h]; exact ckA m c t (lim_A t) (reads m c H t) h y
  · rw [left_B m c t h]; exact ckB m c t (lim_B t) (reads m c H t) h (prior m c t).ck (prior m c t).cv y

theorem left_cv (t : Fin cfg0.N) (y : S128x512.Idx) : (left m c t.val t.isLt).cv y = outCv (a.block (bk t)) y := by
  by_cases h : t.val % 32 = 0
  · rw [left_A m c t h]; exact cvA m c t (lim_A t) (reads m c H t) h y
  · rw [left_B m c t h]; exact cvB m c t (lim_B t) (reads m c H t) h (prior m c t).ck (prior m c t).cv y

omit H in
/-- The point before stands at the block after. -/
theorem bk_prior (h : ¬t.val % 32 = 0) (hp : t.val - 1 < cfg0.N) (h32 : (bk t).val + 1 < 32) : bk ⟨t.val - 1, hp⟩ = ⟨(bk t).val + 1, h32⟩ :=
  Fin.ext (by have := lt32 t; show 31 - (t.val - 1) = 31 - t.val + 1; omega)

theorem left_k (t : Fin cfg0.N) (y : S128x512.Idx) :
    (left m c t.val t.isLt).dk y = ((a.dk (bk t) (headOf (y 1)) (y 0) (laneOf (y 1)) : ℝ) : EReal) := by
  have ht := lt32 t
  unfold Args.dk Args.nextK
  by_cases h : t.val % 32 = 0
  · rw [left_A m c t h, dif_neg (by show ¬(31 - t.val + 1 < 32); omega), add_zero]
    exact (dkA m c t (lim_A t) (reads m c H t) h y).trans (add_zero _)
  · have h32 : (bk t).val + 1 < 32 := by show 31 - t.val + 1 < 32; omega
    rw [left_B m c t h, dif_pos h32, EReal.coe_add]
    refine (dkB m c t (lim_B t) (reads m c H t) h (prior m c t).ck (prior m c t).cv y).trans (congrArg₂ (· + ·) rfl ?_)
    refine (left_ck m c H ⟨t.val - 1, Nat.lt_of_le_of_lt (Nat.sub_le _ _) t.isLt⟩ y).trans ?_
    rw [bk_prior t h _ h32]

theorem left_v (t : Fin cfg0.N) (y : S128x512.Idx) :
    (left m c t.val t.isLt).dv y = ((a.dv (bk t) (headOf (y 1)) (y 0) (laneOf (y 1)) : ℝ) : EReal) := by
  have ht := lt32 t
  unfold Args.dv Args.nextV
  by_cases h : t.val % 32 = 0
  · rw [left_A m c t h, dif_neg (by show ¬(31 - t.val + 1 < 32); omega), add_zero]
    exact (dvA m c t (lim_A t) (reads m c H t) h y).trans (add_zero _)
  · have h32 : (bk t).val + 1 < 32 := by show 31 - t.val + 1 < 32; omega
    rw [left_B m c t h, dif_pos h32, EReal.coe_add]
    refine (dvB m c t (lim_B t) (reads m c H t) h (prior m c t).ck (prior m c t).cv y).trans (congrArg₂ (· + ·) rfl ?_)
    refine (left_cv m c H ⟨t.val - 1, Nat.lt_of_le_of_lt (Nat.sub_le _ _) t.isLt⟩ y).trans ?_
    rw [bk_prior t h _ h32]

/-! ## The three arrays -/

/-- An array whose element in block `b`, head, row and lane is `g`'s. -/
def arr (g : Fin 32 → Fin 8 → Fin 128 → Fin 64 → ℝ) (i : S4096x512.Idx) : EReal :=
  ((g (blockOf (i 0)) (headOf (i 1)) (rowOf (i 0)) (laneOf (i 1)) : ℝ) : EReal)

omit H in
theorem arr_at (g : Fin 32 → Fin 8 → Fin 128 → Fin 64 → ℝ) (t : Fin cfg0.N) (y : S128x512.Idx) (i : S4096x512.Idx)
    (h0 : (i 0).val = (31 - t.val) * 128 + (y 0).val) (h1 : (i 1).val = 0 * 512 + (y 1).val) :
    ((g (bk t) (headOf (y 1)) (y 0) (laneOf (y 1)) : ℝ) : EReal) = arr g i := by
  have hy : (y 0).val < 128 := (y 0).isLt
  unfold arr
  rw [show blockOf (i 0) = bk t from Fin.ext (by show (i 0).val / 128 = 31 - t.val; omega),
    show rowOf (i 0) = y 0 from Fin.ext (by show (i 0).val % 128 = (y 0).val; omega),
    show i 1 = y 1 from Fin.ext (by rw [h1]; omega)]

theorem arr_q : (dats m 0 c).arrAt 7 cfg0.N = arr a.dq := by
  refine (dats m 0 c).arrAt_eq_of_covers 7 _ (by decide +kernel) fun t hf y => ?_
  blk_simp
  rw [after_7]
  refine (left_q m c H t _).trans (arr_at a.dq t _ _ ?_ ?_)
  · blk_simp [show win0_7.index t 0 = _ from (idx_out t).1.1]
  · blk_simp [show win0_7.index t 1 = _ from (idx_out t).1.2]

theorem arr_k : (dats m 0 c).arrAt 8 cfg0.N = arr a.dk := by
  refine (dats m 0 c).arrAt_eq_of_covers 8 _ (by decide +kernel) fun t hf y => ?_
  blk_simp
  rw [after_8]
  refine (left_k m c H t _).trans (arr_at a.dk t _ _ ?_ ?_)
  · blk_simp [show win0_8.index t 0 = _ from (idx_out t).2.1.1]
  · blk_simp [show win0_8.index t 1 = _ from (idx_out t).2.1.2]

theorem arr_v : (dats m 0 c).arrAt 9 cfg0.N = arr a.dv := by
  refine (dats m 0 c).arrAt_eq_of_covers 9 _ (by decide +kernel) fun t hf y => ?_
  blk_simp
  rw [after_9]
  refine (left_v m c H t _).trans (arr_at a.dv t _ _ ?_ ?_)
  · blk_simp [show win0_9.index t 0 = _ from (idx_out t).2.2.1]
  · blk_simp [show win0_9.index t 1 = _ from (idx_out t).2.2.2]

end Cert.Proof.KernelValue

end
-- ==== Proof.RefOps.lean ====
/-
  The reference's array operations at an index: the reshapes that take rows of one residue class together and cut them
  in blocks, its products (one per gradient and score), its sums and maxima of a row.
-/
module

public import proofs.«01_k».proof.Proof.Gen.ReferenceIdeal.Run
public import proofs.«01_k».proof.Proof.Head
public import Idealize.ShloMosaic.Lib.Pipeline.Value
public import Idealize.ShloMosaic.Lib.ValueIdx
public import Idealize.ShloMosaic.Lib.ValueIdxRank6
public import Idealize.ShloMosaic.Lib.TwoAxisContraction
public import Idealize.ShloMosaic.Lib.KernelVsHost
public import Idealize.ShloMosaic.Lib.IdealHost
public import Idealize.ShloMosaic.PureOps.Ideal.Laws

@[expose] public section

noncomputable section

namespace Cert.Proof.RefOps

open Cert.ReferenceIdeal Cert.ReferenceIdeal.Gen
open Idealize.ShloMosaic Idealize.ShloMosaic.ValueIdx
open Cert.Proof.Spec
open scoped BigOperators

theorem ext5 {d : Fin 5 → ℕ} {i j : (⟨5, d⟩ : Shape).Idx} (h0 : (i 0).val = (j 0).val) (h1 : (i 1).val = (j 1).val) (h2 : (i 2).val = (j 2).val)
    (h3 : (i 3).val = (j 3).val) (h4 : (i 4).val = (j 4).val) : i = j :=
  funext fun a => Fin.ext (match a with | ⟨0, _⟩ => h0 | ⟨1, _⟩ => h1 | ⟨2, _⟩ => h2 | ⟨3, _⟩ => h3 | ⟨4, _⟩ => h4)

theorem ext6 {d : Fin 6 → ℕ} {i j : (⟨6, d⟩ : Shape).Idx} (h0 : (i 0).val = (j 0).val) (h1 : (i 1).val = (j 1).val) (h2 : (i 2).val = (j 2).val)
    (h3 : (i 3).val = (j 3).val) (h4 : (i 4).val = (j 4).val) (h5 : (i 5).val = (j 5).val) : i = j :=
  funext fun a => Fin.ext (match a with | ⟨0, _⟩ => h0 | ⟨1, _⟩ => h1 | ⟨2, _⟩ => h2 | ⟨3, _⟩ => h3 | ⟨4, _⟩ => h4 | ⟨5, _⟩ => h5)

/-- Block `n` of residue class `r`, among the 32. -/
def blk (r : Fin 4) (n : Fin 8) : Fin 32 := ⟨8 * r.val + n.val, by have := r.isLt; have := n.isLt; omega⟩

/-- Row `t` of block `n`, among the residue class's 1024. -/
def crow (n : Fin 8) (t : Fin 128) : Fin 1024 := ⟨128 * n.val + t.val, by have := n.isLt; have := t.isLt; omega⟩

/-! ## Rows of a class together, in blocks -/

theorem class_apply (x : FVec Ideal S4096x512 .f32) (r : Fin 4) (n : Fin 8) (t : Fin 128) (h : Fin 8) (d : Fin 64) :
    shapeCast S4x1024x8x64 (transpose S1x4x1024x8x64 [0, 2, 1, 3, 4] (shapeCast S1x1024x4x8x64 (shapeCast S1x4096x8x64 x shapeCasts_S4096x512_S1x4096x8x64)
      shapeCasts_S1x4096x8x64_S1x1024x4x8x64) transposes_S1x1024x4x8x64_S1x4x1024x8x64_0_2_1_3_4) shapeCasts_S1x4x1024x8x64_S4x1024x8x64 (ix4 r (crow n t) h d)
      = x (ix2 (row (blk r n) t) (lane h d)) := by
  refine (shapeCast_apply _ _ (ix4 r (crow n t) h d) (ix5 (n0 := 1) 0 r (crow n t) h d) ?_).trans ?_
  · rw [Shape.rowMajor_val_four, Shape.rowMajor_val_five]
    show (((0 * 4 + r.val) * 1024 + (crow n t).val) * 8 + h.val) * 64 + d.val = ((r.val * 1024 + (crow n t).val) * 8 + h.val) * 64 + d.val
    omega
  refine (transpose_apply _ _ _ (ix5 (n0 := 1) 0 r (crow n t) h d) (ix5 (n0 := 1) 0 (crow n t) r h d)
    (fun a => match a with | ⟨0, _⟩ => rfl | ⟨1, _⟩ => rfl | ⟨2, _⟩ => rfl | ⟨3, _⟩ => rfl | ⟨4, _⟩ => rfl)).trans ?_
  refine (shapeCast_apply _ _ (ix5 (n0 := 1) 0 (crow n t) r h d) (ix4 (n0 := 1) 0 (row (blk r n) t) h d) ?_).trans ?_
  · rw [Shape.rowMajor_val_four, Shape.rowMajor_val_five]
    show ((0 * 4096 + (4 * (128 * ((8 * r.val + n.val) % 8) + t.val) + (8 * r.val + n.val) / 8)) * 8 + h.val) * 64 + d.val
      = (((0 * 1024 + (128 * n.val + t.val)) * 4 + r.val) * 8 + h.val) * 64 + d.val
    have := n.isLt
    omega
  refine shapeCast_apply _ _ (ix4 (n0 := 1) 0 (row (blk r n) t) h d) (ix2 (row (blk r n) t) (lane h d)) ?_
  rw [Shape.rowMajor_val_four, Shape.rowMajor_val_two]
  show (row (blk r n) t).val * 512 + (64 * h.val + d.val) = ((0 * 4096 + (row (blk r n) t).val) * 8 + h.val) * 64 + d.val
  omega

theorem blocks5_apply {α : Type} (y : S4x1024x8x64.Idx → α) (r : Fin 4) (n : Fin 8) (t : Fin 128) (h : Fin 8) (d : Fin 64) :
    shapeCast S4x8x128x8x64 y shapeCasts_S4x1024x8x64_S4x8x128x8x64 (ix5 r n t h d) = y (ix4 r (crow n t) h d) := by
  refine shapeCast_apply _ _ (ix5 r n t h d) (ix4 r (crow n t) h d) ?_
  rw [Shape.rowMajor_val_four, Shape.rowMajor_val_five]
  show ((r.val * 1024 + (128 * n.val + t.val)) * 8 + h.val) * 64 + d.val = (((r.val * 8 + n.val) * 128 + t.val) * 8 + h.val) * 64 + d.val
  omega

theorem blocks6_apply {α : Type} (y : S4x1024x8x64.Idx → α) (r : Fin 4) (n : Fin 8) (t : Fin 128) (h : Fin 8) (u : Fin 1) (d : Fin 64) :
    shapeCast S4x8x128x8x1x64 y shapeCasts_S4x1024x8x64_S4x8x128x8x1x64 (ix6 r n t h u d) = y (ix4 r (crow n t) h d) := by
  refine shapeCast_apply _ _ (ix6 r n t h u d) (ix4 r (crow n t) h d) ?_
  rw [Shape.rowMajor_val_four, Shape.rowMajor_val_six]
  show ((r.val * 1024 + (128 * n.val + t.val)) * 8 + h.val) * 64 + d.val = ((((r.val * 8 + n.val) * 128 + t.val) * 8 + h.val) * 1 + u.val) * 64 + d.val
  have := u.isLt
  omega

/-- The way back: a result's row and column. -/
theorem back5_apply (y : FVec Ideal S4x8x128x8x64 .f32) (r : Fin 4) (n : Fin 8) (t : Fin 128) (h : Fin 8) (d : Fin 64) :
    shapeCast S4096x512 (truncf (F := Ideal) .bf16 (shapeCast S4x1024x8x64 y shapeCasts_S4x8x128x8x64_S4x1024x8x64) bitsLt_bf16_f32) shapeCasts_S4x1024x8x64_S4096x512
      (ix2 (srow (blk r n) t) (lane h d)) = y (ix5 r n t h d) := by
  refine (shapeCast_apply _ _ (ix2 (srow (blk r n) t) (lane h d)) (ix4 r (crow n t) h d) ?_).trans ?_
  · rw [Shape.rowMajor_val_four, Shape.rowMajor_val_two]
    show ((r.val * 1024 + (128 * n.val + t.val)) * 8 + h.val) * 64 + d.val = (128 * (8 * r.val + n.val) + t.val) * 512 + (64 * h.val + d.val)
    omega
  refine shapeCast_apply y _ (ix4 r (crow n t) h d) (ix5 r n t h d) ?_
  rw [Shape.rowMajor_val_four, Shape.rowMajor_val_five]
  show (((r.val * 8 + n.val) * 128 + t.val) * 8 + h.val) * 64 + d.val = ((r.val * 1024 + (128 * n.val + t.val)) * 8 + h.val) * 64 + d.val
  omega

theorem back6_apply (y : FVec Ideal S4x8x128x8x1x64 .f32) (r : Fin 4) (n : Fin 8) (t : Fin 128) (h : Fin 8) (d : Fin 64) :
    shapeCast S4096x512 (truncf (F := Ideal) .bf16 (shapeCast S4x1024x8x64 y shapeCasts_S4x8x128x8x1x64_S4x1024x8x64) bitsLt_bf16_f32) shapeCasts_S4x1024x8x64_S4096x512
      (ix2 (srow (blk r n) t) (lane h d)) = y (ix6 r n t h 0 d) := by
  refine (shapeCast_apply _ _ (ix2 (srow (blk r n) t) (lane h d)) (ix4 r (crow n t) h d) ?_).trans ?_
  · rw [Shape.rowMajor_val_four, Shape.rowMajor_val_two]
    show ((r.val * 1024 + (128 * n.val + t.val)) * 8 + h.val) * 64 + d.val = (128 * (8 * r.val + n.val) + t.val) * 512 + (64 * h.val + d.val)
    omega
  refine shapeCast_apply y _ (ix4 r (crow n t) h d) (ix6 r n t h 0 d) ?_
  rw [Shape.rowMajor_val_four, Shape.rowMajor_val_six]
  show ((((r.val * 8 + n.val) * 128 + t.val) * 8 + h.val) * 1 + 0) * 64 + d.val = ((r.val * 1024 + (128 * n.val + t.val)) * 8 + h.val) * 64 + d.val
  omega

/-! ## The products -/

variable (r : Fin 4) (n h : Fin 8)

theorem dot_score (x : FVec Ideal S4x8x256x8x64 .f32) (y : FVec Ideal S4x8x128x8x1x64 .f32) (j : Fin 256) (t : Fin 128) (u : Fin 1) :
    Host.dotGeneral dot_S4x8x256x8x64_S4x8x128x8x1x64_S4x8x8x256x128x1_4_5_2_24_013_013 none x y (ix6 r n h j t u)
      = ∑ d : Fin 64, x (ix5 r n j h d) * y (ix6 r n t h u d) := by
  refine (Ideal.dotGeneral_apply _ _ _ x y _).trans ?_
  refine Fintype.sum_equiv (contrEquiv1 dot_S4x8x256x8x64_S4x8x128x8x1x64_S4x8x8x256x128x1_4_5_2_24_013_013 64 rfl rfl) _ _ fun k => ?_
  exact congrArg₂ (· * ·) (congrArg x (ext5 rfl rfl rfl rfl rfl)) (congrArg y (ext6 rfl rfl rfl rfl rfl rfl))

theorem dot_num (x : FVec Ideal S4x8x256x8x64 .f32) (y : FVec Ideal S4x8x8x1x128x256 .f32) (d : Fin 64) (u : Fin 1) (t : Fin 128) :
    Host.dotGeneral dot_S4x8x256x8x64_S4x8x8x1x128x256_S4x8x8x64x1x128_2_5_4_34_013_012 none x y (ix6 r n h d u t)
      = ∑ j : Fin 256, x (ix5 r n j h d) * y (ix6 r n h u t j) := by
  refine (Ideal.dotGeneral_apply _ _ _ x y _).trans ?_
  refine Fintype.sum_equiv (contrEquiv1 dot_S4x8x256x8x64_S4x8x8x1x128x256_S4x8x8x64x1x128_2_5_4_34_013_012 256 rfl rfl) _ _ fun k => ?_
  exact congrArg₂ (· * ·) (congrArg x (ext5 rfl rfl rfl rfl rfl)) (congrArg y (ext6 rfl rfl rfl rfl rfl rfl))

theorem dot_dp (x : FVec Ideal S4x8x8x64x1x128 .f32) (y : FVec Ideal S4x8x256x8x64 .f32) (u : Fin 1) (t : Fin 128) (j : Fin 256) :
    Host.dotGeneral dot_S4x8x8x64x1x128_S4x8x256x8x64_S4x8x8x1x128x256_3_4_45_2_012_013 none x y (ix6 r n h u t j)
      = ∑ d : Fin 64, x (ix6 r n h d u t) * y (ix5 r n j h d) := by
  refine (Ideal.dotGeneral_apply _ _ _ x y _).trans ?_
  refine Fintype.sum_equiv (contrEquiv1 dot_S4x8x8x64x1x128_S4x8x256x8x64_S4x8x8x1x128x256_3_4_45_2_012_013 64 rfl rfl) _ _ fun k => ?_
  exact congrArg₂ (· * ·) (congrArg x (ext6 rfl rfl rfl rfl rfl rfl)) (congrArg y (ext5 rfl rfl rfl rfl rfl))

theorem dot_dq (x : FVec Ideal S4x8x8x256x128x1 .f32) (y : FVec Ideal S4x8x256x8x64 .f32) (t : Fin 128) (u : Fin 1) (d : Fin 64) :
    Host.dotGeneral dot_S4x8x8x256x128x1_S4x8x256x8x64_S4x8x8x128x1x64_3_2_45_4_012_013 none x y (ix6 r n h t u d)
      = ∑ j : Fin 256, x (ix6 r n h j t u) * y (ix5 r n j h d) := by
  refine (Ideal.dotGeneral_apply _ _ _ x y _).trans ?_
  refine Fintype.sum_equiv (contrEquiv1 dot_S4x8x8x256x128x1_S4x8x256x8x64_S4x8x8x128x1x64_3_2_45_4_012_013 256 rfl rfl) _ _ fun k => ?_
  exact congrArg₂ (· * ·) (congrArg x (ext6 rfl rfl rfl rfl rfl rfl)) (congrArg y (ext5 rfl rfl rfl rfl rfl))

theorem dot_dv (x : FVec Ideal S4x8x8x64x1x128 .f32) (y : FVec Ideal S4x8x8x1x128x256 .f32) (d : Fin 64) (j : Fin 256) :
    Host.dotGeneral dot_S4x8x8x64x1x128_S4x8x8x1x128x256_S4x8x8x64x256_45_34_3_5_012_012 none x y (ix5 r n h d j)
      = ∑ t : Fin 128, x (ix6 r n h d 0 t) * y (ix6 r n h 0 t j) := by
  refine (Ideal.dotGeneral_apply _ _ _ x y _).trans ?_
  refine (Fintype.sum_equiv (contrEquiv2 dot_S4x8x8x64x1x128_S4x8x8x1x128x256_S4x8x8x64x256_45_34_3_5_012_012 1 128 rfl rfl rfl) _
    (fun p : Fin 1 × Fin 128 => x (ix6 r n h d p.1 p.2) * y (ix6 r n h p.1 p.2 j)) fun k => ?_).trans ?_
  · exact congrArg₂ (· * ·) (congrArg x (ext6 rfl rfl rfl rfl rfl rfl)) (congrArg y (ext6 rfl rfl rfl rfl rfl rfl))
  · exact (Fintype.sum_prod_type _).trans (Fintype.sum_unique _)

theorem dot_dk (x : FVec Ideal S4x8x8x256x128x1 .f32) (y : FVec Ideal S4x8x128x8x1x64 .f32) (j : Fin 256) (d : Fin 64) :
    Host.dotGeneral dot_S4x8x8x256x128x1_S4x8x128x8x1x64_S4x8x8x256x64_45_24_3_5_012_013 none x y (ix5 r n h j d)
      = ∑ t : Fin 128, x (ix6 r n h j t 0) * y (ix6 r n t h 0 d) := by
  refine (Ideal.dotGeneral_apply _ _ _ x y _).trans ?_
  refine (Fintype.sum_equiv (contrEquiv2 dot_S4x8x8x256x128x1_S4x8x128x8x1x64_S4x8x8x256x64_45_24_3_5_012_013 128 1 rfl rfl rfl) _
    (fun p : Fin 128 × Fin 1 => x (ix6 r n h j p.1 p.2) * y (ix6 r n p.1 h p.2 d)) fun k => ?_).trans ?_
  · exact congrArg₂ (· * ·) (congrArg x (ext6 rfl rfl rfl rfl rfl rfl)) (congrArg y (ext6 rfl rfl rfl rfl rfl rfl))
  · exact (Fintype.sum_prod_type _).trans (Finset.sum_congr rfl fun t _ => Fintype.sum_unique _)

/-! ## Sums and maxima of a row -/

abbrev zero : FVec Ideal S_ .f32 := constant S_ .f32 0x00000000#32

theorem zero_first : zero (Shape.Idx.first h_S_) = 0 := Ideal.ofBits_zero_f32

theorem sum_keys (x : FVec Ideal S4x8x8x1x128x256 .f32) (u : Fin 1) (t : Fin 128) :
    Host.reduceAdd x zero reducesTo_S4x8x8x1x128x256_S4x8x8x1x128_d5 h_S_ (ix5 r n h u t) = ∑ j : Fin 256, x (ix6 r n h u t j) := by
  refine (Ideal.hostReduceAdd_single reducesTo_S4x8x8x1x128x256_S4x8x8x1x128_d5 (by decide) x _ (ix5 r n h u t)).trans ?_
  rw [zero_first, zero_add]
  exact Finset.sum_congr rfl fun k _ => congrArg x (ext6 rfl rfl rfl rfl rfl rfl)

theorem sum_lanes6 (x : FVec Ideal S4x8x128x8x1x64 .f32) (t : Fin 128) (u : Fin 1) :
    Host.reduceAdd x zero reducesTo_S4x8x128x8x1x64_S4x8x128x8x1_d5 h_S_ (ix5 r n t h u) = ∑ d : Fin 64, x (ix6 r n t h u d) := by
  refine (Ideal.hostReduceAdd_single reducesTo_S4x8x128x8x1x64_S4x8x128x8x1_d5 (by decide) x _ (ix5 r n t h u)).trans ?_
  rw [zero_first, zero_add]
  exact Finset.sum_congr rfl fun k _ => congrArg x (ext6 rfl rfl rfl rfl rfl rfl)

theorem sum_lanes4 (x : FVec Ideal S4x1024x8x64 .f32) (s : Fin 1024) :
    Host.reduceAdd x zero reducesTo_S4x1024x8x64_S4x1024x8_d3 h_S_ (ix3 r s h) = ∑ d : Fin 64, x (ix4 r s h d) := by
  refine (Ideal.hostReduceAdd_single reducesTo_S4x1024x8x64_S4x1024x8_d3 (by decide) x _ (ix3 r s h)).trans ?_
  rw [zero_first, zero_add]
  exact Finset.sum_congr rfl fun k _ => congrArg x (funext fun a => Fin.ext (match a with | ⟨0, _⟩ => rfl | ⟨1, _⟩ => rfl | ⟨2, _⟩ => rfl | ⟨3, _⟩ => rfl))

theorem max_keys (x : FVec Ideal S4x8x8x1x128x256 .f32) (u : Fin 1) (t : Fin 128) :
    Host.reduce (FloatOps.maximumf (F := Ideal) (φ := .f32)) x (constant S_ .f32 0xFF800000#32) reducesTo_S4x8x8x1x128x256_S4x8x8x1x128_d5 h_S_ (ix5 r n h u t)
      = (Finset.univ : Finset (Fin 256)).fold max ⊥ (fun j => x (ix6 r n h u t j)) := by
  refine (congrFun (hostReduce_maximumf_eq_multiReduction x 0xFF800000#32 reducesTo_S4x8x8x1x128x256_S4x8x8x1x128_d5 h_S_ (by decide) (.inl rfl) rfl) _).trans ?_
  refine (Ideal.multiReduction_maximumf_single x _ _ (.inl rfl) rfl (ix5 r n h u t)).trans ?_
  refine congrArg₂ (fun z f => (Finset.univ : Finset (Fin 256)).fold max z f) Head.ofBits_bot ?_
  funext k
  exact congrArg x (ext6 rfl rfl rfl rfl rfl rfl)

/-- A sum over two axes of extent one is the one element. -/
theorem sum_units (x : FVec Ideal S4x8x128x8x1x1 .f32) (t : Fin 128) :
    Host.reduceAdd x zero reducesTo_S4x8x128x8x1x1_S4x8x128x8_d4_5 h_S_ (ix4 r n t h) = x (ix6 r n t h 0 0) := by
  refine (hostReduceAdd_apply x zero _ h_S_ _).trans ?_
  unfold Ideal.hostReduceAdd
  rw [zero_first, zero_add]
  refine Finset.sum_eq_single (ix6 r n t h 0 0) (fun i hi hne => ?_) fun hno => ?_
  · refine absurd ?_ hne
    have e := (Finset.mem_filter.mp hi).2
    have e0 : (i 0).val = r.val := congrArg (fun f : S4x8x128x8.Idx => (f 0).val) e
    have e1 : (i 1).val = n.val := congrArg (fun f : S4x8x128x8.Idx => (f 1).val) e
    have e2 : (i 2).val = t.val := congrArg (fun f : S4x8x128x8.Idx => (f 2).val) e
    have e3 : (i 3).val = h.val := congrArg (fun f : S4x8x128x8.Idx => (f 3).val) e
    have e4 : (i 4).val < 1 := (i 4).isLt
    have e5 : (i 5).val < 1 := (i 5).isLt
    exact ext6 e0 e1 e2 e3 (by show (i 4).val = 0; omega) (by show (i 5).val = 0; omega)
  · refine absurd (Finset.mem_filter.mpr ⟨Finset.mem_univ _, ?_⟩) hno
    exact funext fun a => Fin.ext (match a with | ⟨0, _⟩ => rfl | ⟨1, _⟩ => rfl | ⟨2, _⟩ => rfl | ⟨3, _⟩ => rfl)

theorem sum_units' (x : FVec Ideal S4x8x8x1x128x1 .f32) (t : Fin 128) :
    Host.reduceAdd x zero reducesTo_S4x8x8x1x128x1_S4x8x8x128_d3_5 h_S_ (ix4 r n h t) = x (ix6 r n h 0 t 0) := by
  refine (hostReduceAdd_apply x zero _ h_S_ _).trans ?_
  unfold Ideal.hostReduceAdd
  rw [zero_first, zero_add]
  refine Finset.sum_eq_single (ix6 r n h 0 t 0) (fun i hi hne => ?_) fun hno => ?_
  · refine absurd ?_ hne
    have e := (Finset.mem_filter.mp hi).2
    have e0 : (i 0).val = r.val := congrArg (fun f : S4x8x8x128.Idx => (f 0).val) e
    have e1 : (i 1).val = n.val := congrArg (fun f : S4x8x8x128.Idx => (f 1).val) e
    have e2 : (i 2).val = h.val := congrArg (fun f : S4x8x8x128.Idx => (f 2).val) e
    have e4 : (i 4).val = t.val := congrArg (fun f : S4x8x8x128.Idx => (f 3).val) e
    have e3 : (i 3).val < 1 := (i 3).isLt
    have e5 : (i 5).val < 1 := (i 5).isLt
    exact ext6 e0 e1 e2 (by show (i 3).val = 0; omega) e4 (by show (i 5).val = 0; omega)
  · refine absurd (Finset.mem_filter.mpr ⟨Finset.mem_univ _, ?_⟩) hno
    exact funext fun a => Fin.ext (match a with | ⟨0, _⟩ => rfl | ⟨1, _⟩ => rfl | ⟨2, _⟩ => rfl | ⟨3, _⟩ => rfl)

end Cert.Proof.RefOps

end
-- ==== Proof.RefRead.lean ====
/-
  The reference's three results, at the real values: stage by stage, every array of the vjp of the banded attention read
  at a residue class `r`, a block `n` of it, a head `h` and a row, as the block's scores, weights and gradients.
-/
module

public import proofs.«01_k».proof.Proof.RefOps

@[expose] public section

noncomputable section

namespace Cert.Proof.RefRead

open Cert.ReferenceIdeal Cert.ReferenceIdeal.Gen Cert.ReferenceIdeal.Value
open Idealize.ShloMosaic Idealize.ShloMosaic.ValueIdx
open Cert.Proof.Spec Cert.Proof.RefOps
open Cert.Proof.Head (coe_sum div_real ofBits_eighth ofBits_one ofBits_bot)
open scoped BigOperators

/-- The reference's arguments hold the real arrays. -/
structure Holds (a : Args) (V0 : Valuation τ sig (Elt Ideal)) : Prop where
  hq : ∀ s y, (V0 (Proc.devRef .tc main_arg0) : FVec Ideal S4096x512 .f32) (ix2 s y) = ((a.q s y : ℝ) : EReal)
  hk : ∀ s y, (V0 (Proc.devRef .tc main_arg1) : FVec Ideal S4096x512 .f32) (ix2 s y) = ((a.k s y : ℝ) : EReal)
  hv : ∀ s y, (V0 (Proc.devRef .tc main_arg2) : FVec Ideal S4096x512 .f32) (ix2 s y) = ((a.v s y : ℝ) : EReal)
  hgo : ∀ s y, (V0 (Proc.devRef .tc main_arg3) : FVec Ideal S4096x512 .f32) (ix2 s y) = ((a.go s y : ℝ) : EReal)
  hgl : ∀ s y, (V0 (Proc.devRef .tc main_arg4) : FVec Ideal S4096x512 .f32) (ix2 s y) = ((a.gl s y : ℝ) : EReal)

/-! ## The block, with zeros for the rows before a class's first -/

/-- Row `j` of the block before, zero at a class's first block. -/
def before (x : Fin 4096 → Fin 512 → ℝ) (r : Fin 4) (n : Fin 8) (j : Fin 128) (y : Fin 512) : ℝ :=
  if n.val = 0 then 0 else x (row (prev (blk r n)) j) y

def both (x : Fin 4096 → Fin 512 → ℝ) (r : Fin 4) (n h : Fin 8) (j : Fin 256) (d : Fin 64) : ℝ :=
  if hj : j.val < 128 then before x r n ⟨j.val, hj⟩ (lane h d) else x (row (blk r n) ⟨j.val - 128, by omega⟩) (lane h d)

theorem both_lo (x : Fin 4096 → Fin 512 → ℝ) (r : Fin 4) (n h : Fin 8) (j : Fin 128) (d : Fin 64) : both x r n h (lo j) d = before x r n j (lane h d) :=
  dif_pos j.isLt

theorem both_hi (x : Fin 4096 → Fin 512 → ℝ) (r : Fin 4) (n h : Fin 8) (j : Fin 128) (d : Fin 64) : both x r n h (hi j) d = x (row (blk r n) j) (lane h d) := by
  refine (dif_neg (by show ¬(128 + j.val < 128); omega)).trans ?_
  exact congrArg (fun s => x (row (blk r n) s) (lane h d)) (Fin.ext (by show 128 + j.val - 128 = j.val; omega))

/-- One head of one block, as the reference has it. -/
def rblock (a : Args) (r : Fin 4) (n h : Fin 8) : Block where
  Q t d := a.q (row (blk r n) t) (lane h d)
  K := both a.k r n h
  V := both a.v r n h
  DO t d := a.go (row (blk r n) t) (lane h d)
  DL t := ∑ d, a.gl (row (blk r n) t) (lane h d)
  M := band (isFirst (blk r n))

theorem isFirst_blk (r : Fin 4) (n : Fin 8) : isFirst (blk r n) = decide (n.val = 0) := by
  unfold isFirst
  refine decide_eq_decide.mpr ?_
  show (8 * r.val + n.val) % 8 = 0 ↔ n.val = 0
  have := n.isLt
  omega

theorem agrees (a : Args) (r : Fin 4) (n h : Fin 8) : Block.Agrees (rblock a r n h) (a.block (blk r n) h) := by
  have key : ∀ (x : Fin 4096 → Fin 512 → ℝ) (t : Fin 128) (j : Fin 256), band (isFirst (blk r n)) t j = true → ∀ d : Fin 64,
      both x r n h j d = if hj : j.val < 128 then x (row (prev (blk r n)) ⟨j.val, hj⟩) (lane h d) else x (row (blk r n) ⟨j.val - 128, by omega⟩) (lane h d) := by
    intro x t j hb d
    unfold both before
    by_cases hj : j.val < 128
    · rw [dif_pos hj, dif_pos hj]
      refine if_neg fun hn => ?_
      rw [isFirst_blk, hn] at hb
      exact absurd (hb.symm.trans (band_first t ⟨j.val, hj⟩)) (by decide)
    · rw [dif_neg hj, dif_neg hj]
  exact ⟨rfl, rfl, rfl, rfl, key a.k, key a.v⟩

theorem sees (a : Args) (r : Fin 4) (n h : Fin 8) : (rblock a r n h).Sees := fun t => band_self _ t

variable {a : Args} {V0 : Valuation τ sig (Elt Ideal)} (H : Holds a V0) (r : Fin 4) (n h : Fin 8)

/-! ## The operands -/

include H

theorem q_at (t : Fin 128) (u : Fin 1) (d : Fin 64) : res_main_v21 V0 (ix6 r n t h u d) = (((rblock a r n h).Q t d : ℝ) : EReal) := by
  unfold res_main_v21
  exact (blocks6_apply _ r n t h u d).trans ((class_apply _ r n t h d).trans (H.hq _ _))

theorem k_at (t : Fin 128) (d : Fin 64) : res_main_v22 V0 (ix5 r n t h d) = ((a.k (row (blk r n) t) (lane h d) : ℝ) : EReal) := by
  unfold res_main_v22
  exact (blocks5_apply _ r n t h d).trans ((class_apply _ r n t h d).trans (H.hk _ _))

theorem v_at (t : Fin 128) (d : Fin 64) : res_main_v29 V0 (ix5 r n t h d) = ((a.v (row (blk r n) t) (lane h d) : ℝ) : EReal) := by
  unfold res_main_v29
  exact (blocks5_apply _ r n t h d).trans ((class_apply _ r n t h d).trans (H.hv _ _))

theorem do_at (t : Fin 128) (u : Fin 1) (d : Fin 64) : res_main_v99 V0 (ix6 r n t h u d) = (((rblock a r n h).DO t d : ℝ) : EReal) := by
  unfold res_main_v99
  exact (blocks6_apply _ r n t h u d).trans ((class_apply _ r n t h d).trans (H.hgo _ _))

theorem dl_at (u : Fin 1) (t : Fin 128) : res_main_v100 V0 (ix5 r n h u t) = (((rblock a r n h).DL t : ℝ) : EReal) := by
  unfold res_main_v100
  refine (transpose_apply _ _ _ (ix5 r n h u t) (ix5 r n t h u) (fun a => match a with | ⟨0, _⟩ => rfl | ⟨1, _⟩ => rfl | ⟨2, _⟩ => rfl | ⟨3, _⟩ => rfl | ⟨4, _⟩ => rfl)).trans ?_
  refine (shapeCast_apply _ _ (ix5 r n t h u) (ix3 r (crow n t) h) ?_).trans ?_
  · rw [Shape.rowMajor_val_three, Shape.rowMajor_val_five]
    show (r.val * 1024 + (128 * n.val + t.val)) * 8 + h.val = (((r.val * 8 + n.val) * 128 + t.val) * 8 + h.val) * 1 + u.val
    have := u.isLt
    omega
  refine (sum_lanes4 r h _ (crow n t)).trans ?_
  refine (Finset.sum_congr rfl fun d _ => (class_apply _ r n t h d).trans (H.hgl _ _)).trans (coe_sum _ _)

omit H in
/-- A block's rows behind the block before it, with zeros before a class's first block. -/
theorem both_at (x : Fin 4096 → Fin 512 → ℝ) (y : FVec Ideal S4x8x128x8x64 .f32)
    (hy : ∀ (r : Fin 4) (n : Fin 8) (t : Fin 128) (h : Fin 8) (d : Fin 64), y (ix5 r n t h d) = ((x (row (blk r n) t) (lane h d) : ℝ) : EReal))
    (j : Fin 256) (d : Fin 64) :
    concatenate S4x8x256x8x64 2 [⟨S4x8x128x8x64, (concatenate S4x8x128x8x64 1 [⟨S4x1x128x8x64, (broadcastInDim S4x1x128x8x64 ![] bcast_S_S4x1x128x8x64 (constant (F := Ideal) S_ .f32 0x00000000#32))⟩,
      ⟨S4x7x128x8x64, (extractStridedSlice S4x7x128x8x64 ![0, 0, 0, 0, 0] y slices_S4x8x128x8x64_S4x7x128x8x64_0_0_0_0_0)⟩] concatenates_S4x1x128x8x64_S4x7x128x8x64_S4x8x128x8x64_d1)⟩,
      ⟨S4x8x128x8x64, y⟩] concatenates_S4x8x128x8x64_S4x8x128x8x64_S4x8x256x8x64_d2 (ix5 r n j h d) = ((both x r n h j d : ℝ) : EReal) := by
  generalize hp : concatenate S4x8x128x8x64 1 [⟨S4x1x128x8x64, (broadcastInDim S4x1x128x8x64 ![] bcast_S_S4x1x128x8x64 (constant (F := Ideal) S_ .f32 0x00000000#32))⟩,
      ⟨S4x7x128x8x64, (extractStridedSlice S4x7x128x8x64 ![0, 0, 0, 0, 0] y slices_S4x8x128x8x64_S4x7x128x8x64_0_0_0_0_0)⟩] concatenates_S4x1x128x8x64_S4x7x128x8x64_S4x8x128x8x64_d1 = z
  refine halves (P := fun j => concatenate S4x8x256x8x64 2 [⟨S4x8x128x8x64, z⟩, ⟨S4x8x128x8x64, y⟩] concatenates_S4x8x128x8x64_S4x8x128x8x64_S4x8x256x8x64_d2 (ix5 r n j h d)
    = ((both x r n h j d : ℝ) : EReal)) (fun j => ?_) (fun j => ?_) j
  · rw [both_lo]
    refine (concatenate_pair_apply_left (t := S4x8x256x8x64) (s₁ := S4x8x128x8x64) (s₂ := S4x8x128x8x64) 2 z y _ (ix5 r n (lo j) h d) rfl (ix5 r n j h d)
      (fun b => match b with | ⟨0, _⟩ => rfl | ⟨1, _⟩ => rfl | ⟨2, _⟩ => rfl | ⟨3, _⟩ => rfl | ⟨4, _⟩ => rfl)).trans ?_
    rw [← hp]
    unfold before
    by_cases hn : n.val = 0
    · rw [if_pos hn]
      refine (concatenate_pair_apply_left (t := S4x8x128x8x64) (s₁ := S4x1x128x8x64) (s₂ := S4x7x128x8x64) 1 _ _ _ (ix5 r n j h d) rfl (ix5 (n1 := 1) r 0 j h d)
        (fun b => match b with | ⟨0, _⟩ => rfl | ⟨1, _⟩ => hn.symm | ⟨2, _⟩ => rfl | ⟨3, _⟩ => rfl | ⟨4, _⟩ => rfl)).trans ?_
      exact (broadcastInDim_scalar_apply _ _ _).trans Ideal.ofBits_zero_f32
    · rw [if_neg hn]
      have hlt := n.isLt
      refine (concatenate_pair_apply_right (t := S4x8x128x8x64) (s₁ := S4x1x128x8x64) (s₂ := S4x7x128x8x64) 1 _ _ _ (ix5 r n j h d) rfl rfl (ix5 (n1 := 7) r ⟨n.val - 1, by omega⟩ j h d)
        (fun b hb => match b with | ⟨0, _⟩ => rfl | ⟨1, _⟩ => absurd rfl hb | ⟨2, _⟩ => rfl | ⟨3, _⟩ => rfl | ⟨4, _⟩ => rfl)
        (by show n.val - 1 + 1 = n.val; omega)).trans ?_
      refine (extractStridedSlice_apply _ y _ _ (ix5 r ⟨n.val - 1, by omega⟩ j h d)
        (fun b => match b with | ⟨0, _⟩ => (Nat.zero_add _).symm | ⟨1, _⟩ => (Nat.zero_add _).symm | ⟨2, _⟩ => (Nat.zero_add _).symm | ⟨3, _⟩ => (Nat.zero_add _).symm | ⟨4, _⟩ => (Nat.zero_add _).symm)).trans ?_
      refine (hy _ _ _ _ _).trans ?_
      have e : blk r ⟨n.val - 1, by omega⟩ = prev (blk r n) := Fin.ext (by show 8 * r.val + (n.val - 1) = 8 * r.val + n.val - 1; omega)
      rw [e]
  · rw [both_hi]
    refine (concatenate_pair_apply_right (t := S4x8x256x8x64) (s₁ := S4x8x128x8x64) (s₂ := S4x8x128x8x64) 2 z y _ (ix5 r n (hi j) h d) rfl rfl (ix5 r n j h d)
      (fun b hb => match b with | ⟨0, _⟩ => rfl | ⟨1, _⟩ => rfl | ⟨2, _⟩ => absurd rfl hb | ⟨3, _⟩ => rfl | ⟨4, _⟩ => rfl)
      (by show j.val + 128 = 128 + j.val; omega)).trans ?_
    exact hy _ _ _ _ _

theorem kk_at (j : Fin 256) (d : Fin 64) : res_main_v28 V0 (ix5 r n j h d) = (((rblock a r n h).K j d : ℝ) : EReal) := by
  unfold res_main_v28
  exact both_at r n h a.k (res_main_v22 V0) (fun r n t h d => k_at H r n h t d) j d

theorem vv_at (j : Fin 256) (d : Fin 64) : res_main_v35 V0 (ix5 r n j h d) = (((rblock a r n h).V j d : ℝ) : EReal) := by
  unfold res_main_v35
  exact both_at r n h a.v (res_main_v29 V0) (fun r n t h d => v_at H r n h t d) j d

/-! ## Broadcasts -/

omit H

theorem keys_at {α : Type} (x : S4x8x8x1x128.Idx → α) (u : Fin 1) (t : Fin 128) (j : Fin 256) :
    broadcastInDim S4x8x8x1x128x256 ![0, 1, 2, 3, 4] bcast_S4x8x8x1x128_S4x8x8x1x128x256_0_1_2_3_4 x (ix6 r n h u t j) = x (ix5 r n h u t) :=
  broadcastInDim_apply _ _ x _ _ (fun a => match a with | ⟨0, _⟩ => rfl | ⟨1, _⟩ => rfl | ⟨2, _⟩ => rfl | ⟨3, _⟩ => (by show u.val = 0; omega) | ⟨4, _⟩ => rfl)

theorem keys_at' {α : Type} (x : S4x8x8x1x128x1.Idx → α) (u : Fin 1) (t : Fin 128) (j : Fin 256) :
    broadcastInDim S4x8x8x1x128x256 ![0, 1, 2, 3, 4, 5] bcast_S4x8x8x1x128x1_S4x8x8x1x128x256_0_1_2_3_4_5 x (ix6 r n h u t j) = x (ix6 r n h u t 0) :=
  broadcastInDim_apply _ _ x _ _ (fun a => match a with | ⟨0, _⟩ => rfl | ⟨1, _⟩ => rfl | ⟨2, _⟩ => rfl | ⟨3, _⟩ => (by show u.val = 0; omega) | ⟨4, _⟩ => rfl | ⟨5, _⟩ => rfl)

theorem col_at {α : Type} (x : S4x8x8x1x128.Idx → α) (u : Fin 1) (t : Fin 128) (w : Fin 1) :
    broadcastInDim S4x8x8x1x128x1 ![0, 1, 2, 3, 4] bcast_S4x8x8x1x128_S4x8x8x1x128x1_0_1_2_3_4 x (ix6 r n h u t w) = x (ix5 r n h u t) :=
  broadcastInDim_apply _ _ x _ _ (fun a => match a with | ⟨0, _⟩ => rfl | ⟨1, _⟩ => rfl | ⟨2, _⟩ => rfl | ⟨3, _⟩ => (by show u.val = 0; omega) | ⟨4, _⟩ => rfl)

theorem col_cast {α : Type} (x : S4x8x8x1x128.Idx → α) (u : Fin 1) (t : Fin 128) (w : Fin 1) :
    shapeCast S4x8x8x1x128x1 x shapeCasts_S4x8x8x1x128_S4x8x8x1x128x1 (ix6 r n h u t w) = x (ix5 r n h u t) := by
  refine shapeCast_apply _ _ _ _ ?_
  rw [Shape.rowMajor_val_five, Shape.rowMajor_val_six]
  show (((r.val * 8 + n.val) * 8 + h.val) * 1 + u.val) * 128 + t.val = ((((r.val * 8 + n.val) * 8 + h.val) * 1 + u.val) * 128 + t.val) * 1 + w.val
  have := w.isLt
  omega

theorem lanes_at {α : Type} (x : S4x8x128x8x1x1.Idx → α) (t : Fin 128) (u : Fin 1) (d : Fin 64) :
    broadcastInDim S4x8x128x8x1x64 ![0, 1, 2, 3, 4, 5] bcast_S4x8x128x8x1x1_S4x8x128x8x1x64_0_1_2_3_4_5 x (ix6 r n t h u d) = x (ix6 r n t h 0 0) :=
  broadcastInDim_apply _ _ x _ _ (fun a => match a with | ⟨0, _⟩ => rfl | ⟨1, _⟩ => rfl | ⟨2, _⟩ => rfl | ⟨3, _⟩ => rfl | ⟨4, _⟩ => rfl | ⟨5, _⟩ => rfl)

/-! ## The mask -/

theorem keyRow_at (i : Fin 1) (j : Fin 256) : res_main_v43 V0 (ix2 i j) = BitVec.ofNat 32 j.val := by
  unfold res_main_v43
  exact (broadcastInDim_apply _ _ _ _ (ix1 j) (fun a => match a with | ⟨0, _⟩ => rfl)).trans rfl

theorem dist_at (t : Fin 128) (j : Fin 256) : res_main_v48 V0 (ix2 t j) = (128#32 + BitVec.ofNat 32 t.val) - BitVec.ofNat 32 j.val := by
  unfold res_main_v48
  refine congrArg₂ (· - ·) ((broadcastInDim_apply _ _ _ _ (ix2 (n1 := 1) t 0) (fun a => match a with | ⟨0, _⟩ => rfl | ⟨1, _⟩ => rfl)).trans ?_)
    ((broadcastInDim_apply _ _ _ _ (ix2 (n0 := 1) 0 j) (fun a => match a with | ⟨0, _⟩ => rfl | ⟨1, _⟩ => rfl)).trans (keyRow_at 0 j))
  exact congrArg₂ (· + ·) (broadcastInDim_scalar_apply _ _ _)
    ((broadcastInDim_apply _ _ _ _ (ix1 t) (fun a => match a with | ⟨0, _⟩ => rfl)).trans rfl)

theorem toInt_key (n : Fin 8) (j : Fin 256) : ((BitVec.ofNat 32 n.val * 128#32 + BitVec.ofNat 32 j.val) - 128#32).toInt = 128 * (n.val : ℤ) + j.val - 128 := by
  have hn := n.isLt
  have hj := j.isLt
  rw [BitVec.toInt_eq_toNat_bmod]
  simp only [BitVec.toNat_sub, BitVec.toNat_add, BitVec.toNat_mul, BitVec.toNat_ofNat]
  simp only [Int.bmod_def]
  omega

theorem words (t : Fin 128) (j : Fin 256) :
    (IntOp.cmpi .sge ((128#32 + BitVec.ofNat 32 t.val) - BitVec.ofNat 32 j.val) 0#32
      &&& IntOp.cmpi .sle ((128#32 + BitVec.ofNat 32 t.val) - BitVec.ofNat 32 j.val) 128#32)
      &&& IntOp.cmpi .sge ((BitVec.ofNat 32 n.val * 128#32 + BitVec.ofNat 32 j.val) - 128#32) 0#32 = BitVec.ofBool (band (isFirst (blk r n)) t j) := by
  have h0 : (0#32 : BitVec 32).toInt = 0 := rfl
  have h1 : (128#32 : BitVec 32).toInt = 128 := rfl
  have hj := j.isLt
  rw [isFirst_blk]
  unfold IntOp.cmpi band
  simp only [BitVec.sle_eq_decide, Head.ofBool_and, Head.toInt_dist, toInt_key, h0, h1]
  congr 2
  · congr 1 <;> (refine decide_eq_decide.mpr ?_; constructor <;> intro h <;> omega)
  · by_cases hn : n.val = 0
    · rw [decide_eq_true hn]
      simp only [Bool.not_true, Bool.false_or]
      refine decide_eq_decide.mpr ?_
      rw [hn]
      constructor <;> intro h <;> omega
    · rw [decide_eq_false hn]
      simp only [Bool.not_false, Bool.true_or]
      exact decide_eq_true (by omega)

theorem mask_at (u : Fin 1) (t : Fin 128) (j : Fin 256) : res_main_v71_1 V0 (ix6 r n h u t j) = BitVec.ofBool (band (isFirst (blk r n)) t j) := by
  rw [← words]
  unfold res_main_v71_1
  refine (broadcastInDim_apply _ _ _ _ (ix6 (n0 := 1) (n2 := 1) (n3 := 1) 0 n 0 0 t j)
    (fun a => match a with | ⟨0, _⟩ => rfl | ⟨1, _⟩ => rfl | ⟨2, _⟩ => rfl | ⟨3, _⟩ => rfl | ⟨4, _⟩ => rfl | ⟨5, _⟩ => rfl)).trans ?_
  refine (broadcastInDim_apply _ _ _ _ (ix3 n t j) (fun a => match a with | ⟨0, _⟩ => rfl | ⟨1, _⟩ => rfl | ⟨2, _⟩ => rfl)).trans ?_
  refine congrArg₂ (· &&& ·) ?_ ?_
  · refine (broadcastInDim_apply _ _ _ _ (ix3 (n0 := 1) 0 t j) (fun a => match a with | ⟨0, _⟩ => rfl | ⟨1, _⟩ => rfl | ⟨2, _⟩ => rfl)).trans ?_
    refine (broadcastInDim_apply _ _ _ _ (ix2 t j) (fun a => match a with | ⟨0, _⟩ => rfl | ⟨1, _⟩ => rfl)).trans ?_
    exact congrArg₂ (· &&& ·) (congrArg₂ (IntOp.cmpi .sge) (dist_at t j) (broadcastInDim_scalar_apply _ _ _))
      (congrArg₂ (IntOp.cmpi .sle) (dist_at t j) (broadcastInDim_scalar_apply _ _ _))
  · refine (broadcastInDim_apply _ _ _ _ (ix3 (n1 := 1) n 0 j) (fun a => match a with | ⟨0, _⟩ => rfl | ⟨1, _⟩ => rfl | ⟨2, _⟩ => rfl)).trans ?_
    refine congrArg₂ (IntOp.cmpi .sge) (congrArg₂ (· - ·) (congrArg₂ (· + ·) ?_ ?_) (broadcastInDim_scalar_apply _ _ _)) (broadcastInDim_scalar_apply _ _ _)
    · refine (broadcastInDim_apply _ _ _ _ (ix3 (n1 := 1) (n2 := 1) n 0 0) (fun a => match a with | ⟨0, _⟩ => rfl | ⟨1, _⟩ => rfl | ⟨2, _⟩ => rfl)).trans ?_
      exact congrArg₂ (· * ·) ((broadcastInDim_apply _ _ _ _ (ix1 n) (fun a => match a with | ⟨0, _⟩ => rfl)).trans rfl) (broadcastInDim_scalar_apply _ _ _)
    · refine (broadcastInDim_apply _ _ _ _ (ix3 (n0 := 1) (n1 := 1) 0 0 j) (fun a => match a with | ⟨0, _⟩ => rfl | ⟨1, _⟩ => rfl | ⟨2, _⟩ => rfl)).trans ?_
      exact (broadcastInDim_apply _ _ _ _ (ix2 (n0 := 1) 0 j) (fun a => match a with | ⟨0, _⟩ => rfl | ⟨1, _⟩ => rfl)).trans (keyRow_at 0 j)

end Cert.Proof.RefRead

end
-- ==== Proof.RefValue.lean ====
/-
  The reference's three results at the real values: scores, weights, sums, cotangents and gradients of every block, and
  from them each element of the results.
-/
module

public import proofs.«01_k».proof.Proof.RefRead

@[expose] public section

noncomputable section

namespace Cert.Proof.RefRead

open Cert.ReferenceIdeal Cert.ReferenceIdeal.Gen Cert.ReferenceIdeal.Value
open Idealize.ShloMosaic Idealize.ShloMosaic.ValueIdx
open Cert.Proof.Spec Cert.Proof.RefOps
open Cert.Proof.Head (coe_sum div_real ofBits_eighth ofBits_one ofBits_bot)
open scoped BigOperators

variable {a : Args} {V0 : Valuation τ sig (Elt Ideal)} (H : Holds a V0) (r : Fin 4) (n h : Fin 8)

/-- A choice by the mask. -/
theorem select_at (x y : FVec Ideal S4x8x8x1x128x256 .f32) (u : Fin 1) (t : Fin 128) (j : Fin 256) :
    select (res_main_v71_1 V0) x y (ix6 r n h u t j) = if band (isFirst (blk r n)) t j = true then x (ix6 r n h u t j) else y (ix6 r n h u t j) := by
  have e : ∀ (w : BitVec 1) (b : Bool) (hw : w = BitVec.ofBool b) (x y : EReal), (if w = 1#1 then x else y) = if b = true then x else y := by
    rintro _ (_ | _) rfl x y <;> rfl
  exact e _ _ (mask_at r n h u t j) _ _

include H

/-! ## Scores and weights -/

theorem scE_at (u : Fin 1) (t : Fin 128) (j : Fin 256) : res_main_v71_0 V0 (ix6 r n h u t j) = (rblock a r n h).scE t j := by
  unfold res_main_v71_0
  refine (select_at r n h _ _ u t j).trans ?_
  unfold Block.scE
  have hm : (rblock a r n h).M t j = band (isFirst (blk r n)) t j := rfl
  rw [hm]
  cases band (isFirst (blk r n)) t j
  · rw [if_neg (by decide), if_neg (by decide)]
    exact (broadcastInDim_scalar_apply _ _ _).trans ofBits_bot
  · rw [if_pos rfl, if_pos rfl]
    refine (congrArg₂ (· * ·) ((transpose_apply _ _ _ _ (ix6 r n h j t u)
      (fun a => match a with | ⟨0, _⟩ => rfl | ⟨1, _⟩ => rfl | ⟨2, _⟩ => rfl | ⟨3, _⟩ => rfl | ⟨4, _⟩ => rfl | ⟨5, _⟩ => rfl)).trans
      (dot_score r n h _ _ j t u)) ((broadcastInDim_scalar_apply _ _ _).trans ofBits_eighth)).trans ?_
    unfold Block.sc
    rw [EReal.coe_mul, ← coe_sum]
    refine congrArg (· * ((scale : ℝ) : EReal)) (Finset.sum_congr rfl fun d _ => ?_)
    rw [EReal.coe_mul, mul_comm]
    exact congrArg₂ (· * ·) (q_at H r n h t u d) (kk_at H r n h j d)

theorem mxE_at (u : Fin 1) (t : Fin 128) : res_main_v72 V0 (ix5 r n h u t) = (rblock a r n h).mxE t := by
  unfold res_main_v72
  refine (max_keys r n h _ u t).trans ?_
  unfold Block.mxE
  exact congrArg (fun g => (Finset.univ : Finset (Fin 256)).fold max ⊥ g) (funext fun j => scE_at H r n h u t j)

theorem p_at (u : Fin 1) (t : Fin 128) (j : Fin 256) : res_main_v81 V0 (ix6 r n h u t j) = (((rblock a r n h).p t j : ℝ) : EReal) := by
  rw [← Block.exp_scE (sees a r n h) t j]
  unfold res_main_v81 res_main_v78
  exact congrArg Ideal.exp (congrArg₂ (· - ·) (scE_at H r n h u t j) ((keys_at' r n h _ u t j).trans ((col_at r n h _ u t 0).trans (mxE_at H r n h u t))))

theorem den_at (u : Fin 1) (t : Fin 128) : res_main_v82 V0 (ix5 r n h u t) = (((rblock a r n h).den t : ℝ) : EReal) := by
  unfold res_main_v82
  refine (sum_keys r n h _ u t).trans ?_
  exact (congrArg (fun g : Fin 256 → EReal => ∑ j, g j) (funext fun j => p_at H r n h u t j)).trans (coe_sum _ _)

theorem num_at (t : Fin 128) (u : Fin 1) (d : Fin 64) : res_main_v84 V0 (ix6 r n t h u d) = (((rblock a r n h).num t d : ℝ) : EReal) := by
  unfold res_main_v84
  refine (transpose_apply _ _ _ _ (ix6 r n h d u t)
      (fun a => match a with | ⟨0, _⟩ => rfl | ⟨1, _⟩ => rfl | ⟨2, _⟩ => rfl | ⟨3, _⟩ => rfl | ⟨4, _⟩ => rfl | ⟨5, _⟩ => rfl)).trans ?_
  refine (dot_num r n h _ _ d u t).trans ?_
  unfold Block.num
  refine (Finset.sum_congr rfl fun j _ => ?_).trans (coe_sum _ _)
  rw [mul_comm ((rblock a r n h).p t j), EReal.coe_mul]
  exact congrArg₂ (· * ·) (vv_at H r n h j d) (p_at H r n h u t j)

theorem den6_at (t : Fin 128) (u w : Fin 1) : res_main_v86 V0 (ix6 r n t h u w) = (((rblock a r n h).den t : ℝ) : EReal) := by
  unfold res_main_v86
  refine (broadcastInDim_apply _ _ _ _ (ix5 r n t h u)
    (fun a => match a with | ⟨0, _⟩ => rfl | ⟨1, _⟩ => rfl | ⟨2, _⟩ => rfl | ⟨3, _⟩ => rfl | ⟨4, _⟩ => (by show u.val = 0; omega))).trans ?_
  exact (transpose_apply _ _ _ _ (ix5 r n h u t)
    (fun a => match a with | ⟨0, _⟩ => rfl | ⟨1, _⟩ => rfl | ⟨2, _⟩ => rfl | ⟨3, _⟩ => rfl | ⟨4, _⟩ => rfl)).trans (den_at H r n h u t)

/-! ## Cotangents -/

theorem dnum_at (d : Fin 64) (u : Fin 1) (t : Fin 128) : res_main_v115 V0 (ix6 r n h d u t) = (((rblock a r n h).dnum t d : ℝ) : EReal) := by
  unfold res_main_v115
  refine (transpose_apply _ _ _ _ (ix6 r n t h u d)
      (fun a => match a with | ⟨0, _⟩ => rfl | ⟨1, _⟩ => rfl | ⟨2, _⟩ => rfl | ⟨3, _⟩ => rfl | ⟨4, _⟩ => rfl | ⟨5, _⟩ => rfl)).trans ?_
  refine (congrArg₂ Ideal.div (do_at H r n h t u d) ((lanes_at r n h _ t u d).trans (den6_at H r n h t 0 0))).trans ?_
  exact div_real (Block.den_ne (sees a r n h) t)

theorem dden_at (u : Fin 1) (t : Fin 128) :
    addf (F := Ideal) (φ := .f32) (Host.divf (res_main_v100 V0) (res_main_v82 V0)) (transpose S4x8x8x1x128 [0, 1, 3, 4, 2] (broadcastInDim S4x8x128x8x1 ![0, 1, 2, 3] bcast_S4x8x128x8_S4x8x128x8x1_0_1_2_3 (Host.reduceAdd (Host.negf (shapeCast S4x8x128x8x1x1 (Host.reduceAdd (mulf (mulf (res_main_v99 V0) (broadcastInDim S4x8x128x8x1x64 ![0, 1, 2, 3, 4, 5] bcast_S4x8x128x8x1x1_S4x8x128x8x1x64_0_1_2_3_4_5 (Host.divf (broadcastInDim S4x8x128x8x1x1 ![] bcast_S_S4x8x128x8x1x1 (constant S_ .f32 0x3F800000#32)) (mulf (res_main_v86 V0) (res_main_v86 V0))))) (res_main_v84 V0)) (constant S_ .f32 0x00000000#32) reducesTo_S4x8x128x8x1x64_S4x8x128x8x1_d5 h_S_) shapeCasts_S4x8x128x8x1_S4x8x128x8x1x1)) (constant S_ .f32 0x00000000#32) reducesTo_S4x8x128x8x1x1_S4x8x128x8_d4_5 h_S_)) transposes_S4x8x128x8x1_S4x8x8x1x128_0_1_3_4_2) (ix5 r n h u t)
      = (((rblock a r n h).dden t : ℝ) : EReal) := by
  have hd := Block.den_ne (sees a r n h) t
  have e1 : Host.divf (F := Ideal) (φ := .f32) (res_main_v100 V0) (res_main_v82 V0) (ix5 r n h u t) = (((rblock a r n h).DL t / (rblock a r n h).den t : ℝ) : EReal) :=
    (congrArg₂ Ideal.div (dl_at H r n h u t) (den_at H r n h u t)).trans (div_real hd)
  have e2 : ∀ d : Fin 64, mulf (F := Ideal) (φ := .f32) (mulf (res_main_v99 V0) (broadcastInDim S4x8x128x8x1x64 ![0, 1, 2, 3, 4, 5] bcast_S4x8x128x8x1x1_S4x8x128x8x1x64_0_1_2_3_4_5 (Host.divf (broadcastInDim S4x8x128x8x1x1 ![] bcast_S_S4x8x128x8x1x1 (constant S_ .f32 0x3F800000#32)) (mulf (res_main_v86 V0) (res_main_v86 V0))))) (res_main_v84 V0) (ix6 r n t h 0 d)
      = (((rblock a r n h).DO t d * (1 / ((rblock a r n h).den t * (rblock a r n h).den t)) * (rblock a r n h).num t d : ℝ) : EReal) := by
    intro d
    rw [EReal.coe_mul, EReal.coe_mul]
    refine congrArg₂ (· * ·) (congrArg₂ (· * ·) (do_at H r n h t 0 d) ((lanes_at r n h _ t 0 d).trans ?_)) (num_at H r n h t 0 d)
    refine (congrArg₂ Ideal.div ((broadcastInDim_scalar_apply _ _ _).trans ofBits_one) (congrArg₂ (fun x y : EReal => x * y) (den6_at H r n h t 0 0) (den6_at H r n h t 0 0))).trans ?_
    rw [← EReal.coe_mul, div_real (mul_ne_zero hd hd)]
  unfold Block.dden
  rw [sub_eq_add_neg, EReal.coe_add, EReal.coe_neg]
  refine congrArg₂ (· + ·) e1 ?_
  refine (transpose_apply _ _ _ _ (ix5 r n t h u)
    (fun a => match a with | ⟨0, _⟩ => rfl | ⟨1, _⟩ => rfl | ⟨2, _⟩ => rfl | ⟨3, _⟩ => rfl | ⟨4, _⟩ => rfl)).trans ?_
  refine (broadcastInDim_apply _ _ _ _ (ix4 r n t h)
    (fun a => match a with | ⟨0, _⟩ => rfl | ⟨1, _⟩ => rfl | ⟨2, _⟩ => rfl | ⟨3, _⟩ => rfl)).trans ?_
  refine (sum_units r n h _ t).trans ?_
  refine congrArg (fun z : EReal => -z) ?_
  refine (shapeCast_apply _ _ (ix6 r n t h 0 0) (ix5 (n4 := 1) r n t h 0) ?_).trans ?_
  · rw [Shape.rowMajor_val_five, Shape.rowMajor_val_six]
    show (((r.val * 8 + n.val) * 128 + t.val) * 8 + h.val) * 1 + 0 = ((((r.val * 8 + n.val) * 128 + t.val) * 8 + h.val) * 1 + 0) * 1 + 0
    omega
  refine (sum_lanes6 r n h _ t 0).trans ?_
  exact (Finset.sum_congr rfl fun d _ => e2 d).trans (coe_sum _ _)

theorem dpp_at (u : Fin 1) (t : Fin 128) (j : Fin 256) : res_main_v121 V0 (ix6 r n h u t j) = (((rblock a r n h).dp t j * (rblock a r n h).p t j : ℝ) : EReal) := by
  unfold res_main_v121
  rw [EReal.coe_mul]
  refine congrArg₂ (· * ·) ?_ (p_at H r n h u t j)
  unfold Block.dp
  rw [EReal.coe_add]
  refine congrArg₂ (· + ·) ?_ ((keys_at r n h _ u t j).trans (dden_at H r n h u t))
  refine (dot_dp r n h _ _ u t j).trans ?_
  refine (Finset.sum_congr rfl fun d _ => ?_).trans (coe_sum _ _)
  rw [EReal.coe_mul]
  exact congrArg₂ (· * ·) (dnum_at H r n h d u t) (vv_at H r n h j d)

/-! ## The largest score's share, which is zero -/

omit H in
/-- Whether a score is the row's largest, as the reference's 0 or 1. -/
def top (b : Block) (t : Fin 128) (j : Fin 256) : ℝ := if b.scE t j = b.mxE t then 1 else 0

omit H in
theorem top_sum (b : Block) (hs : b.Sees) (t : Fin 128) : ∑ j, top b t j ≠ 0 := by
  have hex : ∃ j, b.scE t j = b.mxE t := by
    have hle : b.mxE t ≤ (Finset.univ : Finset (Fin 256)).fold max ⊥ (b.scE t) := le_rfl
    rcases (Finset.le_fold_max (b.mxE t)).mp hle with hb | ⟨j, _, hj⟩
    · exact absurd (le_bot_iff.mp hb) (Block.mxE_ne_bot hs t)
    · exact ⟨j, le_antisymm ((Finset.le_fold_max (b.scE t j)).mpr (Or.inr ⟨j, Finset.mem_univ _, le_rfl⟩)) hj⟩
  obtain ⟨j, hj⟩ := hex
  refine ne_of_gt (Finset.sum_pos' (fun i _ => ?_) ⟨j, Finset.mem_univ _, ?_⟩)
  · unfold top; split
    · exact zero_le_one
    · exact le_rfl
  · unfold top
    rw [if_pos hj]; exact zero_lt_one

theorem top_at (u : Fin 1) (t : Fin 128) (j : Fin 256) : res_main_v76 V0 (ix6 r n h u t j) = ((top (rblock a r n h) t j : ℝ) : EReal) := by
  have e1 := scE_at H r n h u t j
  have e2 : broadcastInDim S4x8x8x1x128x256 ![0, 1, 2, 3, 4, 5] bcast_S4x8x8x1x128x1_S4x8x8x1x128x256_0_1_2_3_4_5 (shapeCast S4x8x8x1x128x1 (res_main_v72 V0) shapeCasts_S4x8x8x1x128_S4x8x8x1x128x1) (ix6 r n h u t j)
      = (rblock a r n h).mxE t := (keys_at' r n h _ u t j).trans ((col_cast r n h _ u t 0).trans (mxE_at H r n h u t))
  unfold res_main_v76
  refine (congrArg (fun b : BitVec 1 => ((b.toNat : ℝ) : EReal)) (congrArg₂ (Ideal.cmp .oeq) e1 e2)).trans ?_
  unfold top Ideal.cmp
  by_cases hc : (rblock a r n h).scE t j = (rblock a r n h).mxE t
  · rw [if_pos hc]
    simp [hc]
  · rw [if_neg hc]
    simp [hc]

theorem share_at (u : Fin 1) (t : Fin 128) (j : Fin 256) :
    broadcastInDim S4x8x8x1x128x256 ![0, 1, 2, 3, 4] bcast_S4x8x8x1x128_S4x8x8x1x128x256_0_1_2_3_4 (Host.divf (F := Ideal) (φ := .f32) (broadcastInDim S4x8x8x1x128 ![0, 1, 2, 4] bcast_S4x8x8x128_S4x8x8x1x128_0_1_2_4 (Host.reduceAdd (addf (broadcastInDim S4x8x8x1x128x1 ![0, 1, 2, 3, 4] bcast_S4x8x8x1x128_S4x8x8x1x128x1_0_1_2_3_4 (res_main_v100 V0)) (shapeCast S4x8x8x1x128x1 (Host.reduceAdd (Host.negf (res_main_v121 V0)) (constant S_ .f32 0x00000000#32) reducesTo_S4x8x8x1x128x256_S4x8x8x1x128_d5 h_S_) shapeCasts_S4x8x8x1x128_S4x8x8x1x128x1)) (constant S_ .f32 0x00000000#32) reducesTo_S4x8x8x1x128x1_S4x8x8x128_d3_5 h_S_)) (Host.reduceAdd (res_main_v76 V0) (constant S_ .f32 0x00000000#32) reducesTo_S4x8x8x1x128x256_S4x8x8x1x128_d5 h_S_)) (ix6 r n h u t j) = 0 := by
  refine (keys_at r n h _ u t j).trans ?_
  refine Eq.trans (congrArg₂ Ideal.div (?_ : _ = ((0 : ℝ) : EReal)) (?_ : _ = ((∑ j, top (rblock a r n h) t j : ℝ) : EReal))) ?_
  · refine (broadcastInDim_apply _ _ _ _ (ix4 r n h t)
      (fun a => match a with | ⟨0, _⟩ => rfl | ⟨1, _⟩ => rfl | ⟨2, _⟩ => rfl | ⟨3, _⟩ => rfl)).trans ?_
    refine (sum_units' r n h _ t).trans ?_
    refine (congrArg₂ (fun x y : EReal => x + y) ((col_at r n h _ 0 t 0).trans (dl_at H r n h 0 t)) ((col_cast r n h _ 0 t 0).trans ((sum_keys r n h _ 0 t).trans
      ((Finset.sum_congr rfl fun j _ => (congrArg (fun z : EReal => -z) (dpp_at H r n h 0 t j)).trans (EReal.coe_neg _).symm).trans (coe_sum _ _))))).trans ?_
    rw [← EReal.coe_add, Finset.sum_neg_distrib, Block.sum_dp_p (sees a r n h) t, add_neg_cancel]
  · refine (sum_keys r n h _ u t).trans ?_
    exact (congrArg (fun g : Fin 256 → EReal => ∑ j, g j) (funext fun j => top_at H r n h u t j)).trans (coe_sum _ _)
  · rw [div_real (top_sum _ (sees a r n h) t), zero_div, EReal.coe_zero]

/-! ## The score's gradient, and the three results' -/

theorem ds_at (j : Fin 256) (t : Fin 128) (u : Fin 1) : res_main_v135 V0 (ix6 r n h j t u) = (((rblock a r n h).ds t j : ℝ) : EReal) := by
  unfold res_main_v135
  refine (transpose_apply _ _ _ _ (ix6 r n h u t j)
      (fun a => match a with | ⟨0, _⟩ => rfl | ⟨1, _⟩ => rfl | ⟨2, _⟩ => rfl | ⟨3, _⟩ => rfl | ⟨4, _⟩ => rfl | ⟨5, _⟩ => rfl)).trans ?_
  refine (congrArg₂ (fun x y : EReal => x * y) (select_at r n h _ _ u t j) ((broadcastInDim_scalar_apply _ _ _).trans ofBits_eighth)).trans ?_
  unfold Block.ds
  have hm : (rblock a r n h).M t j = band (isFirst (blk r n)) t j := rfl
  rw [hm]
  cases band (isFirst (blk r n)) t j
  · rw [if_neg (by decide), if_neg (by decide)]
    refine (congrArg (· * ((scale : ℝ) : EReal)) ((broadcastInDim_scalar_apply _ _ _).trans Ideal.ofBits_zero_f32)).trans ?_
    rw [zero_mul, EReal.coe_zero]
  · rw [if_pos rfl, if_pos rfl, EReal.coe_mul]
    refine congrArg (· * ((scale : ℝ) : EReal)) ?_
    refine (congrArg₂ (fun x y : EReal => x + y) (dpp_at H r n h u t j) (congrArg₂ (fun x y : EReal => x * y) (share_at H r n h u t j) (top_at H r n h u t j))).trans ?_
    show _ + (0 : EReal) * _ = _
    rw [zero_mul, add_zero]

theorem dv_at (j : Fin 256) (d : Fin 64) : res_main_v118 V0 (ix5 r n j h d) = (((rblock a r n h).dv j d : ℝ) : EReal) := by
  unfold res_main_v118
  refine (transpose_apply _ _ _ _ (ix5 r n h d j)
      (fun a => match a with | ⟨0, _⟩ => rfl | ⟨1, _⟩ => rfl | ⟨2, _⟩ => rfl | ⟨3, _⟩ => rfl | ⟨4, _⟩ => rfl)).trans ?_
  refine (dot_dv r n h _ _ d j).trans ?_
  refine (Finset.sum_congr rfl fun t _ => ?_).trans (coe_sum _ _)
  rw [EReal.coe_mul]
  exact congrArg₂ (· * ·) (dnum_at H r n h d 0 t) (p_at H r n h 0 t j)

theorem dk_at (j : Fin 256) (d : Fin 64) : res_main_v139 V0 (ix5 r n j h d) = (((rblock a r n h).dk j d : ℝ) : EReal) := by
  unfold res_main_v139
  refine (transpose_apply _ _ _ _ (ix5 r n h j d)
      (fun a => match a with | ⟨0, _⟩ => rfl | ⟨1, _⟩ => rfl | ⟨2, _⟩ => rfl | ⟨3, _⟩ => rfl | ⟨4, _⟩ => rfl)).trans ?_
  refine (dot_dk r n h _ _ j d).trans ?_
  refine (Finset.sum_congr rfl fun t _ => ?_).trans (coe_sum _ _)
  rw [EReal.coe_mul]
  exact congrArg₂ (· * ·) (ds_at H r n h j t 0) (q_at H r n h t 0 d)

/-- The query gradient's element of row `t` and lane `d`. -/
theorem result_q (t : Fin 128) (d : Fin 64) :
    shapeCast S4096x512 (truncf (F := Ideal) .bf16 (shapeCast S4x1024x8x64 (transpose S4x8x128x8x1x64 [0, 1, 3, 2, 4, 5] (Host.dotGeneral (F := Ideal) (φ₁ := .f32) (φ₂ := .f32) dot_S4x8x8x256x128x1_S4x8x256x8x64_S4x8x8x128x1x64_3_2_45_4_012_013 none (res_main_v135 V0) (res_main_v28 V0)) transposes_S4x8x8x128x1x64_S4x8x128x8x1x64_0_1_3_2_4_5) shapeCasts_S4x8x128x8x1x64_S4x1024x8x64) bitsLt_bf16_f32) shapeCasts_S4x1024x8x64_S4096x512
      (ix2 (srow (blk r n) t) (lane h d)) = ((a.dq (blk r n) h t d : ℝ) : EReal) := by
  refine (back6_apply _ r n t h d).trans ?_
  refine (transpose_apply _ _ _ _ (ix6 r n h t 0 d)
      (fun a => match a with | ⟨0, _⟩ => rfl | ⟨1, _⟩ => rfl | ⟨2, _⟩ => rfl | ⟨3, _⟩ => rfl | ⟨4, _⟩ => rfl | ⟨5, _⟩ => rfl)).trans ?_
  refine (dot_dq r n h _ _ t 0 d).trans ?_
  unfold Args.dq
  rw [← (agrees a r n h).dq t d]
  refine (Finset.sum_congr rfl fun j _ => ?_).trans (coe_sum _ _)
  rw [EReal.coe_mul]
  exact congrArg₂ (· * ·) (ds_at H r n h j t 0) (kk_at H r n h j d)

omit H in
/-- A key row's gradient is its own block's plus the next block's, where there is one in the class. -/
theorem next_at (g : Fin 4 → Fin 8 → Fin 8 → Fin 256 → Fin 64 → ℝ) (y : FVec Ideal S4x8x256x8x64 .f32)
    (hy : ∀ (n : Fin 8) (j : Fin 256) (d : Fin 64), y (ix5 r n j h d) = ((g r n h j d : ℝ) : EReal)) (t : Fin 128) (d : Fin 64) :
    addf (F := Ideal) (φ := .f32) (extractStridedSlice S4x8x128x8x64 ![0, 0, 128, 0, 0] y slices_S4x8x256x8x64_S4x8x128x8x64_0_0_128_0_0) (pad S4x8x128x8x64 ![0, 0, 0, 0, 0] ![0, 1, 0, 0, 0] ![0, 0, 0, 0, 0] (extractStridedSlice S4x7x128x8x64 ![0, 1, 0, 0, 0] (extractStridedSlice S4x8x128x8x64 ![0, 0, 0, 0, 0] y slices_S4x8x256x8x64_S4x8x128x8x64_0_0_0_0_0) slices_S4x8x128x8x64_S4x7x128x8x64_0_1_0_0_0) (constant S_ .f32 0x00000000#32) pads_S4x7x128x8x64_S4x8x128x8x64_000_010_000_000_000 h_S_) (ix5 r n t h d)
      = ((g r n h (hi t) d + (if hn : n.val + 1 < 8 then g r ⟨n.val + 1, hn⟩ h (lo t) d else 0) : ℝ) : EReal) := by
  rw [EReal.coe_add]
  refine congrArg₂ (· + ·) ?_ ?_
  · refine (extractStridedSlice_apply _ y _ _ (ix5 r n (hi t) h d)
      (fun b => match b with | ⟨0, _⟩ => (Nat.zero_add _).symm | ⟨1, _⟩ => (Nat.zero_add _).symm | ⟨2, _⟩ => rfl | ⟨3, _⟩ => (Nat.zero_add _).symm | ⟨4, _⟩ => (Nat.zero_add _).symm)).trans ?_
    exact hy n (hi t) d
  · by_cases hn : n.val + 1 < 8
    · rw [dif_pos hn]
      refine (pad_apply_of_inside (s := S4x7x128x8x64) (t := S4x8x128x8x64) ![0, 0, 0, 0, 0] ![0, 1, 0, 0, 0] ![0, 0, 0, 0, 0] _ _ _ _ (ix5 r n t h d) (ix5 (n1 := 7) r ⟨n.val, by omega⟩ t h d)
        (fun b => match b with | ⟨0, _⟩ => (by show r.val = 0 + r.val * 1; omega) | ⟨1, _⟩ => (by show n.val = 0 + n.val * 1; omega) | ⟨2, _⟩ => (by show t.val = 0 + t.val * 1; omega) | ⟨3, _⟩ => (by show h.val = 0 + h.val * 1; omega) | ⟨4, _⟩ => (by show d.val = 0 + d.val * 1; omega))).trans ?_
      refine (extractStridedSlice_apply _ _ _ _ (ix5 r ⟨n.val + 1, hn⟩ t h d)
        (fun b => match b with | ⟨0, _⟩ => (Nat.zero_add _).symm | ⟨1, _⟩ => Nat.add_comm _ _ | ⟨2, _⟩ => (Nat.zero_add _).symm | ⟨3, _⟩ => (Nat.zero_add _).symm | ⟨4, _⟩ => (Nat.zero_add _).symm)).trans ?_
      refine (extractStridedSlice_apply _ y _ _ (ix5 r ⟨n.val + 1, hn⟩ (lo t) h d)
        (fun b => match b with | ⟨0, _⟩ => (Nat.zero_add _).symm | ⟨1, _⟩ => (Nat.zero_add _).symm | ⟨2, _⟩ => (Nat.zero_add _).symm | ⟨3, _⟩ => (Nat.zero_add _).symm | ⟨4, _⟩ => (Nat.zero_add _).symm)).trans ?_
      exact hy _ _ _
    · rw [dif_neg hn]
      refine (pad_apply_of_not_inside (s := S4x7x128x8x64) (t := S4x8x128x8x64) ![0, 0, 0, 0, 0] ![0, 1, 0, 0, 0] ![0, 0, 0, 0, 0] _ _ _ _ (ix5 r n t h d) (1 : Fin 5) (fun hin => hn ?_)).trans (Ideal.ofBits_zero_f32.trans EReal.coe_zero.symm)
      have h2 : (n.val - 0) / 1 < 7 := hin.2.2
      rw [Nat.sub_zero, Nat.div_one] at h2
      omega

omit H in
/-- What the next block adds, as the whole arrays' gradients have it. -/
theorem next_k (t : Fin 128) (d : Fin 64) :
    (if hn : n.val + 1 < 8 then (rblock a r ⟨n.val + 1, hn⟩ h).dk (lo t) d else 0) = a.nextK (blk r n) h t d := by
  have := r.isLt
  by_cases hn : n.val + 1 < 8
  · rw [dif_pos hn, (agrees a r ⟨n.val + 1, hn⟩ h).dk]
    unfold Args.nextK
    rw [dif_pos (show (blk r n).val + 1 < 32 by show 8 * r.val + n.val + 1 < 32; omega)]
    rfl
  · rw [dif_neg hn]
    exact (a.nextK_last (blk r n) (by show (8 * r.val + n.val) % 8 = 7; omega) h t d).symm

omit H in
theorem next_v (t : Fin 128) (d : Fin 64) :
    (if hn : n.val + 1 < 8 then (rblock a r ⟨n.val + 1, hn⟩ h).dv (lo t) d else 0) = a.nextV (blk r n) h t d := by
  have := r.isLt
  by_cases hn : n.val + 1 < 8
  · rw [dif_pos hn, (agrees a r ⟨n.val + 1, hn⟩ h).dv]
    unfold Args.nextV
    rw [dif_pos (show (blk r n).val + 1 < 32 by show 8 * r.val + n.val + 1 < 32; omega)]
    rfl
  · rw [dif_neg hn]
    exact (a.nextV_last (blk r n) (by show (8 * r.val + n.val) % 8 = 7; omega) h t d).symm

theorem result_k (t : Fin 128) (d : Fin 64) :
    shapeCast S4096x512 (truncf (F := Ideal) .bf16 (shapeCast S4x1024x8x64 (addf (F := Ideal) (φ := .f32) (extractStridedSlice S4x8x128x8x64 ![0, 0, 128, 0, 0] (res_main_v139 V0) slices_S4x8x256x8x64_S4x8x128x8x64_0_0_128_0_0) (pad S4x8x128x8x64 ![0, 0, 0, 0, 0] ![0, 1, 0, 0, 0] ![0, 0, 0, 0, 0] (extractStridedSlice S4x7x128x8x64 ![0, 1, 0, 0, 0] (res_main_v147 V0) slices_S4x8x128x8x64_S4x7x128x8x64_0_1_0_0_0) (constant S_ .f32 0x00000000#32) pads_S4x7x128x8x64_S4x8x128x8x64_000_010_000_000_000 h_S_)) shapeCasts_S4x8x128x8x64_S4x1024x8x64) bitsLt_bf16_f32) shapeCasts_S4x1024x8x64_S4096x512
      (ix2 (srow (blk r n) t) (lane h d)) = ((a.dk (blk r n) h t d : ℝ) : EReal) := by
  refine (back5_apply _ r n t h d).trans ?_
  unfold res_main_v147
  refine (next_at r n h (fun r n h j d => (rblock a r n h).dk j d) (res_main_v139 V0) (fun n j d => dk_at H r n h j d) t d).trans ?_
  rw [next_k, (agrees a r n h).dk]
  rfl

theorem result_v (t : Fin 128) (d : Fin 64) :
    shapeCast S4096x512 (truncf (F := Ideal) .bf16 (shapeCast S4x1024x8x64 (addf (F := Ideal) (φ := .f32) (extractStridedSlice S4x8x128x8x64 ![0, 0, 128, 0, 0] (res_main_v118 V0) slices_S4x8x256x8x64_S4x8x128x8x64_0_0_128_0_0) (pad S4x8x128x8x64 ![0, 0, 0, 0, 0] ![0, 1, 0, 0, 0] ![0, 0, 0, 0, 0] (extractStridedSlice S4x7x128x8x64 ![0, 1, 0, 0, 0] (res_main_v140 V0) slices_S4x8x128x8x64_S4x7x128x8x64_0_1_0_0_0) (constant S_ .f32 0x00000000#32) pads_S4x7x128x8x64_S4x8x128x8x64_000_010_000_000_000 h_S_)) shapeCasts_S4x8x128x8x64_S4x1024x8x64) bitsLt_bf16_f32) shapeCasts_S4x1024x8x64_S4096x512
      (ix2 (srow (blk r n) t) (lane h d)) = ((a.dv (blk r n) h t d : ℝ) : EReal) := by
  refine (back5_apply _ r n t h d).trans ?_
  unfold res_main_v140
  refine (next_at r n h (fun r n h j d => (rblock a r n h).dv j d) (res_main_v118 V0) (fun n j d => dv_at H r n h j d) t d).trans ?_
  rw [next_v, (agrees a r n h).dv]
  rfl

end Cert.Proof.RefRead

end
-- ==== Proof.Join.lean ====
/-
  The two programs' results meet: where every argument is finite the arguments are real arrays, and each result of
  either program is the same function of them.
-/
module

public import proofs.«01_k».proof.Defs
public import proofs.«01_k».proof.Proof.KernelValue
public import proofs.«01_k».proof.Proof.RefValue

@[expose] public section

noncomputable section

namespace Cert.Proof.Join

open Idealize.ShloMosaic
open Cert.Proof.Spec
open scoped BigOperators

theorem pre_facts : Cert.Pre_finite.Facts := ⟨by decide⟩

/-! ## A finite argument is a real array -/

theorem real_of_lt (x : EReal) (h : Ideal.cmp .olt (max x (-x)) (Ideal.ofBits .f32 0x7F800000#32) = 1#1) : x = ((x.toReal : ℝ) : EReal) := by
  have e : Ideal.ofBits .f32 0x7F800000#32 = ⊤ := by simp [Ideal.ofBits, Ideal.ieee, -EReal.coe_mul]
  rw [e] at h
  have hlt : max x (-x) < ⊤ := by
    unfold Ideal.cmp at h
    by_contra hn
    simp [hn] at h
  have h1 : x ≠ ⊤ := fun hx => absurd (lt_of_le_of_lt (le_max_left x (-x)) hlt) (by rw [hx]; exact lt_irrefl _)
  have h2 : x ≠ ⊥ := fun hx => absurd (lt_of_le_of_lt (le_max_right x (-x)) hlt) (by rw [hx, EReal.neg_bot]; exact lt_irrefl _)
  exact (EReal.coe_toReal h1 h2).symm

theorem and_one : ∀ a b : BitVec 1, a &&& b = 1#1 → a = 1#1 ∧ b = 1#1 := by decide

/-- The precondition at one element: each of the five arguments is real there. -/
theorem finite_at [hPre : Cert.Pre_finite.Facts] (x0 x1 x2 x3 x4 : FVec Ideal ⟨2, ![4096, 512]⟩ .f32)
    (h : Cert.Pre_finite.fn (F := Ideal) x0 x1 x2 x3 x4 = fun _ => 1#1) (i : (⟨2, ![4096, 512]⟩ : Shape).Idx) :
    (x0 i = ((EReal.toReal (x0 i) : ℝ) : EReal) ∧ x1 i = ((EReal.toReal (x1 i) : ℝ) : EReal)) ∧ (x2 i = ((EReal.toReal (x2 i) : ℝ) : EReal)
      ∧ x3 i = ((EReal.toReal (x3 i) : ℝ) : EReal)) ∧ x4 i = ((EReal.toReal (x4 i) : ℝ) : EReal) := by
  have h4 := and_one _ _ (congrFun h i)
  have h3 := and_one _ _ h4.1
  have h2 := and_one _ _ h3.1
  have h1 := and_one _ _ h2.1
  exact ⟨⟨real_of_lt _ h1.1, real_of_lt _ h1.2⟩, ⟨real_of_lt _ h2.2, real_of_lt _ h3.2⟩, real_of_lt _ h4.2⟩

/-- The real arrays the five arguments are. -/
def reals (x0 x1 x2 x3 x4 : FVec Ideal ⟨2, ![4096, 512]⟩ .f32) : Args where
  q s y := EReal.toReal (x0 (ValueIdx.ix2 s y))
  k s y := EReal.toReal (x1 (ValueIdx.ix2 s y))
  v s y := EReal.toReal (x2 (ValueIdx.ix2 s y))
  go s y := EReal.toReal (x3 (ValueIdx.ix2 s y))
  gl s y := EReal.toReal (x4 (ValueIdx.ix2 s y))

theorem holds [hPre : Cert.Pre_finite.Facts] (x0 x1 x2 x3 x4 : FVec Ideal ⟨2, ![4096, 512]⟩ .f32)
    (h : Cert.Pre_finite.fn (F := Ideal) x0 x1 x2 x3 x4 = fun _ => 1#1) : KernelValue.Holds (reals x0 x1 x2 x3 x4) x0 x1 x2 x3 x4 :=
  ⟨fun s y => (finite_at x0 x1 x2 x3 x4 h (ValueIdx.ix2 s y)).1.1, fun s y => (finite_at x0 x1 x2 x3 x4 h (ValueIdx.ix2 s y)).1.2,
    fun s y => (finite_at x0 x1 x2 x3 x4 h (ValueIdx.ix2 s y)).2.1.1, fun s y => (finite_at x0 x1 x2 x3 x4 h (ValueIdx.ix2 s y)).2.1.2,
    fun s y => (finite_at x0 x1 x2 x3 x4 h (ValueIdx.ix2 s y)).2.2⟩

/-! ## An array by its blocks, heads, rows and lanes -/

theorem arr_ext (g : Fin 32 → Fin 8 → Fin 128 → Fin 64 → ℝ) (x : FVec Ideal ⟨2, ![4096, 512]⟩ .f32)
    (h : ∀ (r : Fin 4) (n h : Fin 8) (t : Fin 128) (d : Fin 64), x (ValueIdx.ix2 (srow (RefOps.blk r n) t) (lane h d)) = ((g (RefOps.blk r n) h t d : ℝ) : EReal)) :
    x = KernelValue.arr g := by
  funext i
  obtain ⟨s, y, rfl⟩ : ∃ (s : Fin 4096) (y : Fin 512), i = ValueIdx.ix2 s y := ⟨i 0, i 1, ValueIdx.eq_ix2 i⟩
  have hs := s.isLt
  have e : RefOps.blk ⟨s.val / 1024, by omega⟩ ⟨s.val / 128 % 8, Nat.mod_lt _ (by decide)⟩ = blockOf s :=
    Fin.ext (by show 8 * (s.val / 1024) + s.val / 128 % 8 = s.val / 128; omega)
  have key := h ⟨s.val / 1024, by omega⟩ ⟨s.val / 128 % 8, Nat.mod_lt _ (by decide)⟩ (headOf y) (rowOf s) (laneOf y)
  rw [e, srow_of, lane_of] at key
  exact key

end Cert.Proof.Join

end
-- ==== Proof.Product.lean ====
/-
  Products of matrices computed tile by tile: a product with the rows of both operands contracted, or the columns of both,
  read at an index; the sum over the tiles of the contracted axis is the sum over the axis; and a running total that starts
  with the first tile and adds one tile a point ends as that sum.
-/
module

public import Idealize.ShloMosaic.Lib.MatmulPlain
public import Idealize.ShloMosaic.Lib.Pipeline.ValueKit

@[expose] public section

noncomputable section

namespace Cert.Proof.Product

open Idealize.ShloMosaic
open Idealize.ShloMosaic.ValueIdx (contrEquiv1 contrEquiv1_symm_val)

/-! ## Whole blocks read and written -/

theorem off_zero : (![0, 0] : Fin 2 → ℕ) = fun _ => 0 := by
  funext a
  fin_cases a <;> rfl

section whole
variable {Val : EltTy → Type} [∀ e, Nonempty (Val e)] {sig : RefSig} {κ : Kind} {sp : Space} {d : Fin 2 → ℕ} {e : EltTy}

/-- A buffer loaded whole holds what it holds. -/
theorem load_whole {M : Memref sig κ sp ⟨2, d⟩ e} (h : M.IsWhole) (X : (⟨2, d⟩ : Shape).Idx → Val e) (inb : ∀ a, (![0, 0] : Fin 2 → ℕ) a + d a ≤ d a) :
    View.readAt Val M.view (Rect.unit (s := ⟨2, d⟩) ![0, 0] d inb).toLoadRect (h.unread X) = X := by
  rw [View.readAt_eq_ld, h.read_unread]
  exact View.ld_unit_zero off_zero inb X

/-- A buffer stored whole holds what was stored. -/
theorem store_whole (v : View sig κ sp ⟨2, d⟩ e) (w : (⟨2, d⟩ : Shape).Idx → Val e) (inb : ∀ a, (![0, 0] : Fin 2 → ℕ) a + d a ≤ d a) :
    v.read Val (v.writes Val v.junk [⟨Rect.unit (s := ⟨2, d⟩) ![0, 0] d inb, w⟩]) = w := by
  rw [View.read_writes_junk_eq_canon]
  exact View.canon_unit_zero off_zero inb w

end whole

/-! ## The products at an index -/

/-- `K×M` by `K×N`, both contracted on their first axis. -/
def tn (K M N : ℕ) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-- The contracted positions of `tn`. -/
def tnContr (K M N : ℕ) : (tn K M N).contr.Idx ≃ Fin K := contrEquiv1 _ K rfl rfl

theorem tn_lhs {K M N : ℕ} (r : Fin M) (c : Fin N) (k : Fin K) :
    (tn K M N).lhsIdx (ValueIdx.ix2 r c) ((tnContr K M N).symm k) = ValueIdx.ix2 k r := by
  have hk := contrEquiv1_symm_val (tn K M N) K rfl rfl k
  funext a; apply Fin.ext
  match a with
  | ⟨0, _⟩ => exact hk
  | ⟨1, _⟩ => rfl

theorem tn_rhs {K M N : ℕ} (r : Fin M) (c : Fin N) (k : Fin K) :
    (tn K M N).rhsIdx (ValueIdx.ix2 r c) ((tnContr K M N).symm k) = ValueIdx.ix2 k c := by
  have hk := contrEquiv1_symm_val (tn K M N) K rfl rfl k
  funext a; apply Fin.ext
  match a with
  | ⟨0, _⟩ => exact hk
  | ⟨1, _⟩ => rfl

theorem nt_lhs {M K N : ℕ} (r : Fin M) (c : Fin N) (k : Fin K) :
    (DotDims.transposedRhs M K N).lhsIdx (ValueIdx.ix2 r c) ((DotDims.transposedRhsContr M K N).symm k) = ValueIdx.ix2 r k := by
  have hk := contrEquiv1_symm_val (DotDims.transposedRhs M K N) K rfl rfl k
  funext a; apply Fin.ext
  match a with
  | ⟨0, _⟩ => rfl
  | ⟨1, _⟩ => exact hk

theorem nt_rhs {M K N : ℕ} (r : Fin M) (c : Fin N) (k : Fin K) :
    (DotDims.transposedRhs M K N).rhsIdx (ValueIdx.ix2 r c) ((DotDims.transposedRhsContr M K N).symm k) = ValueIdx.ix2 c k := by
  have hk := contrEquiv1_symm_val (DotDims.transposedRhs M K N) K rfl rfl k
  funext a; apply Fin.ext
  match a with
  | ⟨0, _⟩ => rfl
  | ⟨1, _⟩ => exact hk

section at_index

variable {K M N : ℕ} {φ₁ φ₂ : FTy}

/-- A tile's product, both operands contracted on their rows, from a zero accumulator. -/
theorem matmul_tn (prec : Option ContractPrecision) (l : FVec Ideal ⟨2, ![K, M]⟩ φ₁) (r : FVec Ideal ⟨2, ![K, N]⟩ φ₂) (i : Fin M) (j : Fin N) :
    FloatOps.matmul (tn K M N) prec l r (constant ⟨2, ![M, N]⟩ .f32 0x00000000#32) (ValueIdx.ix2 i j)
      = ∑ k : Fin K, (l (ValueIdx.ix2 k i) * r (ValueIdx.ix2 k j) : EReal) := by
  rw [Ideal.matmul_constant_zero_apply, ← Equiv.sum_comp (tnContr K M N).symm]
  exact Finset.sum_congr rfl fun k _ => by rw [tn_lhs, tn_rhs]

/-- A tile's product, both operands contracted on their columns, from a zero accumulator. -/
theorem matmul_nt (prec : Option ContractPrecision) (l : FVec Ideal ⟨2, ![M, K]⟩ φ₁) (r : FVec Ideal ⟨2, ![N, K]⟩ φ₂) (i : Fin M) (j : Fin N) :
    FloatOps.matmul (DotDims.transposedRhs M K N) prec l r (constant ⟨2, ![M, N]⟩ .f32 0x00000000#32) (ValueIdx.ix2 i j)
      = ∑ k : Fin K, (l (ValueIdx.ix2 i k) * r (ValueIdx.ix2 j k) : EReal) := by
  rw [Ideal.matmul_constant_zero_apply, ← Equiv.sum_comp (DotDims.transposedRhsContr M K N).symm]
  exact Finset.sum_congr rfl fun k _ => by rw [nt_lhs, nt_rhs]

/-- A host product contracted on the rows of both. -/
theorem dot_tn (prec : Option ContractPrecision) (l : FVec Ideal ⟨2, ![K, M]⟩ φ₁) (r : FVec Ideal ⟨2, ![K, N]⟩ φ₂) (i : Fin M) (j : Fin N) :
    Host.dotGeneral (tn K M N) prec l r (ValueIdx.ix2 i j) = ∑ k : Fin K, (l (ValueIdx.ix2 k i) * r (ValueIdx.ix2 k j) : EReal) := by
  unfold Host.dotGeneral
  rw [Ideal.dotGeneral_apply, ← Equiv.sum_comp (tnContr K M N).symm]
  exact Finset.sum_congr rfl fun k _ => by rw [tn_lhs, tn_rhs]

/-- A host product contracted on the columns of both. -/
theorem dot_nt (prec : Option ContractPrecision) (l : FVec Ideal ⟨2, ![M, K]⟩ φ₁) (r : FVec Ideal ⟨2, ![N, K]⟩ φ₂) (i : Fin M) (j : Fin N) :
    Host.dotGeneral (DotDims.transposedRhs M K N) prec l r (ValueIdx.ix2 i j) = ∑ k : Fin K, (l (ValueIdx.ix2 i k) * r (ValueIdx.ix2 j k) : EReal) := by
  unfold Host.dotGeneral
  rw [Ideal.dotGeneral_apply, ← Equiv.sum_comp (DotDims.transposedRhsContr M K N).symm]
  exact Finset.sum_congr rfl fun k _ => by rw [nt_lhs, nt_rhs]

/-- The reference's gradient of a weight at an index: the product contracted on the rows, transposed, with the factors in
    the other order. -/
theorem dot_transposed (prec : Option ContractPrecision) (l : FVec Ideal ⟨2, ![K, M]⟩ φ₁) (r : FVec Ideal ⟨2, ![K, N]⟩ φ₂)
    (h : (⟨2, ![M, N]⟩ : Shape).Transposes [1, 0] ⟨2, ![N, M]⟩) (i : (⟨2, ![N, M]⟩ : Shape).Idx) :
    transpose ⟨2, ![N, M]⟩ [1, 0] (Host.dotGeneral (tn K M N) prec l r) h i = ∑ k : Fin K, (r (ValueIdx.ix2 k (i 0)) * l (ValueIdx.ix2 k (i 1)) : EReal) := by
  have e : transpose ⟨2, ![N, M]⟩ [1, 0] (Host.dotGeneral (tn K M N) prec l r) h i = Host.dotGeneral (tn K M N) prec l r (ValueIdx.ix2 (i 1) (i 0)) :=
    congrArg (Host.dotGeneral (tn K M N) prec l r) (Shape.idx_ext₂ rfl rfl)
  exact (e.trans (dot_tn prec l r _ _)).trans (Finset.sum_congr rfl fun k _ => mul_comm (G := EReal) _ _)

end at_index

/-! ## The contracted axis, tile by tile -/

/-- A summand over the contracted axis, zero past its end. -/
def term {K : ℕ} (f : Fin K → EReal) (k : ℕ) : EReal := if h : k < K then f ⟨k, h⟩ else 0

theorem term_of_lt {K : ℕ} (f : Fin K → EReal) (k : ℕ) (h : k < K) : term f k = f ⟨k, h⟩ := dif_pos h

theorem sum_term {K : ℕ} (f : Fin K → EReal) : ∑ k ∈ Finset.range K, term f k = ∑ k, f k := by
  rw [Finset.sum_range]
  exact Finset.sum_congr rfl fun k _ => term_of_lt f k.val k.isLt

/-- Tile `j` of the contracted axis, `d` wide. -/
def tile {K : ℕ} (f : Fin K → EReal) (d j : ℕ) : EReal := ∑ k ∈ Finset.range d, term f (d * j + k)

/-- A tile's sum over its own places. -/
theorem tile_of_places {K d : ℕ} (f : Fin K → EReal) (j : ℕ) (g : Fin d → EReal) (hj : d * j + d ≤ K)
    (h : ∀ k : Fin d, g k = f ⟨d * j + k.val, by omega⟩) : ∑ k, g k = tile f d j := by
  unfold tile
  rw [Finset.sum_range]
  exact Finset.sum_congr rfl fun k _ => (h k).trans (term_of_lt f _ (by omega)).symm

/-- The tiles before `n`, together, are the places before `d * n`. -/
theorem sum_tiles {K : ℕ} (f : Fin K → EReal) (d : ℕ) : ∀ n, ∑ j ∈ Finset.range n, tile f d j = ∑ k ∈ Finset.range (d * n), term f k
  | 0 => by simp
  | n + 1 => by rw [Finset.sum_range_succ, sum_tiles f d n, Nat.mul_succ, Finset.sum_range_add]; rfl

/-- All the tiles make the whole sum. -/
theorem sum_all {K : ℕ} (f : Fin K → EReal) (d n : ℕ) (h : d * n = K) : ∑ j ∈ Finset.range n, tile f d j = ∑ k, f k := by
  rw [sum_tiles, h, sum_term]

/-- A running total over the points of one block: it is the first tile at the block's first point, and each later point adds
    its tile. -/
theorem total {N : ℕ} (S : (n : ℕ) → n < N → EReal) (T : ℕ → EReal) (b L : ℕ)
    (h0 : ∀ h, S b h = T 0) (hs : ∀ j h h', j + 1 < L → S (b + (j + 1)) h = S (b + j) h' + T (j + 1)) :
    ∀ j h, j < L → S (b + j) h = ∑ s ∈ Finset.range (j + 1), T s
  | 0, h, _ => by rw [Finset.sum_range_one]; exact h0 h
  | j + 1, h, hj => by
    have h' : b + j < N := by omega
    rw [hs j h h' hj, total S T b L h0 hs j h' (by omega), Finset.sum_range_succ _ (j + 1)]

end Cert.Proof.Product

end
-- ==== Proof.DownDx.lean ====
/-
  The gradient of the feed-forward product through the down projection, D = dcur · Wdᵀ, taken on through the gate
  silu(a)·b: what each point of the kernel leaves, and the two arrays it ends with.
-/
module

public import proofs.«01_k».proof.Defs
public import Idealize.ShloMosaic.Lib.IdealHost
public import proofs.«01_k».proof.Proof.Head
public import proofs.«01_k».proof.Proof.Product
public import proofs.«01_k».proof.Proof.Gen.Kernel2Ideal.Value
public import proofs.«01_k».proof.Proof.Gen.Reference2Ideal.Run
public import proofs.«01_k».proof.Proof.Gen.Kernel2
public import proofs.«01_k».proof.Proof.Gen.Kernel2Ideal
public import proofs.«01_k».proof.Proof.Gen.Reference2Ideal

@[expose] public section

noncomputable section

namespace Cert.Proof.DownDx

open Cert.Kernel2Ideal Cert.Kernel2Ideal.Gen Idealize.ShloMosaic Idealize.ShloMosaic.TcCoe Idealize.SL.Sem

section points
variable {F : FTy → Type} [FloatOps F] (x0 : Vec F S1024x2048 .bf16) (x1 : Vec F S512x2048 .bf16) (x2 x3 : Vec F S1024x512 .bf16)

/-- What the body leaves in the first output's buffer. -/
theorem out_a : out0_4 x0 x1 x2 x3 = k0_pay4 x0 x1 x2 x3 := by
  unfold out0_4
  refine (View.canon_unit_zero Product.off_zero _ _).trans ?_
  exact congr (congr (congrArg₂ k0_pay4 (View.ld_unit_zero Product.off_zero _ _) (View.ld_unit_zero Product.off_zero _ _)) (View.ld_unit_zero Product.off_zero _ _))
    (View.ld_unit_zero Product.off_zero _ _)

/-- What the body leaves in the second output's buffer. -/
theorem out_b : out0_5 x0 x1 x2 x3 = k0_pay5 x0 x1 x2 := by
  unfold out0_5
  refine (View.canon_unit_zero Product.off_zero _ _).trans ?_
  exact congr (congrArg₂ k0_pay5 (View.ld_unit_zero Product.off_zero _ _) (View.ld_unit_zero Product.off_zero _ _)) (View.ld_unit_zero Product.off_zero _ _)

end points

/-- The product with the transposed weight, at an element. -/
def grad (A : Vec Ideal S4096x2048 .bf16) (B : Vec Ideal S5632x2048 .bf16) (i : S4096x5632.Idx) : EReal :=
  ∑ k : Fin 2048, A (ValueIdx.ix2 (i 0) k) * B (ValueIdx.ix2 (i 1) k)

/-- The gradient of the gate's pre-activation `x`, for `d` the gradient of silu(x)·y. -/
def dGate (d x y : EReal) : EReal := d * y * Ideal.logistic x + x * (d * y) * (Ideal.logistic x * (1 - Ideal.logistic x))

/-- The gradient of the other factor. -/
def dUp (d x : EReal) : EReal := x * Ideal.logistic x * d

/-- The gate's gradient as an array. -/
def gates (A : Vec Ideal S4096x2048 .bf16) (B : Vec Ideal S5632x2048 .bf16) (X Y : Vec Ideal S4096x5632 .bf16) : Vec Ideal S4096x5632 .bf16 :=
  fun i => dGate (grad A B i) (X i) (Y i)

/-- The other factor's gradient as an array. -/
def ups (A : Vec Ideal S4096x2048 .bf16) (B : Vec Ideal S5632x2048 .bf16) (X : Vec Ideal S4096x5632 .bf16) : Vec Ideal S4096x5632 .bf16 :=
  fun i => dUp (grad A B i) (X i)

theorem ofBits_one' : (Scalar.ofBits (F := Ideal) .f32 0x3F800000#32 : EReal) = 1 := Head.ofBits_one.trans EReal.coe_one

section values
variable (m : (ℓ : Loc nD τ sig) → Buf (Elt Ideal) ℓ) (c : Dev nD)

theorem idx_in : ∀ t : Fin cfg0.N, ((cfg0.win 0).index t 0 = t.val / 11 ∧ (cfg0.win 0).index t 1 = 0)
    ∧ ((cfg0.win 1).index t 0 = t.val % 11 ∧ (cfg0.win 1).index t 1 = 0)
    ∧ ((cfg0.win 2).index t 0 = t.val / 11 ∧ (cfg0.win 2).index t 1 = t.val % 11)
    ∧ ((cfg0.win 3).index t 0 = t.val / 11 ∧ (cfg0.win 3).index t 1 = t.val % 11)
    ∧ ((cfg0.win 4).index t 0 = t.val / 11 ∧ (cfg0.win 4).index t 1 = t.val % 11)
    ∧ ((cfg0.win 5).index t 0 = t.val / 11 ∧ (cfg0.win 5).index t 1 = t.val % 11) := by decide +kernel

/-- A point's product, at a place of its block, is the whole product there. -/
theorem product_at (t : Fin cfg0.N) (y : S1024x512.Idx) (i : S4096x5632.Idx) (h0 : (i 0).val = t.val / 11 * 1024 + (y 0).val)
    (h1 : (i 1).val = t.val % 11 * 512 + (y 1).val) :
    k0_pay1 (F := Ideal) (iblk m c 0 t) (iblk m c 1 t) y = grad (m ((c : Thread nD τ).loc main_arg0)) (m ((c : Thread nD τ).loc main_arg1)) i := by
  rw [show y = ValueIdx.ix2 (y 0) (y 1) from Shape.idx_ext₂ rfl rfl]
  refine (Product.matmul_nt (φ₁ := .bf16) (φ₂ := .bf16) none _ _ _ _).trans ?_
  refine Finset.sum_congr rfl fun k _ => congrArg₂ (· * ·) ?_ ?_
  · refine congrArg (m ((c : Thread nD τ).loc main_arg0)) (Shape.idx_ext₂ ?_ ?_)
    · blk_simp [(idx_in t).1.1]; show t.val / 11 * 1024 + (y 0).val = (i 0).val; omega
    · blk_simp [(idx_in t).1.2]
  · refine congrArg (m ((c : Thread nD τ).loc main_arg1)) (Shape.idx_ext₂ ?_ ?_)
    · blk_simp [(idx_in t).2.1.1]; show t.val % 11 * 512 + (y 1).val = (i 1).val; omega
    · blk_simp [(idx_in t).2.1.2]

/-- The blocks of the two saved forward values, at a place of a block. -/
theorem saved_at (t : Fin cfg0.N) (y : S1024x512.Idx) (i : S4096x5632.Idx) (h0 : (i 0).val = t.val / 11 * 1024 + (y 0).val)
    (h1 : (i 1).val = t.val % 11 * 512 + (y 1).val) :
    iblk m c 2 t y = m ((c : Thread nD τ).loc main_arg2) i ∧ iblk m c 3 t y = m ((c : Thread nD τ).loc main_arg3) i := by
  refine ⟨congrArg (m ((c : Thread nD τ).loc main_arg2)) (Shape.idx_ext₂ ?_ ?_), congrArg (m ((c : Thread nD τ).loc main_arg3)) (Shape.idx_ext₂ ?_ ?_)⟩
  · blk_simp [(idx_in t).2.2.1.1]; show t.val / 11 * 1024 + (y 0).val = (i 0).val; omega
  · blk_simp [(idx_in t).2.2.1.2]; show t.val % 11 * 512 + (y 1).val = (i 1).val; omega
  · blk_simp [(idx_in t).2.2.2.1.1]; show t.val / 11 * 1024 + (y 0).val = (i 0).val; omega
  · blk_simp [(idx_in t).2.2.2.1.2]; show t.val % 11 * 512 + (y 1).val = (i 1).val; omega

/-- The first output's payload at an element, in terms of the product there. -/
theorem pay_a (x0 : Vec Ideal S1024x2048 .bf16) (x1 : Vec Ideal S512x2048 .bf16) (x2 x3 : Vec Ideal S1024x512 .bf16) (y : S1024x512.Idx) :
    k0_pay4 (F := Ideal) x0 x1 x2 x3 y = dGate (k0_pay1 (F := Ideal) x0 x1 y) (x2 y) (x3 y) := by
  have e : k0_pay4 (F := Ideal) x0 x1 x2 x3 y = (k0_pay1 (F := Ideal) x0 x1 y * x3 y * Ideal.logistic (x2 y)
    + x2 y * (k0_pay1 (F := Ideal) x0 x1 y * x3 y) * (Ideal.logistic (x2 y) * ((Scalar.ofBits (F := Ideal) .f32 0x3F800000#32 : EReal) - Ideal.logistic (x2 y))) : EReal) := rfl
  rw [e, ofBits_one']
  rfl

theorem pay_b (x0 : Vec Ideal S1024x2048 .bf16) (x1 : Vec Ideal S512x2048 .bf16) (x2 : Vec Ideal S1024x512 .bf16) (y : S1024x512.Idx) :
    k0_pay5 (F := Ideal) x0 x1 x2 y = dUp (k0_pay1 (F := Ideal) x0 x1 y) (x2 y) := rfl

/-- A point's part of the gate's gradient. -/
theorem part_a (t : Fin cfg0.N) (y : S1024x512.Idx) (i : S4096x5632.Idx) (h0 : (i 0).val = t.val / 11 * 1024 + (y 0).val)
    (h1 : (i 1).val = t.val % 11 * 512 + (y 1).val) : k0_pay4 (F := Ideal) (iblk m c 0 t) (iblk m c 1 t) (iblk m c 2 t) (iblk m c 3 t) y
      = gates (m ((c : Thread nD τ).loc main_arg0)) (m ((c : Thread nD τ).loc main_arg1)) (m ((c : Thread nD τ).loc main_arg2)) (m ((c : Thread nD τ).loc main_arg3)) i := by
  refine (pay_a _ _ _ _ _).trans ?_
  rw [product_at m c t y i h0 h1, (saved_at m c t y i h0 h1).1, (saved_at m c t y i h0 h1).2]
  rfl

/-- A point's part of the other factor's gradient. -/
theorem part_b (t : Fin cfg0.N) (y : S1024x512.Idx) (i : S4096x5632.Idx) (h0 : (i 0).val = t.val / 11 * 1024 + (y 0).val)
    (h1 : (i 1).val = t.val % 11 * 512 + (y 1).val) : k0_pay5 (F := Ideal) (iblk m c 0 t) (iblk m c 1 t) (iblk m c 2 t) y
      = ups (m ((c : Thread nD τ).loc main_arg0)) (m ((c : Thread nD τ).loc main_arg1)) (m ((c : Thread nD τ).loc main_arg2)) i := by
  refine (pay_b _ _ _ _).trans ?_
  rw [product_at m c t y i h0 h1, (saved_at m c t y i h0 h1).1]
  rfl

/-- The first array the kernel ends with. -/
theorem arr_a : (dats m 0 c).arrAt 4 cfg0.N = gates (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, out_a]
  refine (part_a m c t _ _ ?_ ?_)
  · blk_simp [show win0_4.index t 0 = _ from (idx_in t).2.2.2.2.1.1]
  · blk_simp [show win0_4.index t 1 = _ from (idx_in t).2.2.2.2.1.2]

/-- The second array the kernel ends with. -/
theorem arr_b : (dats m 0 c).arrAt 5 cfg0.N = ups (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, out_b]
  refine (part_b m c t _ _ ?_ ?_)
  · blk_simp [show win0_5.index t 0 = _ from (idx_in t).2.2.2.2.2.1]
  · blk_simp [show win0_5.index t 1 = _ from (idx_in t).2.2.2.2.2.2]

end values

section reference
variable (A : Vec Ideal S4096x2048 .bf16) (B : Vec Ideal S5632x2048 .bf16) (X Y : Vec Ideal S4096x5632 .bf16)
  (h : FTy.bits .bf16 < FTy.bits .f32) (hb : Reference2Ideal.S_.BroadcastsInDim S4096x5632 ![])

/-- The reference's product. -/
abbrev product : FVec Ideal S4096x5632 .f32 :=
  Host.dotGeneral Reference2Ideal.dot_S4096x2048_S5632x2048_S4096x5632_1_1_0_0_n_n none (extf .f32 A h : FVec Ideal S4096x2048 .f32) (extf .f32 B h : FVec Ideal S5632x2048 .f32)

/-- The reference's ones. -/
abbrev ones : FVec Ideal S4096x5632 .f32 := broadcastInDim S4096x5632 ![] hb (constant Reference2Ideal.S_ .f32 0x3F800000#32)

/-- The reference's sigmoid. -/
abbrev sigmoid : FVec Ideal S4096x5632 .f32 := Host.divf (ones hb) (addf (ones hb) (Host.exp (Host.negf (extf .f32 X h : FVec Ideal S4096x5632 .f32))))

theorem product_eq (i : S4096x5632.Idx) : product A B h i = grad A B i := by
  rw [show i = ValueIdx.ix2 (i 0) (i 1) from Shape.idx_ext₂ rfl rfl]
  exact Product.dot_nt none (extf .f32 A h : FVec Ideal S4096x2048 .f32) (extf .f32 B h : FVec Ideal S5632x2048 .f32) (i 0) (i 1)

theorem ones_eq (i : S4096x5632.Idx) : ones hb i = (1 : EReal) := (ValueIdx.broadcastInDim_scalar_apply _ _ _).trans ofBits_one'

theorem sigmoid_eq (i : S4096x5632.Idx) : sigmoid X h hb i = Ideal.logistic (X i) := by
  have e : sigmoid X h hb i = Ideal.div (ones hb i) (ones hb i + Ideal.exp (-(X i))) := rfl
  rw [e, ones_eq]
  rfl

/-- What the reference computes first. -/
theorem reference_a (S : FVec Ideal S4096x5632 .f32) (hS : S = sigmoid X h hb) : truncf .bf16 (addf (mulf (mulf (product A B h) (extf .f32 Y h : FVec Ideal S4096x5632 .f32)) S)
    (mulf (mulf (extf .f32 X h : FVec Ideal S4096x5632 .f32) (mulf (product A B h) (extf .f32 Y h : FVec Ideal S4096x5632 .f32)))
      (mulf S (subf (ones hb) S)))) h = gates A B X Y := by
  subst hS
  funext i
  have e : ∀ D S O : EReal, D = grad A B i → S = Ideal.logistic (X i) → O = 1 →
      D * Y i * S + X i * (D * Y i) * (S * (O - S)) = gates A B X Y i := by
    rintro _ _ _ rfl rfl rfl
    rfl
  exact e _ _ _ (product_eq A B h i) (sigmoid_eq X h hb i) (ones_eq hb i)

/-- What the reference computes second. -/
theorem reference_b : truncf .bf16 (mulf (mulf (extf .f32 X h : FVec Ideal S4096x5632 .f32) (sigmoid X h hb)) (product A B h)) h = ups A B X := by
  funext i
  exact congrArg₂ (fun D S : EReal => X i * S * D) (product_eq A B h i) (sigmoid_eq X h hb i)

end reference

theorem quiescent_ideal : Cert.quiescent_Kernel2Ideal := fun m ρ _ => Cert.Kernel2Ideal.Gen.frame m ρ

theorem bodies_eq {F : FTy → Type} [FloatOps F] : (Kernel2.defs₀ (F := F)) = (Kernel2Ideal.defs₀ (F := F)) := by
  unfold Kernel2.defs₀ Kernel2Ideal.defs₀
  congr 1
  funext l a
  fin_cases l
  rfl

theorem defs_eq {F : FTy → Type} [FloatOps F] : (Kernel2.defs (F := F)) = (Kernel2Ideal.defs (F := F)) := by
  show Pipeline.defs _ Kernel2.defs₀ = Pipeline.defs _ Kernel2Ideal.defs₀
  rw [bodies_eq]
  rfl

theorem quiescent : Cert.quiescent_Kernel2 := by
  intro m ρ _
  show θ_run Kernel2.defs _ _ _
  rw [defs_eq]
  exact Cert.Kernel2Ideal.Gen.frame (F := Bits) m ρ

theorem quiescent_reference : Cert.quiescent_Reference2Ideal := fun m ρ _ =>
  (θ_run _ _ _).mono (fun r h => ⟨fun c => (h c).2.2, sem_eq_zero_of_no_sems (by decide) r.2⟩) (Cert.Reference2Ideal.Value.run (F := Ideal) m ρ)

theorem algebraic : Cert.algebraic_Kernel2Ideal_Reference2Ideal := by
  intro m g m' g' _ hsame
  refine ⟨fun c => gates (m ((c.tc : Thread nD τ).loc main_arg0)) (m ((c.tc : Thread nD τ).loc main_arg1)) (m ((c.tc : Thread nD τ).loc main_arg2)) (m ((c.tc : Thread nD τ).loc main_arg3)),
    fun c => ups (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (arr_a m c), (h c).2.1.trans (arr_b m c), (h c).2.2⟩) (Value.run_blocks m g)
  · refine (θ_run _ _ _).mono (fun r h c => ⟨((h c).1.trans (reference_a _ _ _ _ _ _ _ rfl)).trans ?_,
      ((h c).2.1.trans (reference_b _ _ _ _ _)).trans ?_, (h c).2.2⟩) (Cert.Reference2Ideal.Value.run (F := Ideal) m' g')
    · rw [(hsame c).1, (hsame c).2.1, (hsame c).2.2.1, (hsame c).2.2.2]
    · rw [(hsame c).1, (hsame c).2.1, (hsame c).2.2.1]

end Cert.Proof.DownDx

end
-- ==== Proof.GateDw.lean ====
/-
  The gradient of a gate's weight (and of the up projection's, the same call), dW = hᵀ · g: what each point of the kernel
  leaves, and the array it ends with.
-/
module

public import proofs.«01_k».proof.Defs
public import proofs.«01_k».proof.Proof.Product
public import proofs.«01_k».proof.Proof.Gen.Kernel3Ideal.Value
public import proofs.«01_k».proof.Proof.Gen.Reference3Ideal.Run
public import proofs.«01_k».proof.Proof.Gen.Kernel3
public import proofs.«01_k».proof.Proof.Gen.Kernel3Ideal
public import proofs.«01_k».proof.Proof.Gen.Reference3Ideal

@[expose] public section

noncomputable section

namespace Cert.Proof.GateDw

open Cert.Kernel3Ideal Cert.Kernel3Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h0 : t.val % 2 = 0) : (outsAt0 m c t.val t.isLt).2 = k0_pay1 (iblk m c 0 t) (iblk m c 1 t) := by
  rw [outsAt0_A m c t h0 (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- The last point of a block adds its tile's product to the scratch. -/
theorem out_last (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  unfold out0_B_2 kernelRun0_B
  exact (Product.store_whole _ _ _).trans
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x2048 .bf16) (B : Vec Ideal S4096x5632 .bf16) (i : S2048x5632.Idx) (k : Fin 4096) : EReal :=
  A (ValueIdx.ix2 k (i 0)) * B (ValueIdx.ix2 k (i 1))

/-- The whole sum, at each element. -/
def sums (A : Vec Ideal S4096x2048 .bf16) (B : Vec Ideal S4096x5632 .bf16) : Vec Ideal S2048x5632 .bf16 := fun i => (∑ k, summand A B i k : EReal)

theorem idx_in : ∀ t : Fin cfg0.N, ((cfg0.win 0).index t 0 = t.val % 2 ∧ (cfg0.win 0).index t 1 = t.val / 22)
    ∧ ((cfg0.win 1).index t 0 = t.val % 2 ∧ (cfg0.win 1).index t 1 = t.val / 2 % 11) := by decide +kernel

/-- A point's product, at the place of `i` in the block, is its tile of `i`'s sum. -/
theorem product_tile (t : Fin cfg0.N) (i : S2048x5632.Idx) (h0 : t.val / 22 = (i 0).val / 1024) (h1 : t.val / 2 % 11 = (i 1).val / 512) :
    k0_pay1 (F := Ideal) (iblk m c 0 t) (iblk m c 1 t) (Value.loc2Of i)
      = Product.tile (summand (m ((c : Thread nD τ).loc main_arg0)) (m ((c : Thread nD τ).loc main_arg1)) i) 2048 (t.val % 2) := by
  have hl : Value.loc2Of i = ValueIdx.ix2 ⟨(i 0).val % 1024, by omega⟩ ⟨(i 1).val % 512, by omega⟩ :=
    Shape.idx_ext₂ rfl rfl
  rw [hl]
  refine (Product.matmul_tn (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val % 2 * 2048 + k.val = 2048 * (t.val % 2) + k.val; omega
    · blk_simp [(idx_in t).1.2]; show t.val / 22 * 1024 + (i 0).val % 1024 = (i 0).val; omega
  · refine congrArg (m ((c : Thread nD τ).loc main_arg1)) (Shape.idx_ext₂ ?_ ?_)
    · blk_simp [(idx_in t).2.1]; show t.val % 2 * 2048 + k.val = 2048 * (t.val % 2) + k.val; omega
    · blk_simp [(idx_in t).2.2]; show t.val / 2 % 11 * 512 + (i 1).val % 512 = (i 1).val; omega

/-- The array the kernel ends with. -/
theorem value : Value.G2 m c = sums (m ((c : Thread nD τ).loc main_arg0)) (m ((c : Thread nD τ).loc main_arg1)) := by
  funext i
  have hi0 : (i 0).val < 2048 := (i 0).isLt
  have hi1 : (i 1).val < 5632 := (i 1).isLt
  have hp : Value.pt2Of i < cfg0.N := lt_of_lt_of_eq (show Value.pt2Of i < 44 by unfold Value.pt2Of Value.run2Of; omega) N_0.symm
  obtain ⟨t, ht⟩ : ∃ t : Fin cfg0.N, t.val = Value.pt2Of i := ⟨⟨_, hp⟩, rfl⟩
  have ht' : t.val = 2 * (11 * ((i 0).val / 1024 - 0) + 1 * ((i 1).val / 512 - 0)) + 1 := ht
  unfold Value.G2
  rw [dif_pos hp, ← Value.outsAt0_sweep m c _ hp]
  simp only [← ht]
  unfold sums
  rw [out_last m c t (by omega), ← Product.sum_all _ 2048 2 rfl, Finset.sum_range_succ, Finset.sum_range_one]
  refine congrArg₂ (· + ·) ?_ ((product_tile m c t i (by omega) (by omega)).trans (congrArg (Product.tile _ _) (show t.val % 2 = 1 by omega)))
  refine (congrFun (scr_first m c ⟨t.val - 1, Nat.lt_of_le_of_lt (Nat.sub_le _ _) t.isLt⟩ (by show (t.val - 1) % 2 = 0; omega)) _).trans ?_
  refine (product_tile m c ⟨t.val - 1, _⟩ i ?_ ?_).trans (congrArg _ ?_)
  · show (t.val - 1) / 22 = _; omega
  · show (t.val - 1) / 2 % 11 = _; omega
  · show (t.val - 1) % 2 = 0; omega

/-- What the reference computes. -/
theorem reference (A : Vec Ideal S4096x2048 .bf16) (B : Vec Ideal S4096x5632 .bf16) (h : FTy.bits .bf16 < FTy.bits .f32) (ht) :
    truncf .bf16 (transpose S2048x5632 [1, 0] (Host.dotGeneral Reference3Ideal.dot_S4096x5632_S4096x2048_S5632x2048_0_0_1_1_n_n none
      (extf .f32 B h : FVec Ideal S4096x5632 .f32) (extf .f32 A h : FVec Ideal S4096x2048 .f32)) ht) h = sums A B := by
  funext i
  exact Product.dot_transposed none (extf .f32 B h : FVec Ideal S4096x5632 .f32) (extf .f32 A h : FVec Ideal S4096x2048 .f32) ht i

theorem quiescent_ideal : Cert.quiescent_Kernel3Ideal := fun m ρ _ => Cert.Kernel3Ideal.Gen.frame m ρ

theorem bodies_eq {F : FTy → Type} [FloatOps F] : (Kernel3.defs₀ (F := F)) = (Kernel3Ideal.defs₀ (F := F)) := by
  unfold Kernel3.defs₀ Kernel3Ideal.defs₀
  congr 1
  funext l a
  fin_cases l
  rfl

theorem defs_eq {F : FTy → Type} [FloatOps F] : (Kernel3.defs (F := F)) = (Kernel3Ideal.defs (F := F)) := by
  show Pipeline.defs _ Kernel3.defs₀ = Pipeline.defs _ Kernel3Ideal.defs₀
  rw [bodies_eq]
  rfl

theorem quiescent : Cert.quiescent_Kernel3 := by
  intro m ρ _
  show θ_run Kernel3.defs _ _ _
  rw [defs_eq]
  exact Cert.Kernel3Ideal.Gen.frame (F := Bits) m ρ

theorem quiescent_reference : Cert.quiescent_Reference3Ideal := fun m ρ _ =>
  (θ_run _ _ _).mono (fun r h => ⟨fun c => (h c).2, sem_eq_zero_of_no_sems (by decide) r.2⟩) (Cert.Reference3Ideal.Value.run (F := Ideal) m ρ)

theorem algebraic : Cert.algebraic_Kernel3Ideal_Reference3Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference3Ideal.Value.run (F := Ideal) m' g')
    rw [(hsame c).1, (hsame c).2]

end Cert.Proof.GateDw

end
-- ==== Proof.DownDw.lean ====
/-
  The gradient of the down projection's weight, dWd = actᵀ · g: what each point of the kernel leaves, and the array it ends with.
-/
module

public import proofs.«01_k».proof.Defs
public import proofs.«01_k».proof.Proof.Product
public import proofs.«01_k».proof.Proof.Gen.Kernel4Ideal.Value
public import proofs.«01_k».proof.Proof.Gen.Reference4Ideal.Run
public import proofs.«01_k».proof.Proof.Gen.Kernel4
public import proofs.«01_k».proof.Proof.Gen.Kernel4Ideal
public import proofs.«01_k».proof.Proof.Gen.Reference4Ideal

@[expose] public section

noncomputable section

namespace Cert.Proof.DownDw

open Cert.Kernel4Ideal Cert.Kernel4Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h0 : t.val % 2 = 0) : (outsAt0 m c t.val t.isLt).2 = k0_pay1 (iblk m c 0 t) (iblk m c 1 t) := by
  rw [outsAt0_A m c t h0 (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- The last point of a block adds its tile's product to the scratch. -/
theorem out_last (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  unfold out0_B_2 kernelRun0_B
  exact (Product.store_whole _ _ _).trans
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x5632 .bf16) (B : Vec Ideal S4096x2048 .bf16) (i : S5632x2048.Idx) (k : Fin 4096) : EReal :=
  A (ValueIdx.ix2 k (i 0)) * B (ValueIdx.ix2 k (i 1))

/-- The whole sum, at each element. -/
def sums (A : Vec Ideal S4096x5632 .bf16) (B : Vec Ideal S4096x2048 .bf16) : Vec Ideal S5632x2048 .bf16 := fun i => (∑ k, summand A B i k : EReal)

theorem idx_in : ∀ t : Fin cfg0.N, ((cfg0.win 0).index t 0 = t.val % 2 ∧ (cfg0.win 0).index t 1 = t.val / 4)
    ∧ ((cfg0.win 1).index t 0 = t.val % 2 ∧ (cfg0.win 1).index t 1 = t.val / 2 % 2) := by decide +kernel

/-- A point's product, at the place of `i` in the block, is its tile of `i`'s sum. -/
theorem product_tile (t : Fin cfg0.N) (i : S5632x2048.Idx) (h0 : t.val / 4 = (i 0).val / 512) (h1 : t.val / 2 % 2 = (i 1).val / 1024) :
    k0_pay1 (F := Ideal) (iblk m c 0 t) (iblk m c 1 t) (Value.loc2Of i)
      = Product.tile (summand (m ((c : Thread nD τ).loc main_arg0)) (m ((c : Thread nD τ).loc main_arg1)) i) 2048 (t.val % 2) := by
  have hl : Value.loc2Of i = ValueIdx.ix2 ⟨(i 0).val % 512, by omega⟩ ⟨(i 1).val % 1024, by omega⟩ :=
    Shape.idx_ext₂ rfl rfl
  rw [hl]
  refine (Product.matmul_tn (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val % 2 * 2048 + k.val = 2048 * (t.val % 2) + k.val; omega
    · blk_simp [(idx_in t).1.2]; show t.val / 4 * 512 + (i 0).val % 512 = (i 0).val; omega
  · refine congrArg (m ((c : Thread nD τ).loc main_arg1)) (Shape.idx_ext₂ ?_ ?_)
    · blk_simp [(idx_in t).2.1]; show t.val % 2 * 2048 + k.val = 2048 * (t.val % 2) + k.val; omega
    · blk_simp [(idx_in t).2.2]; show t.val / 2 % 2 * 1024 + (i 1).val % 1024 = (i 1).val; omega

/-- The array the kernel ends with. -/
theorem value : Value.G2 m c = sums (m ((c : Thread nD τ).loc main_arg0)) (m ((c : Thread nD τ).loc main_arg1)) := by
  funext i
  have hi0 : (i 0).val < 5632 := (i 0).isLt
  have hi1 : (i 1).val < 2048 := (i 1).isLt
  have hp : Value.pt2Of i < cfg0.N := lt_of_lt_of_eq (show Value.pt2Of i < 44 by unfold Value.pt2Of Value.run2Of; omega) N_0.symm
  obtain ⟨t, ht⟩ : ∃ t : Fin cfg0.N, t.val = Value.pt2Of i := ⟨⟨_, hp⟩, rfl⟩
  have ht' : t.val = 2 * (2 * ((i 0).val / 512 - 0) + 1 * ((i 1).val / 1024 - 0)) + 1 := ht
  unfold Value.G2
  rw [dif_pos hp, ← Value.outsAt0_sweep m c _ hp]
  simp only [← ht]
  unfold sums
  rw [out_last m c t (by omega), ← Product.sum_all _ 2048 2 rfl, Finset.sum_range_succ, Finset.sum_range_one]
  refine congrArg₂ (· + ·) ?_ ((product_tile m c t i (by omega) (by omega)).trans (congrArg (Product.tile _ _) (show t.val % 2 = 1 by omega)))
  refine (congrFun (scr_first m c ⟨t.val - 1, Nat.lt_of_le_of_lt (Nat.sub_le _ _) t.isLt⟩ (by show (t.val - 1) % 2 = 0; omega)) _).trans ?_
  refine (product_tile m c ⟨t.val - 1, _⟩ i ?_ ?_).trans (congrArg _ ?_)
  · show (t.val - 1) / 4 = _; omega
  · show (t.val - 1) / 2 % 2 = _; omega
  · show (t.val - 1) % 2 = 0; omega

/-- What the reference computes. -/
theorem reference (A : Vec Ideal S4096x5632 .bf16) (B : Vec Ideal S4096x2048 .bf16) (h : FTy.bits .bf16 < FTy.bits .f32) (ht) :
    truncf .bf16 (transpose S5632x2048 [1, 0] (Host.dotGeneral Reference4Ideal.dot_S4096x2048_S4096x5632_S2048x5632_0_0_1_1_n_n none
      (extf .f32 B h : FVec Ideal S4096x2048 .f32) (extf .f32 A h : FVec Ideal S4096x5632 .f32)) ht) h = sums A B := by
  funext i
  exact Product.dot_transposed none (extf .f32 B h : FVec Ideal S4096x2048 .f32) (extf .f32 A h : FVec Ideal S4096x5632 .f32) ht i

theorem quiescent_ideal : Cert.quiescent_Kernel4Ideal := fun m ρ _ => Cert.Kernel4Ideal.Gen.frame m ρ

theorem bodies_eq {F : FTy → Type} [FloatOps F] : (Kernel4.defs₀ (F := F)) = (Kernel4Ideal.defs₀ (F := F)) := by
  unfold Kernel4.defs₀ Kernel4Ideal.defs₀
  congr 1
  funext l a
  fin_cases l
  rfl

theorem defs_eq {F : FTy → Type} [FloatOps F] : (Kernel4.defs (F := F)) = (Kernel4Ideal.defs (F := F)) := by
  show Pipeline.defs _ Kernel4.defs₀ = Pipeline.defs _ Kernel4Ideal.defs₀
  rw [bodies_eq]
  rfl

theorem quiescent : Cert.quiescent_Kernel4 := by
  intro m ρ _
  show θ_run Kernel4.defs _ _ _
  rw [defs_eq]
  exact Cert.Kernel4Ideal.Gen.frame (F := Bits) m ρ

theorem quiescent_reference : Cert.quiescent_Reference4Ideal := fun m ρ _ =>
  (θ_run _ _ _).mono (fun r h => ⟨fun c => (h c).2, sem_eq_zero_of_no_sems (by decide) r.2⟩) (Cert.Reference4Ideal.Value.run (F := Ideal) m ρ)

theorem algebraic : Cert.algebraic_Kernel4Ideal_Reference4Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference4Ideal.Value.run (F := Ideal) m' g')
    rw [(hsame c).1, (hsame c).2]

end Cert.Proof.DownDw

end
-- ==== Proof.UpDx.lean ====
/-
  The gradient of the feed-forward input, dx = r + g · Wᵀ, with r the gate's share: what each point of the kernel leaves, and the array it ends with.
-/
module

public import proofs.«01_k».proof.Defs
public import proofs.«01_k».proof.Proof.Product
public import proofs.«01_k».proof.Proof.Gen.Kernel5Ideal.Value
public import proofs.«01_k».proof.Proof.Gen.Reference5Ideal.Run
public import proofs.«01_k».proof.Proof.Gen.Kernel5
public import proofs.«01_k».proof.Proof.Gen.Kernel5Ideal
public import proofs.«01_k».proof.Proof.Gen.Reference5Ideal

@[expose] public section

noncomputable section

namespace Cert.Proof.UpDx

open Cert.Kernel5Ideal Cert.Kernel5Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h : t.val % 4 = 0) : (outsAt0 m c t.val t.isLt).2 = k0_pay1 (iblk m c 0 t) (iblk m c 1 t) := by
  rw [outsAt0_A m c t h (by omega) (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- A point in the middle adds its tile's product to the scratch. -/
theorem scr_next (h0 : ¬t.val % 4 = 0) (h2 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  rw [outsAt0_B m c t h0 (by omega) h2]
  dsimp only
  unfold sout0_B_0 kernelRun0_B
  refine ((Product.store_whole _ _ _).trans (c := k0_pay3 (iblk m c 0 t) (iblk m c 1 t)
      (outsAt0 m c (t.val - 1) (Nat.lt_of_le_of_lt (Nat.sub_le _ _) t.isLt)).2)
    (congr (congrArg₂ k0_pay3 (Product.load_whole _ _ _) (Product.load_whole _ _ _)) (Product.load_whole _ _ _))).trans ?_
  unfold k0_pay3
  exact shapeCast_self _ _

/-- The last point of a block writes the scratch and its tile's product, added, and the gate's share on top. -/
theorem out_last (h : t.val % 4 = 3) : (outsAt0 m c t.val t.isLt).1
    = addf (addf (outsAt0 m c (t.val - 1) (Nat.lt_of_le_of_lt (Nat.sub_le _ _) t.isLt)).2 (k0_pay1 (iblk m c 0 t) (iblk m c 1 t))) (iblk m c 2 t) := by
  rw [outsAt0_C m c t (by omega) (by omega) h]
  dsimp only
  unfold out0_C_3 kernelRun0_C
  exact (Product.store_whole _ _ _).trans (c := k0_pay4 (iblk m c 0 t) (iblk m c 1 t)
      (outsAt0 m c (t.val - 1) (Nat.lt_of_le_of_lt (Nat.sub_le _ _) t.isLt)).2 (iblk m c 2 t))
    (congr (congr (congrArg₂ k0_pay4 (Product.load_whole _ _ _) (Product.load_whole _ _ _)) (Product.load_whole _ _ _)) (Product.load_whole _ _ _))

end points

variable (m : (ℓ : Loc nD τ sig) → Buf (Elt Ideal) ℓ) (c : Dev nD)

/-- The products the element at `i` sums. -/
def summand (A : Vec Ideal S4096x5632 .bf16) (B : Vec Ideal S2048x5632 .bf16) (i : S4096x2048.Idx) (k : Fin 5632) : EReal :=
  A (ValueIdx.ix2 (i 0) k) * B (ValueIdx.ix2 (i 1) k)

/-- The gate's share and the whole sum, at each element. -/
def sums (A : Vec Ideal S4096x5632 .bf16) (B : Vec Ideal S2048x5632 .bf16) (R : Vec Ideal S4096x2048 .f32) : Vec Ideal S4096x2048 .f32 :=
  fun i => (R i + ∑ k, summand A B i k : EReal)

theorem idx_in : ∀ t : Fin cfg0.N, ((cfg0.win 0).index t 0 = t.val / 8 ∧ (cfg0.win 0).index t 1 = t.val % 4)
    ∧ ((cfg0.win 1).index t 0 = t.val / 4 % 2 ∧ (cfg0.win 1).index t 1 = t.val % 4)
    ∧ ((cfg0.win 2).index t 0 = t.val / 8 ∧ (cfg0.win 2).index t 1 = t.val / 4 % 2) := by decide +kernel

/-- A point's product, at the place of `i` in the block, is its tile of `i`'s sum. -/
theorem product_tile (t : Fin cfg0.N) (i : S4096x2048.Idx) (h0 : t.val / 8 = (i 0).val / 1024) (h1 : t.val / 4 % 2 = (i 1).val / 1024) :
    k0_pay1 (F := Ideal) (iblk m c 0 t) (iblk m c 1 t) (Value.loc3Of i)
      = Product.tile (summand (m ((c : Thread nD τ).loc main_arg0)) (m ((c : Thread nD τ).loc main_arg1)) i) 1408 (t.val % 4) := by
  have hl : Value.loc3Of i = ValueIdx.ix2 ⟨(i 0).val % 1024, by omega⟩ ⟨(i 1).val % 1024, by omega⟩ :=
    Shape.idx_ext₂ rfl rfl
  rw [hl]
  refine (Product.matmul_nt (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val / 8 * 1024 + (i 0).val % 1024 = (i 0).val; omega
    · blk_simp [(idx_in t).1.2]; show t.val % 4 * 1408 + k.val = 1408 * (t.val % 4) + k.val; omega
  · refine congrArg (m ((c : Thread nD τ).loc main_arg1)) (Shape.idx_ext₂ ?_ ?_)
    · blk_simp [(idx_in t).2.1.1]; show t.val / 4 % 2 * 1024 + (i 1).val % 1024 = (i 1).val; omega
    · blk_simp [(idx_in t).2.1.2]; show t.val % 4 * 1408 + k.val = 1408 * (t.val % 4) + k.val; omega

/-- The block of the gate's share, at the place of `i` in it. -/
theorem share (t : Fin cfg0.N) (i : S4096x2048.Idx) (h0 : t.val / 8 = (i 0).val / 1024) (h1 : t.val / 4 % 2 = (i 1).val / 1024) :
    iblk m c 2 t (Value.loc3Of i) = m ((c : Thread nD τ).loc main_arg2) i := by
  have hl : Value.loc3Of i = ValueIdx.ix2 ⟨(i 0).val % 1024, by omega⟩ ⟨(i 1).val % 1024, by omega⟩ :=
    Shape.idx_ext₂ rfl rfl
  rw [hl]
  refine congrArg (m ((c : Thread nD τ).loc main_arg2)) (Shape.idx_ext₂ ?_ ?_)
  · blk_simp [(idx_in t).2.2.1]; show t.val / 8 * 1024 + (i 0).val % 1024 = (i 0).val; omega
  · blk_simp [(idx_in t).2.2.2]; show t.val / 4 % 2 * 1024 + (i 1).val % 1024 = (i 1).val; omega

/-- What the scratch holds after the first points of the block of `i`: the sum of their tiles. -/
theorem scr_total (i : S4096x2048.Idx) (b : ℕ) (h0 : b % 4 = 0) (hb0 : b / 8 = (i 0).val / 1024) (hb1 : b / 4 % 2 = (i 1).val / 1024)
    (j : ℕ) (h : b + j < cfg0.N) (hj : j < 3) : (outsAt0 m c (b + j) h).2 (Value.loc3Of i)
      = ∑ s ∈ Finset.range (j + 1), Product.tile (summand (m ((c : Thread nD τ).loc main_arg0)) (m ((c : Thread nD τ).loc main_arg1)) i) 1408 s := by
  refine Product.total (fun n h => (outsAt0 m c n h).2 (Value.loc3Of i)) _ b 3 (fun h => ?_) (fun j h h' hj => ?_) j h hj
  · refine (congrFun (scr_first m c ⟨b, h⟩ h0) _).trans ?_
    exact (product_tile m c ⟨b, h⟩ i hb0 hb1).trans (congrArg (Product.tile _ _) h0)
  · refine (congrFun (scr_next m c ⟨b + (j + 1), h⟩ (by show ¬(b + (j + 1)) % 4 = 0; omega) (by show ¬(b + (j + 1)) % 4 = 3; omega)) _).trans ?_
    exact congrArg₂ (fun x y : EReal => x + y) rfl ((product_tile m c ⟨b + (j + 1), h⟩ i
      (by show (b + (j + 1)) / 8 = _; omega) (by show (b + (j + 1)) / 4 % 2 = _; omega)).trans
        (congrArg (Product.tile _ _) (show (b + (j + 1)) % 4 = j + 1 by omega)))

/-- The array the kernel ends with. -/
theorem value : Value.G3 m c = sums (m ((c : Thread nD τ).loc main_arg0)) (m ((c : Thread nD τ).loc main_arg1)) (m ((c : Thread nD τ).loc main_arg2)) := by
  funext i
  have hi0 : (i 0).val < 4096 := (i 0).isLt
  have hi1 : (i 1).val < 2048 := (i 1).isLt
  have hp : Value.pt3Of i < cfg0.N := lt_of_lt_of_eq (show Value.pt3Of i < 32 by unfold Value.pt3Of Value.run3Of; omega) N_0.symm
  obtain ⟨t, ht⟩ : ∃ t : Fin cfg0.N, t.val = Value.pt3Of i := ⟨⟨_, hp⟩, rfl⟩
  have ht' : t.val = 4 * (2 * ((i 0).val / 1024 - 0) + 1 * ((i 1).val / 1024 - 0)) + 3 := ht
  unfold Value.G3
  rw [dif_pos hp, ← Value.outsAt0_sweep m c _ hp]
  simp only [← ht]
  unfold sums
  rw [out_last m c t (by omega), ← Product.sum_all _ 1408 4 rfl, Finset.sum_range_succ _ 3]
  refine (congrArg₂ (fun x y : EReal => x + y) ?_ (share m c t i (by omega) (by omega))).trans (add_comm _ _)
  refine congrArg₂ (fun x y : EReal => x + y) ?_ ((product_tile m c t i (by omega) (by omega)).trans (congrArg (Product.tile _ _) (show t.val % 4 = 3 by omega)))
  have e := scr_total m c i (t.val - 3) (by omega) (by omega) (by omega) 2 (by omega) (by omega)
  simpa only [show t.val - 3 + 2 = t.val - 1 by omega] using e

/-- What the reference computes. -/
theorem reference (A : Vec Ideal S4096x5632 .bf16) (B : Vec Ideal S2048x5632 .bf16) (R : Vec Ideal S4096x2048 .f32) (h : FTy.bits .bf16 < FTy.bits .f32) :
    addf R (Host.dotGeneral Reference5Ideal.dot_S4096x5632_S2048x5632_S4096x2048_1_1_0_0_n_n none
      (extf .f32 A h : FVec Ideal S4096x5632 .f32) (extf .f32 B h : FVec Ideal S2048x5632 .f32)) = sums A B R := by
  funext i
  refine congrArg (fun x : EReal => R i + x) ?_
  rw [show i = ValueIdx.ix2 (i 0) (i 1) from Shape.idx_ext₂ rfl rfl]
  exact Product.dot_nt none (extf .f32 A h : FVec Ideal S4096x5632 .f32) (extf .f32 B h : FVec Ideal S2048x5632 .f32) (i 0) (i 1)

theorem quiescent_ideal : Cert.quiescent_Kernel5Ideal := fun m ρ _ => Cert.Kernel5Ideal.Gen.frame m ρ

theorem bodies_eq {F : FTy → Type} [FloatOps F] : (Kernel5.defs₀ (F := F)) = (Kernel5Ideal.defs₀ (F := F)) := by
  unfold Kernel5.defs₀ Kernel5Ideal.defs₀
  congr 1
  funext l a
  fin_cases l
  rfl

theorem defs_eq {F : FTy → Type} [FloatOps F] : (Kernel5.defs (F := F)) = (Kernel5Ideal.defs (F := F)) := by
  show Pipeline.defs _ Kernel5.defs₀ = Pipeline.defs _ Kernel5Ideal.defs₀
  rw [bodies_eq]
  rfl

theorem quiescent : Cert.quiescent_Kernel5 := by
  intro m ρ _
  show θ_run Kernel5.defs _ _ _
  rw [defs_eq]
  exact Cert.Kernel5Ideal.Gen.frame (F := Bits) m ρ

theorem quiescent_reference : Cert.quiescent_Reference5Ideal := fun m ρ _ =>
  (θ_run _ _ _).mono (fun r h => ⟨fun c => (h c).2, sem_eq_zero_of_no_sems (by decide) r.2⟩) (Cert.Reference5Ideal.Value.run (F := Ideal) m ρ)

theorem algebraic : Cert.algebraic_Kernel5Ideal_Reference5Ideal := by
  intro m g m' g' _ hsame
  refine ⟨fun c => sums (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference5Ideal.Value.run (F := Ideal) m' g')
    rw [(hsame c).1, (hsame c).2.1, (hsame c).2.2]

end Cert.Proof.UpDx

end
-- ==== Proof.GateDx.lean ====
/-
  The gradient of the gate's input, dx = g · Wᵀ: what each point of the kernel leaves, and the array it ends with.
-/
module

public import proofs.«01_k».proof.Defs
public import proofs.«01_k».proof.Proof.Product
public import proofs.«01_k».proof.Proof.Gen.Kernel6Ideal.Value
public import proofs.«01_k».proof.Proof.Gen.Reference6Ideal.Run
public import proofs.«01_k».proof.Proof.Gen.Kernel6
public import proofs.«01_k».proof.Proof.Gen.Kernel6Ideal
public import proofs.«01_k».proof.Proof.Gen.Reference6Ideal

@[expose] public section

noncomputable section

namespace Cert.Proof.GateDx

open Cert.Kernel6Ideal Cert.Kernel6Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h : t.val % 4 = 0) : (outsAt0 m c t.val t.isLt).2 = k0_pay1 (iblk m c 0 t) (iblk m c 1 t) := by
  rw [outsAt0_A m c t h (by omega) (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- A point in the middle adds its tile's product to the scratch. -/
theorem scr_next (h0 : ¬t.val % 4 = 0) (h2 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  rw [outsAt0_B m c t h0 (by omega) h2]
  dsimp only
  unfold sout0_B_0 kernelRun0_B
  refine ((Product.store_whole _ _ _).trans (c := k0_pay3 (iblk m c 0 t) (iblk m c 1 t)
      (outsAt0 m c (t.val - 1) (Nat.lt_of_le_of_lt (Nat.sub_le _ _) t.isLt)).2)
    (congr (congrArg₂ k0_pay3 (Product.load_whole _ _ _) (Product.load_whole _ _ _)) (Product.load_whole _ _ _))).trans ?_
  unfold k0_pay3
  exact shapeCast_self _ _

/-- The last point of a block writes the scratch and its tile's product, added. -/
theorem out_last (h : t.val % 4 = 3) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_C m c t (by omega) (by omega) h]
  dsimp only
  unfold out0_C_2 kernelRun0_C
  exact (Product.store_whole _ _ _).trans (c := k0_pay4 (iblk m c 0 t) (iblk m c 1 t)
      (outsAt0 m c (t.val - 1) (Nat.lt_of_le_of_lt (Nat.sub_le _ _) t.isLt)).2)
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x5632 .bf16) (B : Vec Ideal S2048x5632 .bf16) (i : S4096x2048.Idx) (k : Fin 5632) : EReal :=
  A (ValueIdx.ix2 (i 0) k) * B (ValueIdx.ix2 (i 1) k)

/-- The whole sum, at each element. -/
def sums (A : Vec Ideal S4096x5632 .bf16) (B : Vec Ideal S2048x5632 .bf16) : Vec Ideal S4096x2048 .f32 := fun i => (∑ k, summand A B i k : EReal)

theorem idx_in : ∀ t : Fin cfg0.N, ((cfg0.win 0).index t 0 = t.val / 8 ∧ (cfg0.win 0).index t 1 = t.val % 4)
    ∧ ((cfg0.win 1).index t 0 = t.val / 4 % 2 ∧ (cfg0.win 1).index t 1 = t.val % 4) := by decide +kernel

/-- A point's product, at the place of `i` in the block, is its tile of `i`'s sum. -/
theorem product_tile (t : Fin cfg0.N) (i : S4096x2048.Idx) (h0 : t.val / 8 = (i 0).val / 1024) (h1 : t.val / 4 % 2 = (i 1).val / 1024) :
    k0_pay1 (F := Ideal) (iblk m c 0 t) (iblk m c 1 t) (Value.loc2Of i)
      = Product.tile (summand (m ((c : Thread nD τ).loc main_arg0)) (m ((c : Thread nD τ).loc main_arg1)) i) 1408 (t.val % 4) := by
  have hl : Value.loc2Of i = ValueIdx.ix2 ⟨(i 0).val % 1024, by omega⟩ ⟨(i 1).val % 1024, by omega⟩ :=
    Shape.idx_ext₂ rfl rfl
  rw [hl]
  refine (Product.matmul_nt (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val / 8 * 1024 + (i 0).val % 1024 = (i 0).val; omega
    · blk_simp [(idx_in t).1.2]; show t.val % 4 * 1408 + k.val = 1408 * (t.val % 4) + k.val; omega
  · refine congrArg (m ((c : Thread nD τ).loc main_arg1)) (Shape.idx_ext₂ ?_ ?_)
    · blk_simp [(idx_in t).2.1]; show t.val / 4 % 2 * 1024 + (i 1).val % 1024 = (i 1).val; omega
    · blk_simp [(idx_in t).2.2]; show t.val % 4 * 1408 + k.val = 1408 * (t.val % 4) + k.val; omega

/-- What the scratch holds after the first points of the block of `i`: the sum of their tiles. -/
theorem scr_total (i : S4096x2048.Idx) (b : ℕ) (h0 : b % 4 = 0) (hb0 : b / 8 = (i 0).val / 1024) (hb1 : b / 4 % 2 = (i 1).val / 1024)
    (j : ℕ) (h : b + j < cfg0.N) (hj : j < 3) : (outsAt0 m c (b + j) h).2 (Value.loc2Of i)
      = ∑ s ∈ Finset.range (j + 1), Product.tile (summand (m ((c : Thread nD τ).loc main_arg0)) (m ((c : Thread nD τ).loc main_arg1)) i) 1408 s := by
  refine Product.total (fun n h => (outsAt0 m c n h).2 (Value.loc2Of i)) _ b 3 (fun h => ?_) (fun j h h' hj => ?_) j h hj
  · refine (congrFun (scr_first m c ⟨b, h⟩ h0) _).trans ?_
    exact (product_tile m c ⟨b, h⟩ i hb0 hb1).trans (congrArg (Product.tile _ _) h0)
  · refine (congrFun (scr_next m c ⟨b + (j + 1), h⟩ (by show ¬(b + (j + 1)) % 4 = 0; omega) (by show ¬(b + (j + 1)) % 4 = 3; omega)) _).trans ?_
    exact congrArg₂ (fun x y : EReal => x + y) rfl ((product_tile m c ⟨b + (j + 1), h⟩ i
      (by show (b + (j + 1)) / 8 = _; omega) (by show (b + (j + 1)) / 4 % 2 = _; omega)).trans
        (congrArg (Product.tile _ _) (show (b + (j + 1)) % 4 = j + 1 by omega)))

/-- The array the kernel ends with. -/
theorem value : Value.G2 m c = sums (m ((c : Thread nD τ).loc main_arg0)) (m ((c : Thread nD τ).loc main_arg1)) := by
  funext i
  have hi0 : (i 0).val < 4096 := (i 0).isLt
  have hi1 : (i 1).val < 2048 := (i 1).isLt
  have hp : Value.pt2Of i < cfg0.N := lt_of_lt_of_eq (show Value.pt2Of i < 32 by unfold Value.pt2Of Value.run2Of; omega) N_0.symm
  obtain ⟨t, ht⟩ : ∃ t : Fin cfg0.N, t.val = Value.pt2Of i := ⟨⟨_, hp⟩, rfl⟩
  have ht' : t.val = 4 * (2 * ((i 0).val / 1024 - 0) + 1 * ((i 1).val / 1024 - 0)) + 3 := ht
  unfold Value.G2
  rw [dif_pos hp, ← Value.outsAt0_sweep m c _ hp]
  simp only [← ht]
  unfold sums
  rw [out_last m c t (by omega), ← Product.sum_all _ 1408 4 rfl, Finset.sum_range_succ _ 3]
  refine congrArg₂ (· + ·) ?_ ((product_tile m c t i (by omega) (by omega)).trans (congrArg (Product.tile _ _) (show t.val % 4 = 3 by omega)))
  have e := scr_total m c i (t.val - 3) (by omega) (by omega) (by omega) 2 (by omega) (by omega)
  simpa only [show t.val - 3 + 2 = t.val - 1 by omega] using e

/-- What the reference computes. -/
theorem reference (A : Vec Ideal S4096x5632 .bf16) (B : Vec Ideal S2048x5632 .bf16) (h : FTy.bits .bf16 < FTy.bits .f32) :
    Host.dotGeneral Reference6Ideal.dot_S4096x5632_S2048x5632_S4096x2048_1_1_0_0_n_n none
      (extf .f32 A h : FVec Ideal S4096x5632 .f32) (extf .f32 B h : FVec Ideal S2048x5632 .f32) = sums A B := by
  funext i
  rw [show i = ValueIdx.ix2 (i 0) (i 1) from Shape.idx_ext₂ rfl rfl]
  exact Product.dot_nt none (extf .f32 A h : FVec Ideal S4096x5632 .f32) (extf .f32 B h : FVec Ideal S2048x5632 .f32) (i 0) (i 1)

theorem quiescent_ideal : Cert.quiescent_Kernel6Ideal := fun m ρ _ => Cert.Kernel6Ideal.Gen.frame m ρ

theorem bodies_eq {F : FTy → Type} [FloatOps F] : (Kernel6.defs₀ (F := F)) = (Kernel6Ideal.defs₀ (F := F)) := by
  unfold Kernel6.defs₀ Kernel6Ideal.defs₀
  congr 1
  funext l a
  fin_cases l
  rfl

theorem defs_eq {F : FTy → Type} [FloatOps F] : (Kernel6.defs (F := F)) = (Kernel6Ideal.defs (F := F)) := by
  show Pipeline.defs _ Kernel6.defs₀ = Pipeline.defs _ Kernel6Ideal.defs₀
  rw [bodies_eq]
  rfl

theorem quiescent : Cert.quiescent_Kernel6 := by
  intro m ρ _
  show θ_run Kernel6.defs _ _ _
  rw [defs_eq]
  exact Cert.Kernel6Ideal.Gen.frame (F := Bits) m ρ

theorem quiescent_reference : Cert.quiescent_Reference6Ideal := fun m ρ _ =>
  (θ_run _ _ _).mono (fun r h => ⟨fun c => (h c).2, sem_eq_zero_of_no_sems (by decide) r.2⟩) (Cert.Reference6Ideal.Value.run (F := Ideal) m ρ)

theorem algebraic : Cert.algebraic_Kernel6Ideal_Reference6Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _)).trans ?_, (h c).2⟩) (Cert.Reference6Ideal.Value.run (F := Ideal) m' g')
    rw [(hsame c).1, (hsame c).2]

end Cert.Proof.GateDx

end
-- ==== Proof.InDw.lean ====
/-
  The gradient of the input projection's weight, dW = hᵀ · g: what each point of the kernel leaves, and the array it ends with.
-/
module

public import proofs.«01_k».proof.Defs
public import proofs.«01_k».proof.Proof.Product
public import proofs.«01_k».proof.Proof.Gen.Kernel7Ideal.Value
public import proofs.«01_k».proof.Proof.Gen.Reference7Ideal.Run
public import proofs.«01_k».proof.Proof.Gen.Kernel7
public import proofs.«01_k».proof.Proof.Gen.Kernel7Ideal
public import proofs.«01_k».proof.Proof.Gen.Reference7Ideal

@[expose] public section

noncomputable section

namespace Cert.Proof.InDw

open Cert.Kernel7Ideal Cert.Kernel7Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h0 : t.val % 2 = 0) : (outsAt0 m c t.val t.isLt).2 = k0_pay1 (iblk m c 0 t) (iblk m c 1 t) := by
  rw [outsAt0_A m c t h0 (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- The last point of a block adds its tile's product to the scratch. -/
theorem out_last (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  unfold out0_B_2 kernelRun0_B
  exact (Product.store_whole _ _ _).trans
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x2048 .bf16) (B : Vec Ideal S4096x12672 .bf16) (i : S2048x12672.Idx) (k : Fin 4096) : EReal :=
  A (ValueIdx.ix2 k (i 0)) * B (ValueIdx.ix2 k (i 1))

/-- The whole sum, at each element. -/
def sums (A : Vec Ideal S4096x2048 .bf16) (B : Vec Ideal S4096x12672 .bf16) : Vec Ideal S2048x12672 .bf16 := fun i => (∑ k, summand A B i k : EReal)

theorem idx_in : ∀ t : Fin cfg0.N, ((cfg0.win 0).index t 0 = t.val % 2 ∧ (cfg0.win 0).index t 1 = t.val / 22)
    ∧ ((cfg0.win 1).index t 0 = t.val % 2 ∧ (cfg0.win 1).index t 1 = t.val / 2 % 11) := by decide +kernel

/-- A point's product, at the place of `i` in the block, is its tile of `i`'s sum. -/
theorem product_tile (t : Fin cfg0.N) (i : S2048x12672.Idx) (h0 : t.val / 22 = (i 0).val / 1024) (h1 : t.val / 2 % 11 = (i 1).val / 1152) :
    k0_pay1 (F := Ideal) (iblk m c 0 t) (iblk m c 1 t) (Value.loc2Of i)
      = Product.tile (summand (m ((c : Thread nD τ).loc main_arg0)) (m ((c : Thread nD τ).loc main_arg1)) i) 2048 (t.val % 2) := by
  have hl : Value.loc2Of i = ValueIdx.ix2 ⟨(i 0).val % 1024, by omega⟩ ⟨(i 1).val % 1152, by omega⟩ :=
    Shape.idx_ext₂ rfl rfl
  rw [hl]
  refine (Product.matmul_tn (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val % 2 * 2048 + k.val = 2048 * (t.val % 2) + k.val; omega
    · blk_simp [(idx_in t).1.2]; show t.val / 22 * 1024 + (i 0).val % 1024 = (i 0).val; omega
  · refine congrArg (m ((c : Thread nD τ).loc main_arg1)) (Shape.idx_ext₂ ?_ ?_)
    · blk_simp [(idx_in t).2.1]; show t.val % 2 * 2048 + k.val = 2048 * (t.val % 2) + k.val; omega
    · blk_simp [(idx_in t).2.2]; show t.val / 2 % 11 * 1152 + (i 1).val % 1152 = (i 1).val; omega

/-- The array the kernel ends with. -/
theorem value : Value.G2 m c = sums (m ((c : Thread nD τ).loc main_arg0)) (m ((c : Thread nD τ).loc main_arg1)) := by
  funext i
  have hi0 : (i 0).val < 2048 := (i 0).isLt
  have hi1 : (i 1).val < 12672 := (i 1).isLt
  have hp : Value.pt2Of i < cfg0.N := lt_of_lt_of_eq (show Value.pt2Of i < 44 by unfold Value.pt2Of Value.run2Of; omega) N_0.symm
  obtain ⟨t, ht⟩ : ∃ t : Fin cfg0.N, t.val = Value.pt2Of i := ⟨⟨_, hp⟩, rfl⟩
  have ht' : t.val = 2 * (11 * ((i 0).val / 1024 - 0) + 1 * ((i 1).val / 1152 - 0)) + 1 := ht
  unfold Value.G2
  rw [dif_pos hp, ← Value.outsAt0_sweep m c _ hp]
  simp only [← ht]
  unfold sums
  rw [out_last m c t (by omega), ← Product.sum_all _ 2048 2 rfl, Finset.sum_range_succ, Finset.sum_range_one]
  refine congrArg₂ (· + ·) ?_ ((product_tile m c t i (by omega) (by omega)).trans (congrArg (Product.tile _ _) (show t.val % 2 = 1 by omega)))
  refine (congrFun (scr_first m c ⟨t.val - 1, Nat.lt_of_le_of_lt (Nat.sub_le _ _) t.isLt⟩ (by show (t.val - 1) % 2 = 0; omega)) _).trans ?_
  refine (product_tile m c ⟨t.val - 1, _⟩ i ?_ ?_).trans (congrArg _ ?_)
  · show (t.val - 1) / 22 = _; omega
  · show (t.val - 1) / 2 % 11 = _; omega
  · show (t.val - 1) % 2 = 0; omega

/-- What the reference computes. -/
theorem reference (A : Vec Ideal S4096x2048 .bf16) (B : Vec Ideal S4096x12672 .bf16) (h : FTy.bits .bf16 < FTy.bits .f32) (ht) :
    truncf .bf16 (transpose S2048x12672 [1, 0] (Host.dotGeneral Reference7Ideal.dot_S4096x12672_S4096x2048_S12672x2048_0_0_1_1_n_n none
      (extf .f32 B h : FVec Ideal S4096x12672 .f32) (extf .f32 A h : FVec Ideal S4096x2048 .f32)) ht) h = sums A B := by
  funext i
  exact Product.dot_transposed none (extf .f32 B h : FVec Ideal S4096x12672 .f32) (extf .f32 A h : FVec Ideal S4096x2048 .f32) ht i

theorem quiescent_ideal : Cert.quiescent_Kernel7Ideal := fun m ρ _ => Cert.Kernel7Ideal.Gen.frame m ρ

theorem bodies_eq {F : FTy → Type} [FloatOps F] : (Kernel7.defs₀ (F := F)) = (Kernel7Ideal.defs₀ (F := F)) := by
  unfold Kernel7.defs₀ Kernel7Ideal.defs₀
  congr 1
  funext l a
  fin_cases l
  rfl

theorem defs_eq {F : FTy → Type} [FloatOps F] : (Kernel7.defs (F := F)) = (Kernel7Ideal.defs (F := F)) := by
  show Pipeline.defs _ Kernel7.defs₀ = Pipeline.defs _ Kernel7Ideal.defs₀
  rw [bodies_eq]
  rfl

theorem quiescent : Cert.quiescent_Kernel7 := by
  intro m ρ _
  show θ_run Kernel7.defs _ _ _
  rw [defs_eq]
  exact Cert.Kernel7Ideal.Gen.frame (F := Bits) m ρ

theorem quiescent_reference : Cert.quiescent_Reference7Ideal := fun m ρ _ =>
  (θ_run _ _ _).mono (fun r h => ⟨fun c => (h c).2, sem_eq_zero_of_no_sems (by decide) r.2⟩) (Cert.Reference7Ideal.Value.run (F := Ideal) m ρ)

theorem algebraic : Cert.algebraic_Kernel7Ideal_Reference7Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference7Ideal.Value.run (F := Ideal) m' g')
    rw [(hsame c).1, (hsame c).2]

end Cert.Proof.InDw

end
-- ==== Proof.InDx.lean ====
/-
  The gradient of the mixer's normalised input, dx = g · Wᵀ: what each point of the kernel leaves, and the array it ends with.
-/
module

public import proofs.«01_k».proof.Defs
public import proofs.«01_k».proof.Proof.Product
public import proofs.«01_k».proof.Proof.Gen.Kernel8Ideal.Value
public import proofs.«01_k».proof.Proof.Gen.Reference8Ideal.Run
public import proofs.«01_k».proof.Proof.Gen.Kernel8
public import proofs.«01_k».proof.Proof.Gen.Kernel8Ideal
public import proofs.«01_k».proof.Proof.Gen.Reference8Ideal

@[expose] public section

noncomputable section

namespace Cert.Proof.InDx

open Cert.Kernel8Ideal Cert.Kernel8Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h : t.val % 9 = 0) : (outsAt0 m c t.val t.isLt).2 = k0_pay1 (iblk m c 0 t) (iblk m c 1 t) := by
  rw [outsAt0_A m c t h (by omega) (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- A point in the middle adds its tile's product to the scratch. -/
theorem scr_next (h0 : ¬t.val % 9 = 0) (h2 : ¬t.val % 9 = 8) : (outsAt0 m c t.val t.isLt).2
    = addf (outsAt0 m c (t.val - 1) (Nat.lt_of_le_of_lt (Nat.sub_le _ _) t.isLt)).2 (k0_pay1 (iblk m c 0 t) (iblk m c 1 t)) := by
  rw [outsAt0_B m c t h0 (by omega) h2]
  dsimp only
  unfold sout0_B_0 kernelRun0_B
  refine ((Product.store_whole _ _ _).trans (c := k0_pay3 (iblk m c 0 t) (iblk m c 1 t)
      (outsAt0 m c (t.val - 1) (Nat.lt_of_le_of_lt (Nat.sub_le _ _) t.isLt)).2)
    (congr (congrArg₂ k0_pay3 (Product.load_whole _ _ _) (Product.load_whole _ _ _)) (Product.load_whole _ _ _))).trans ?_
  unfold k0_pay3
  exact shapeCast_self _ _

/-- The last point of a block writes the scratch and its tile's product, added. -/
theorem out_last (h : t.val % 9 = 8) : (outsAt0 m c t.val t.isLt).1
    = addf (outsAt0 m c (t.val - 1) (Nat.lt_of_le_of_lt (Nat.sub_le _ _) t.isLt)).2 (k0_pay1 (iblk m c 0 t) (iblk m c 1 t)) := by
  rw [outsAt0_C m c t (by omega) (by omega) h]
  dsimp only
  unfold out0_C_2 kernelRun0_C
  exact (Product.store_whole _ _ _).trans (c := k0_pay4 (iblk m c 0 t) (iblk m c 1 t)
      (outsAt0 m c (t.val - 1) (Nat.lt_of_le_of_lt (Nat.sub_le _ _) t.isLt)).2)
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x12672 .bf16) (B : Vec Ideal S2048x12672 .bf16) (i : S4096x2048.Idx) (k : Fin 12672) : EReal :=
  A (ValueIdx.ix2 (i 0) k) * B (ValueIdx.ix2 (i 1) k)

/-- The whole sum, at each element. -/
def sums (A : Vec Ideal S4096x12672 .bf16) (B : Vec Ideal S2048x12672 .bf16) : Vec Ideal S4096x2048 .f32 := fun i => (∑ k, summand A B i k : EReal)

theorem idx_in : ∀ t : Fin cfg0.N, ((cfg0.win 0).index t 0 = t.val / 18 ∧ (cfg0.win 0).index t 1 = t.val % 9)
    ∧ ((cfg0.win 1).index t 0 = t.val / 9 % 2 ∧ (cfg0.win 1).index t 1 = t.val % 9) := by decide +kernel

/-- A point's product, at the place of `i` in the block, is its tile of `i`'s sum. -/
theorem product_tile (t : Fin cfg0.N) (i : S4096x2048.Idx) (h0 : t.val / 18 = (i 0).val / 1024) (h1 : t.val / 9 % 2 = (i 1).val / 1024) :
    k0_pay1 (F := Ideal) (iblk m c 0 t) (iblk m c 1 t) (Value.loc2Of i)
      = Product.tile (summand (m ((c : Thread nD τ).loc main_arg0)) (m ((c : Thread nD τ).loc main_arg1)) i) 1408 (t.val % 9) := by
  have hl : Value.loc2Of i = ValueIdx.ix2 ⟨(i 0).val % 1024, by omega⟩ ⟨(i 1).val % 1024, by omega⟩ :=
    Shape.idx_ext₂ rfl rfl
  rw [hl]
  refine (Product.matmul_nt (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val / 18 * 1024 + (i 0).val % 1024 = (i 0).val; omega
    · blk_simp [(idx_in t).1.2]; show t.val % 9 * 1408 + k.val = 1408 * (t.val % 9) + k.val; omega
  · refine congrArg (m ((c : Thread nD τ).loc main_arg1)) (Shape.idx_ext₂ ?_ ?_)
    · blk_simp [(idx_in t).2.1]; show t.val / 9 % 2 * 1024 + (i 1).val % 1024 = (i 1).val; omega
    · blk_simp [(idx_in t).2.2]; show t.val % 9 * 1408 + k.val = 1408 * (t.val % 9) + k.val; omega

/-- What the scratch holds after the first points of the block of `i`: the sum of their tiles. -/
theorem scr_total (i : S4096x2048.Idx) (b : ℕ) (h0 : b % 9 = 0) (hb0 : b / 18 = (i 0).val / 1024) (hb1 : b / 9 % 2 = (i 1).val / 1024)
    (j : ℕ) (h : b + j < cfg0.N) (hj : j < 8) : (outsAt0 m c (b + j) h).2 (Value.loc2Of i)
      = ∑ s ∈ Finset.range (j + 1), Product.tile (summand (m ((c : Thread nD τ).loc main_arg0)) (m ((c : Thread nD τ).loc main_arg1)) i) 1408 s := by
  refine Product.total (fun n h => (outsAt0 m c n h).2 (Value.loc2Of i)) _ b 8 (fun h => ?_) (fun j h h' hj => ?_) j h hj
  · refine (congrFun (scr_first m c ⟨b, h⟩ h0) _).trans ?_
    exact (product_tile m c ⟨b, h⟩ i hb0 hb1).trans (congrArg (Product.tile _ _) h0)
  · refine (congrFun (scr_next m c ⟨b + (j + 1), h⟩ (by show ¬(b + (j + 1)) % 9 = 0; omega) (by show ¬(b + (j + 1)) % 9 = 8; omega)) _).trans ?_
    exact congrArg₂ (fun x y : EReal => x + y) rfl ((product_tile m c ⟨b + (j + 1), h⟩ i
      (by show (b + (j + 1)) / 18 = _; omega) (by show (b + (j + 1)) / 9 % 2 = _; omega)).trans
        (congrArg (Product.tile _ _) (show (b + (j + 1)) % 9 = j + 1 by omega)))

/-- The array the kernel ends with. -/
theorem value : Value.G2 m c = sums (m ((c : Thread nD τ).loc main_arg0)) (m ((c : Thread nD τ).loc main_arg1)) := by
  funext i
  have hi0 : (i 0).val < 4096 := (i 0).isLt
  have hi1 : (i 1).val < 2048 := (i 1).isLt
  have hp : Value.pt2Of i < cfg0.N := lt_of_lt_of_eq (show Value.pt2Of i < 72 by unfold Value.pt2Of Value.run2Of; omega) N_0.symm
  obtain ⟨t, ht⟩ : ∃ t : Fin cfg0.N, t.val = Value.pt2Of i := ⟨⟨_, hp⟩, rfl⟩
  have ht' : t.val = 9 * (2 * ((i 0).val / 1024 - 0) + 1 * ((i 1).val / 1024 - 0)) + 8 := ht
  unfold Value.G2
  rw [dif_pos hp, ← Value.outsAt0_sweep m c _ hp]
  simp only [← ht]
  unfold sums
  rw [out_last m c t (by omega), ← Product.sum_all _ 1408 9 rfl, Finset.sum_range_succ _ 8]
  refine congrArg₂ (· + ·) ?_ ((product_tile m c t i (by omega) (by omega)).trans (congrArg (Product.tile _ _) (show t.val % 9 = 8 by omega)))
  have e := scr_total m c i (t.val - 8) (by omega) (by omega) (by omega) 7 (by omega) (by omega)
  simpa only [show t.val - 8 + 7 = t.val - 1 by omega] using e

/-- What the reference computes. -/
theorem reference (A : Vec Ideal S4096x12672 .bf16) (B : Vec Ideal S2048x12672 .bf16) (h : FTy.bits .bf16 < FTy.bits .f32) :
    Host.dotGeneral Reference8Ideal.dot_S4096x12672_S2048x12672_S4096x2048_1_1_0_0_n_n none
      (extf .f32 A h : FVec Ideal S4096x12672 .f32) (extf .f32 B h : FVec Ideal S2048x12672 .f32) = sums A B := by
  funext i
  rw [show i = ValueIdx.ix2 (i 0) (i 1) from Shape.idx_ext₂ rfl rfl]
  exact Product.dot_nt none (extf .f32 A h : FVec Ideal S4096x12672 .f32) (extf .f32 B h : FVec Ideal S2048x12672 .f32) (i 0) (i 1)

theorem quiescent_ideal : Cert.quiescent_Kernel8Ideal := fun m ρ _ => Cert.Kernel8Ideal.Gen.frame m ρ

theorem bodies_eq {F : FTy → Type} [FloatOps F] : (Kernel8.defs₀ (F := F)) = (Kernel8Ideal.defs₀ (F := F)) := by
  unfold Kernel8.defs₀ Kernel8Ideal.defs₀
  congr 1
  funext l a
  fin_cases l
  rfl

theorem defs_eq {F : FTy → Type} [FloatOps F] : (Kernel8.defs (F := F)) = (Kernel8Ideal.defs (F := F)) := by
  show Pipeline.defs _ Kernel8.defs₀ = Pipeline.defs _ Kernel8Ideal.defs₀
  rw [bodies_eq]
  rfl

theorem quiescent : Cert.quiescent_Kernel8 := by
  intro m ρ _
  show θ_run Kernel8.defs _ _ _
  rw [defs_eq]
  exact Cert.Kernel8Ideal.Gen.frame (F := Bits) m ρ

theorem quiescent_reference : Cert.quiescent_Reference8Ideal := fun m ρ _ =>
  (θ_run _ _ _).mono (fun r h => ⟨fun c => (h c).2, sem_eq_zero_of_no_sems (by decide) r.2⟩) (Cert.Reference8Ideal.Value.run (F := Ideal) m ρ)

theorem algebraic : Cert.algebraic_Kernel8Ideal_Reference8Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _)).trans ?_, (h c).2⟩) (Cert.Reference8Ideal.Value.run (F := Ideal) m' g')
    rw [(hsame c).1, (hsame c).2]

end Cert.Proof.InDx

end
-- ==== Proof.OutDx.lean ====
/-
  The gradient of the mixed branches through the output projection, dmix = g · Woᵀ: what each point of the kernel leaves, and
  the array it ends with.
-/
module

public import proofs.«01_k».proof.Defs
public import proofs.«01_k».proof.Proof.Product
public import proofs.«01_k».proof.Proof.Gen.Kernel9Ideal.Value
public import proofs.«01_k».proof.Proof.Gen.Reference9Ideal.Run
public import proofs.«01_k».proof.Proof.Gen.Kernel9
public import proofs.«01_k».proof.Proof.Gen.Kernel9Ideal
public import proofs.«01_k».proof.Proof.Gen.Reference9Ideal

@[expose] public section

noncomputable section

namespace Cert.Proof.OutDx

open Cert.Kernel9Ideal Cert.Kernel9Ideal.Gen Idealize.ShloMosaic Idealize.ShloMosaic.TcCoe Idealize.SL.Sem

/-- What the body leaves in the output's buffer. -/
theorem out {F : FTy → Type} [FloatOps F] (x0 x1 : Vec F S1024x2048 .bf16) : out0_2 x0 x1 = k0_pay1 x0 x1 := by
  unfold out0_2
  refine (View.canon_unit_zero Product.off_zero _ _).trans ?_
  exact congrArg₂ k0_pay1 (View.ld_unit_zero Product.off_zero _ _) (View.ld_unit_zero Product.off_zero _ _)

/-- The product with the transposed weight. -/
def grad (A : Vec Ideal S4096x2048 .bf16) (B : Vec Ideal S2048x2048 .bf16) : Vec Ideal S4096x2048 .f32 :=
  fun i => (∑ k : Fin 2048, A (ValueIdx.ix2 (i 0) k) * B (ValueIdx.ix2 (i 1) k) : EReal)

section values
variable (m : (ℓ : Loc nD τ sig) → Buf (Elt Ideal) ℓ) (c : Dev nD)

theorem idx_in : ∀ t : Fin cfg0.N, ((cfg0.win 0).index t 0 = t.val / 2 ∧ (cfg0.win 0).index t 1 = 0)
    ∧ ((cfg0.win 1).index t 0 = t.val % 2 ∧ (cfg0.win 1).index t 1 = 0)
    ∧ ((cfg0.win 2).index t 0 = t.val / 2 ∧ (cfg0.win 2).index t 1 = t.val % 2) := by decide +kernel

/-- A point's product, at a place of its block, is the whole product there. -/
theorem product_at (t : Fin cfg0.N) (y : S1024x1024.Idx) (i : S4096x2048.Idx) (h0 : (i 0).val = t.val / 2 * 1024 + (y 0).val)
    (h1 : (i 1).val = t.val % 2 * 1024 + (y 1).val) :
    k0_pay1 (F := Ideal) (iblk m c 0 t) (iblk m c 1 t) y = grad (m ((c : Thread nD τ).loc main_arg0)) (m ((c : Thread nD τ).loc main_arg1)) i := by
  rw [show y = ValueIdx.ix2 (y 0) (y 1) from Shape.idx_ext₂ rfl rfl]
  refine (Product.matmul_nt (φ₁ := .bf16) (φ₂ := .bf16) none _ _ _ _).trans ?_
  refine Finset.sum_congr rfl fun k _ => congrArg₂ (· * ·) ?_ ?_
  · refine congrArg (m ((c : Thread nD τ).loc main_arg0)) (Shape.idx_ext₂ ?_ ?_)
    · blk_simp [(idx_in t).1.1]; show t.val / 2 * 1024 + (y 0).val = (i 0).val; omega
    · blk_simp [(idx_in t).1.2]
  · refine congrArg (m ((c : Thread nD τ).loc main_arg1)) (Shape.idx_ext₂ ?_ ?_)
    · blk_simp [(idx_in t).2.1.1]; show t.val % 2 * 1024 + (y 1).val = (i 1).val; omega
    · blk_simp [(idx_in t).2.1.2]

/-- The array the kernel ends with. -/
theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out]
  refine (product_at m c t _ _ ?_ ?_)
  · blk_simp [show win0_2.index t 0 = _ from (idx_in t).2.2.1]
  · blk_simp [show win0_2.index t 1 = _ from (idx_in t).2.2.2]

end values

/-- What the reference computes. -/
theorem reference (A : Vec Ideal S4096x2048 .bf16) (B : Vec Ideal S2048x2048 .bf16) (h : FTy.bits .bf16 < FTy.bits .f32) :
    Host.dotGeneral Reference9Ideal.dot_S4096x2048_S2048x2048_S4096x2048_1_1_0_0_n_n none
      (extf .f32 A h : FVec Ideal S4096x2048 .f32) (extf .f32 B h : FVec Ideal S2048x2048 .f32) = grad A B := by
  funext i
  rw [show i = ValueIdx.ix2 (i 0) (i 1) from Shape.idx_ext₂ rfl rfl]
  exact Product.dot_nt none (extf .f32 A h : FVec Ideal S4096x2048 .f32) (extf .f32 B h : FVec Ideal S2048x2048 .f32) (i 0) (i 1)

theorem quiescent_ideal : Cert.quiescent_Kernel9Ideal := fun m ρ _ => Cert.Kernel9Ideal.Gen.frame m ρ

theorem bodies_eq {F : FTy → Type} [FloatOps F] : (Kernel9.defs₀ (F := F)) = (Kernel9Ideal.defs₀ (F := F)) := by
  unfold Kernel9.defs₀ Kernel9Ideal.defs₀
  congr 1
  funext l a
  fin_cases l
  rfl

theorem defs_eq {F : FTy → Type} [FloatOps F] : (Kernel9.defs (F := F)) = (Kernel9Ideal.defs (F := F)) := by
  show Pipeline.defs _ Kernel9.defs₀ = Pipeline.defs _ Kernel9Ideal.defs₀
  rw [bodies_eq]
  rfl

theorem quiescent : Cert.quiescent_Kernel9 := by
  intro m ρ _
  show θ_run Kernel9.defs _ _ _
  rw [defs_eq]
  exact Cert.Kernel9Ideal.Gen.frame (F := Bits) m ρ

theorem quiescent_reference : Cert.quiescent_Reference9Ideal := fun m ρ _ =>
  (θ_run _ _ _).mono (fun r h => ⟨fun c => (h c).2, sem_eq_zero_of_no_sems (by decide) r.2⟩) (Cert.Reference9Ideal.Value.run (F := Ideal) m ρ)

theorem algebraic : Cert.algebraic_Kernel9Ideal_Reference9Ideal := by
  intro m g m' g' _ hsame
  refine ⟨fun c => grad (m ((c.tc : Thread nD τ).loc main_arg0)) (m ((c.tc : Thread nD τ).loc main_arg1)), ?_, ?_⟩
  · exact (θ_run _ _ _).mono (fun r h c => ⟨(h c).1.trans (arr m c), (h c).2⟩) (Value.run_blocks m g)
  · refine (θ_run _ _ _).mono (fun r h c => ⟨((h c).1.trans (reference _ _ _)).trans ?_, (h c).2⟩) (Cert.Reference9Ideal.Value.run (F := Ideal) m' g')
    rw [(hsame c).1, (hsame c).2]

end Cert.Proof.OutDx

end
-- ==== Proof.OutDw.lean ====
/-
  The gradient of the output projection's weight, dWo = mixᵀ · g: what each point of the kernel leaves, and the array it ends with.
-/
module

public import proofs.«01_k».proof.Defs
public import proofs.«01_k».proof.Proof.Product
public import proofs.«01_k».proof.Proof.Gen.Kernel10Ideal.Value
public import proofs.«01_k».proof.Proof.Gen.Reference10Ideal.Run
public import proofs.«01_k».proof.Proof.Gen.Kernel10
public import proofs.«01_k».proof.Proof.Gen.Kernel10Ideal
public import proofs.«01_k».proof.Proof.Gen.Reference10Ideal

@[expose] public section

noncomputable section

namespace Cert.Proof.OutDw

open Cert.Kernel10Ideal Cert.Kernel10Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h0 : t.val % 2 = 0) : (outsAt0 m c t.val t.isLt).2 = k0_pay1 (iblk m c 0 t) (iblk m c 1 t) := by
  rw [outsAt0_A m c t h0 (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- The last point of a block adds its tile's product to the scratch. -/
theorem out_last (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  unfold out0_B_2 kernelRun0_B
  exact (Product.store_whole _ _ _).trans
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x2048 .bf16) (B : Vec Ideal S4096x2048 .bf16) (i : S2048x2048.Idx) (k : Fin 4096) : EReal :=
  A (ValueIdx.ix2 k (i 0)) * B (ValueIdx.ix2 k (i 1))

/-- The whole sum, at each element. -/
def sums (A : Vec Ideal S4096x2048 .bf16) (B : Vec Ideal S4096x2048 .bf16) : Vec Ideal S2048x2048 .bf16 := fun i => (∑ k, summand A B i k : EReal)

theorem idx_in : ∀ t : Fin cfg0.N, ((cfg0.win 0).index t 0 = t.val % 2 ∧ (cfg0.win 0).index t 1 = t.val / 4)
    ∧ ((cfg0.win 1).index t 0 = t.val % 2 ∧ (cfg0.win 1).index t 1 = t.val / 2 % 2) := by decide +kernel

/-- A point's product, at the place of `i` in the block, is its tile of `i`'s sum. -/
theorem product_tile (t : Fin cfg0.N) (i : S2048x2048.Idx) (h0 : t.val / 4 = (i 0).val / 1024) (h1 : t.val / 2 % 2 = (i 1).val / 1024) :
    k0_pay1 (F := Ideal) (iblk m c 0 t) (iblk m c 1 t) (Value.loc2Of i)
      = Product.tile (summand (m ((c : Thread nD τ).loc main_arg0)) (m ((c : Thread nD τ).loc main_arg1)) i) 2048 (t.val % 2) := by
  have hl : Value.loc2Of i = ValueIdx.ix2 ⟨(i 0).val % 1024, by omega⟩ ⟨(i 1).val % 1024, by omega⟩ :=
    Shape.idx_ext₂ rfl rfl
  rw [hl]
  refine (Product.matmul_tn (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val % 2 * 2048 + k.val = 2048 * (t.val % 2) + k.val; omega
    · blk_simp [(idx_in t).1.2]; show t.val / 4 * 1024 + (i 0).val % 1024 = (i 0).val; omega
  · refine congrArg (m ((c : Thread nD τ).loc main_arg1)) (Shape.idx_ext₂ ?_ ?_)
    · blk_simp [(idx_in t).2.1]; show t.val % 2 * 2048 + k.val = 2048 * (t.val % 2) + k.val; omega
    · blk_simp [(idx_in t).2.2]; show t.val / 2 % 2 * 1024 + (i 1).val % 1024 = (i 1).val; omega

/-- The array the kernel ends with. -/
theorem value : Value.G2 m c = sums (m ((c : Thread nD τ).loc main_arg0)) (m ((c : Thread nD τ).loc main_arg1)) := by
  funext i
  have hi0 : (i 0).val < 2048 := (i 0).isLt
  have hi1 : (i 1).val < 2048 := (i 1).isLt
  have hp : Value.pt2Of i < cfg0.N := lt_of_lt_of_eq (show Value.pt2Of i < 8 by unfold Value.pt2Of Value.run2Of; omega) N_0.symm
  obtain ⟨t, ht⟩ : ∃ t : Fin cfg0.N, t.val = Value.pt2Of i := ⟨⟨_, hp⟩, rfl⟩
  have ht' : t.val = 2 * (2 * ((i 0).val / 1024 - 0) + 1 * ((i 1).val / 1024 - 0)) + 1 := ht
  unfold Value.G2
  rw [dif_pos hp, ← Value.outsAt0_sweep m c _ hp]
  simp only [← ht]
  unfold sums
  rw [out_last m c t (by omega), ← Product.sum_all _ 2048 2 rfl, Finset.sum_range_succ, Finset.sum_range_one]
  refine congrArg₂ (· + ·) ?_ ((product_tile m c t i (by omega) (by omega)).trans (congrArg (Product.tile _ _) (show t.val % 2 = 1 by omega)))
  refine (congrFun (scr_first m c ⟨t.val - 1, Nat.lt_of_le_of_lt (Nat.sub_le _ _) t.isLt⟩ (by show (t.val - 1) % 2 = 0; omega)) _).trans ?_
  refine (product_tile m c ⟨t.val - 1, _⟩ i ?_ ?_).trans (congrArg _ ?_)
  · show (t.val - 1) / 4 = _; omega
  · show (t.val - 1) / 2 % 2 = _; omega
  · show (t.val - 1) % 2 = 0; omega

/-- What the reference computes. -/
theorem reference (A : Vec Ideal S4096x2048 .bf16) (B : Vec Ideal S4096x2048 .bf16) (h : FTy.bits .bf16 < FTy.bits .f32) (ht) :
    truncf .bf16 (transpose S2048x2048 [1, 0] (Host.dotGeneral Reference10Ideal.dot_S4096x2048_S4096x2048_S2048x2048_0_0_1_1_n_n none
      (extf .f32 B h : FVec Ideal S4096x2048 .f32) (extf .f32 A h : FVec Ideal S4096x2048 .f32)) ht) h = sums A B := by
  funext i
  exact Product.dot_transposed none (extf .f32 B h : FVec Ideal S4096x2048 .f32) (extf .f32 A h : FVec Ideal S4096x2048 .f32) ht i

theorem quiescent_ideal : Cert.quiescent_Kernel10Ideal := fun m ρ _ => Cert.Kernel10Ideal.Gen.frame m ρ

theorem bodies_eq {F : FTy → Type} [FloatOps F] : (Kernel10.defs₀ (F := F)) = (Kernel10Ideal.defs₀ (F := F)) := by
  unfold Kernel10.defs₀ Kernel10Ideal.defs₀
  congr 1
  funext l a
  fin_cases l
  rfl

theorem defs_eq {F : FTy → Type} [FloatOps F] : (Kernel10.defs (F := F)) = (Kernel10Ideal.defs (F := F)) := by
  show Pipeline.defs _ Kernel10.defs₀ = Pipeline.defs _ Kernel10Ideal.defs₀
  rw [bodies_eq]
  rfl

theorem quiescent : Cert.quiescent_Kernel10 := by
  intro m ρ _
  show θ_run Kernel10.defs _ _ _
  rw [defs_eq]
  exact Cert.Kernel10Ideal.Gen.frame (F := Bits) m ρ

theorem quiescent_reference : Cert.quiescent_Reference10Ideal := fun m ρ _ =>
  (θ_run _ _ _).mono (fun r h => ⟨fun c => (h c).2, sem_eq_zero_of_no_sems (by decide) r.2⟩) (Cert.Reference10Ideal.Value.run (F := Ideal) m ρ)

theorem algebraic : Cert.algebraic_Kernel10Ideal_Reference10Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference10Ideal.Value.run (F := Ideal) m' g')
    rw [(hsame c).1, (hsame c).2]

end Cert.Proof.OutDw

end
-- ==== Proof.BranchDx.lean ====
/-
  The gradient of a branch through its projection, dy = g · Wbᵀ: what each point of the kernel leaves, and
  the array it ends with.
-/
module

public import proofs.«01_k».proof.Defs
public import proofs.«01_k».proof.Proof.Product
public import proofs.«01_k».proof.Proof.Gen.Kernel11Ideal.Value
public import proofs.«01_k».proof.Proof.Gen.Reference11Ideal.Run
public import proofs.«01_k».proof.Proof.Gen.Kernel11
public import proofs.«01_k».proof.Proof.Gen.Kernel11Ideal
public import proofs.«01_k».proof.Proof.Gen.Reference11Ideal

@[expose] public section

noncomputable section

namespace Cert.Proof.BranchDx

open Cert.Kernel11Ideal Cert.Kernel11Ideal.Gen Idealize.ShloMosaic Idealize.ShloMosaic.TcCoe Idealize.SL.Sem

/-- What the body leaves in the output's buffer. -/
theorem out {F : FTy → Type} [FloatOps F] (x0 : Vec F S1024x2048 .bf16) (x1 : Vec F S512x2048 .bf16) : out0_2 x0 x1 = k0_pay1 x0 x1 := by
  unfold out0_2
  refine (View.canon_unit_zero Product.off_zero _ _).trans ?_
  exact congrArg₂ k0_pay1 (View.ld_unit_zero Product.off_zero _ _) (View.ld_unit_zero Product.off_zero _ _)

/-- The product with the transposed weight. -/
def grad (A : Vec Ideal S4096x2048 .bf16) (B : Vec Ideal S512x2048 .bf16) : Vec Ideal S4096x512 .f32 :=
  fun i => (∑ k : Fin 2048, A (ValueIdx.ix2 (i 0) k) * B (ValueIdx.ix2 (i 1) k) : EReal)

section values
variable (m : (ℓ : Loc nD τ sig) → Buf (Elt Ideal) ℓ) (c : Dev nD)

theorem idx_in : ∀ t : Fin cfg0.N, ((cfg0.win 0).index t 0 = t.val ∧ (cfg0.win 0).index t 1 = 0)
    ∧ ((cfg0.win 1).index t 0 = 0 ∧ (cfg0.win 1).index t 1 = 0)
    ∧ ((cfg0.win 2).index t 0 = t.val ∧ (cfg0.win 2).index t 1 = 0) := by decide +kernel

/-- A point's product, at a place of its block, is the whole product there. -/
theorem product_at (t : Fin cfg0.N) (y : S1024x512.Idx) (i : S4096x512.Idx) (h0 : (i 0).val = t.val * 1024 + (y 0).val)
    (h1 : (i 1).val = (y 1).val) :
    k0_pay1 (F := Ideal) (iblk m c 0 t) (iblk m c 1 t) y = grad (m ((c : Thread nD τ).loc main_arg0)) (m ((c : Thread nD τ).loc main_arg1)) i := by
  rw [show y = ValueIdx.ix2 (y 0) (y 1) from Shape.idx_ext₂ rfl rfl]
  refine (Product.matmul_nt (φ₁ := .bf16) (φ₂ := .bf16) none _ _ _ _).trans ?_
  refine Finset.sum_congr rfl fun k _ => congrArg₂ (· * ·) ?_ ?_
  · refine congrArg (m ((c : Thread nD τ).loc main_arg0)) (Shape.idx_ext₂ ?_ ?_)
    · blk_simp [(idx_in t).1.1]; show t.val * 1024 + (y 0).val = (i 0).val; omega
    · blk_simp [(idx_in t).1.2]
  · refine congrArg (m ((c : Thread nD τ).loc main_arg1)) (Shape.idx_ext₂ ?_ ?_)
    · blk_simp [(idx_in t).2.1.1]; show (y 1).val = (i 1).val; omega
    · blk_simp [(idx_in t).2.1.2]

/-- The array the kernel ends with. -/
theorem arr : (dats m 0 c).arrAt 2 cfg0.N = grad (m ((c : Thread nD τ).loc main_arg0)) (m ((c : Thread nD τ).loc main_arg1)) := by
  refine (dats m 0 c).arrAt_eq_of_covers 2 _ (by decide +kernel) fun t hf y => ?_
  blk_simp
  rw [after0_2, out]
  refine (product_at m c t _ _ ?_ ?_)
  · blk_simp [show win0_2.index t 0 = _ from (idx_in t).2.2.1]
  · blk_simp [show win0_2.index t 1 = _ from (idx_in t).2.2.2]

end values

/-- What the reference computes. -/
theorem reference (A : Vec Ideal S4096x2048 .bf16) (B : Vec Ideal S512x2048 .bf16) (h : FTy.bits .bf16 < FTy.bits .f32) :
    Host.dotGeneral Reference11Ideal.dot_S4096x2048_S512x2048_S4096x512_1_1_0_0_n_n none
      (extf .f32 A h : FVec Ideal S4096x2048 .f32) (extf .f32 B h : FVec Ideal S512x2048 .f32) = grad A B := by
  funext i
  rw [show i = ValueIdx.ix2 (i 0) (i 1) from Shape.idx_ext₂ rfl rfl]
  exact Product.dot_nt none (extf .f32 A h : FVec Ideal S4096x2048 .f32) (extf .f32 B h : FVec Ideal S512x2048 .f32) (i 0) (i 1)

theorem quiescent_ideal : Cert.quiescent_Kernel11Ideal := fun m ρ _ => Cert.Kernel11Ideal.Gen.frame m ρ

theorem bodies_eq {F : FTy → Type} [FloatOps F] : (Kernel11.defs₀ (F := F)) = (Kernel11Ideal.defs₀ (F := F)) := by
  unfold Kernel11.defs₀ Kernel11Ideal.defs₀
  congr 1
  funext l a
  fin_cases l
  rfl

theorem defs_eq {F : FTy → Type} [FloatOps F] : (Kernel11.defs (F := F)) = (Kernel11Ideal.defs (F := F)) := by
  show Pipeline.defs _ Kernel11.defs₀ = Pipeline.defs _ Kernel11Ideal.defs₀
  rw [bodies_eq]
  rfl

theorem quiescent : Cert.quiescent_Kernel11 := by
  intro m ρ _
  show θ_run Kernel11.defs _ _ _
  rw [defs_eq]
  exact Cert.Kernel11Ideal.Gen.frame (F := Bits) m ρ

theorem quiescent_reference : Cert.quiescent_Reference11Ideal := fun m ρ _ =>
  (θ_run _ _ _).mono (fun r h => ⟨fun c => (h c).2, sem_eq_zero_of_no_sems (by decide) r.2⟩) (Cert.Reference11Ideal.Value.run (F := Ideal) m ρ)

theorem algebraic : Cert.algebraic_Kernel11Ideal_Reference11Ideal := by
  intro m g m' g' _ hsame
  refine ⟨fun c => grad (m ((c.tc : Thread nD τ).loc main_arg0)) (m ((c.tc : Thread nD τ).loc main_arg1)), ?_, ?_⟩
  · exact (θ_run _ _ _).mono (fun r h c => ⟨(h c).1.trans (arr m c), (h c).2⟩) (Value.run_blocks m g)
  · refine (θ_run _ _ _).mono (fun r h c => ⟨((h c).1.trans (reference _ _ _)).trans ?_, (h c).2⟩) (Cert.Reference11Ideal.Value.run (F := Ideal) m' g')
    rw [(hsame c).1, (hsame c).2]

end Cert.Proof.BranchDx

end
-- ==== Proof.BranchDw.lean ====
/-
  The gradient of a branch projection's weight, dWb = yᵀ · g: what each point of the kernel leaves, and the array it ends with.
-/
module

public import proofs.«01_k».proof.Defs
public import proofs.«01_k».proof.Proof.Product
public import proofs.«01_k».proof.Proof.Gen.Kernel12Ideal.Value
public import proofs.«01_k».proof.Proof.Gen.Reference12Ideal.Run
public import proofs.«01_k».proof.Proof.Gen.Kernel12
public import proofs.«01_k».proof.Proof.Gen.Kernel12Ideal
public import proofs.«01_k».proof.Proof.Gen.Reference12Ideal

@[expose] public section

noncomputable section

namespace Cert.Proof.BranchDw

open Cert.Kernel12Ideal Cert.Kernel12Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h0 : t.val % 2 = 0) : (outsAt0 m c t.val t.isLt).2 = k0_pay1 (iblk m c 0 t) (iblk m c 1 t) := by
  rw [outsAt0_A m c t h0 (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- The last point of a block adds its tile's product to the scratch. -/
theorem out_last (h2 : t.val % 2 = 1) :
    (outsAt0 m c t.val t.isLt).1 = k0_pay4 (iblk m c 0 t) (iblk m c 1 t) (outsAt0 m c (t.val - 1) (Nat.lt_of_le_of_lt (Nat.sub_le _ _) t.isLt)).2 := by
  rw [outsAt0_B m c t (by omega) h2]
  dsimp only
  unfold out0_B_2 kernelRun0_B
  exact (Product.store_whole _ _ _).trans
    (congr (congrArg₂ k0_pay4 (Product.load_whole _ _ _) (Product.load_whole _ _ _)) (Product.load_whole _ _ _))

end points

variable (m : (ℓ : Loc nD τ sig) → Buf (Elt Ideal) ℓ) (c : Dev nD)

/-- The products the element at `i` sums. -/
def summand (A : Vec Ideal S4096x512 .bf16) (B : Vec Ideal S4096x2048 .bf16) (i : S512x2048.Idx) (k : Fin 4096) : EReal :=
  A (ValueIdx.ix2 k (i 0)) * B (ValueIdx.ix2 k (i 1))

/-- The whole sum, at each element. -/
def sums (A : Vec Ideal S4096x512 .bf16) (B : Vec Ideal S4096x2048 .bf16) : Vec Ideal S512x2048 .bf16 := fun i => (∑ k, summand A B i k : EReal)

theorem idx_in : ∀ t : Fin cfg0.N, ((cfg0.win 0).index t 0 = t.val % 2 ∧ (cfg0.win 0).index t 1 = t.val / 4)
    ∧ ((cfg0.win 1).index t 0 = t.val % 2 ∧ (cfg0.win 1).index t 1 = t.val / 2 % 2) := by decide +kernel

/-- A point's product, at the place of `i` in the block, is its tile of `i`'s sum. -/
theorem product_tile (t : Fin cfg0.N) (i : S512x2048.Idx) (h0 : t.val / 4 = (i 0).val / 512) (h1 : t.val / 2 % 2 = (i 1).val / 1024) :
    k0_pay1 (F := Ideal) (iblk m c 0 t) (iblk m c 1 t) (Value.loc2Of i)
      = Product.tile (summand (m ((c : Thread nD τ).loc main_arg0)) (m ((c : Thread nD τ).loc main_arg1)) i) 2048 (t.val % 2) := by
  have hl : Value.loc2Of i = ValueIdx.ix2 ⟨(i 0).val % 512, by omega⟩ ⟨(i 1).val % 1024, by omega⟩ :=
    Shape.idx_ext₂ rfl rfl
  rw [hl]
  refine (Product.matmul_tn (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val % 2 * 2048 + k.val = 2048 * (t.val % 2) + k.val; omega
    · blk_simp [(idx_in t).1.2]; show t.val / 4 * 512 + (i 0).val % 512 = (i 0).val; omega
  · refine congrArg (m ((c : Thread nD τ).loc main_arg1)) (Shape.idx_ext₂ ?_ ?_)
    · blk_simp [(idx_in t).2.1]; show t.val % 2 * 2048 + k.val = 2048 * (t.val % 2) + k.val; omega
    · blk_simp [(idx_in t).2.2]; show t.val / 2 % 2 * 1024 + (i 1).val % 1024 = (i 1).val; omega

/-- The array the kernel ends with. -/
theorem value : Value.G2 m c = sums (m ((c : Thread nD τ).loc main_arg0)) (m ((c : Thread nD τ).loc main_arg1)) := by
  funext i
  have hi0 : (i 0).val < 512 := (i 0).isLt
  have hi1 : (i 1).val < 2048 := (i 1).isLt
  have hp : Value.pt2Of i < cfg0.N := lt_of_lt_of_eq (show Value.pt2Of i < 4 by unfold Value.pt2Of Value.run2Of; omega) N_0.symm
  obtain ⟨t, ht⟩ : ∃ t : Fin cfg0.N, t.val = Value.pt2Of i := ⟨⟨_, hp⟩, rfl⟩
  have ht' : t.val = 2 * (2 * ((i 0).val / 512 - 0) + 1 * ((i 1).val / 1024 - 0)) + 1 := ht
  unfold Value.G2
  rw [dif_pos hp, ← Value.outsAt0_sweep m c _ hp]
  simp only [← ht]
  unfold sums
  rw [out_last m c t (by omega), ← Product.sum_all _ 2048 2 rfl, Finset.sum_range_succ, Finset.sum_range_one]
  refine congrArg₂ (· + ·) ?_ ((product_tile m c t i (by omega) (by omega)).trans (congrArg (Product.tile _ _) (show t.val % 2 = 1 by omega)))
  refine (congrFun (scr_first m c ⟨t.val - 1, Nat.lt_of_le_of_lt (Nat.sub_le _ _) t.isLt⟩ (by show (t.val - 1) % 2 = 0; omega)) _).trans ?_
  refine (product_tile m c ⟨t.val - 1, _⟩ i ?_ ?_).trans (congrArg _ ?_)
  · show (t.val - 1) / 4 = _; omega
  · show (t.val - 1) / 2 % 2 = _; omega
  · show (t.val - 1) % 2 = 0; omega

/-- What the reference computes. -/
theorem reference (A : Vec Ideal S4096x512 .bf16) (B : Vec Ideal S4096x2048 .bf16) (h : FTy.bits .bf16 < FTy.bits .f32) (ht) :
    truncf .bf16 (transpose S512x2048 [1, 0] (Host.dotGeneral Reference12Ideal.dot_S4096x2048_S4096x512_S2048x512_0_0_1_1_n_n none
      (extf .f32 B h : FVec Ideal S4096x2048 .f32) (extf .f32 A h : FVec Ideal S4096x512 .f32)) ht) h = sums A B := by
  funext i
  exact Product.dot_transposed none (extf .f32 B h : FVec Ideal S4096x2048 .f32) (extf .f32 A h : FVec Ideal S4096x512 .f32) ht i

theorem quiescent_ideal : Cert.quiescent_Kernel12Ideal := fun m ρ _ => Cert.Kernel12Ideal.Gen.frame m ρ

theorem bodies_eq {F : FTy → Type} [FloatOps F] : (Kernel12.defs₀ (F := F)) = (Kernel12Ideal.defs₀ (F := F)) := by
  unfold Kernel12.defs₀ Kernel12Ideal.defs₀
  congr 1
  funext l a
  fin_cases l
  rfl

theorem defs_eq {F : FTy → Type} [FloatOps F] : (Kernel12.defs (F := F)) = (Kernel12Ideal.defs (F := F)) := by
  show Pipeline.defs _ Kernel12.defs₀ = Pipeline.defs _ Kernel12Ideal.defs₀
  rw [bodies_eq]
  rfl

theorem quiescent : Cert.quiescent_Kernel12 := by
  intro m ρ _
  show θ_run Kernel12.defs _ _ _
  rw [defs_eq]
  exact Cert.Kernel12Ideal.Gen.frame (F := Bits) m ρ

theorem quiescent_reference : Cert.quiescent_Reference12Ideal := fun m ρ _ =>
  (θ_run _ _ _).mono (fun r h => ⟨fun c => (h c).2, sem_eq_zero_of_no_sems (by decide) r.2⟩) (Cert.Reference12Ideal.Value.run (F := Ideal) m ρ)

theorem algebraic : Cert.algebraic_Kernel12Ideal_Reference12Ideal := by
  intro m g m' g' _ hsame
  refine ⟨fun c => sums (m ((c.tc : Thread nD τ).loc main_arg0)) (m ((c.tc : Thread nD τ).loc main_arg1)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference12Ideal.Value.run (F := Ideal) m' g')
    rw [(hsame c).1, (hsame c).2]

end Cert.Proof.BranchDw

end
-- ==== Proof.Gates.lean ====
/-
  The gate columns of the projected stream: gate `g` of channel `d` is column 2048 g + d, read out of the array by cutting the
  columns off, splitting them in four and taking the `g`-th part.
-/
module

public import Idealize.ShloMosaic.Lib.Pipeline.Value
public import Idealize.ShloMosaic.Lib.IdealHost
public import proofs.«01_k».proof.Proof.Head

@[expose] public section

noncomputable section

namespace Cert.Proof.Gates

open Idealize.ShloMosaic Idealize.ShloMosaic.ValueIdx

/-- The column of gate `g`, channel `d`. -/
def col (g : Fin 4) (d : Fin 2048) : Fin 12672 := ⟨2048 * g.val + d.val, by omega⟩

theorem ofBits_one' : (Scalar.ofBits (F := Ideal) .f32 0x3F800000#32 : EReal) = 1 := Head.ofBits_one.trans EReal.coe_one

section read
variable (P : FVec Ideal ⟨2, ![4096, 12672]⟩ .f32)
  (hs : (⟨2, ![4096, 12672]⟩ : Shape).Slices ![0, 0] ⟨2, ![4096, 8192]⟩) (hc : (⟨2, ![4096, 8192]⟩ : Shape).ShapeCasts ⟨3, ![4096, 4, 2048]⟩)

/-- The four gates as the reference holds them, at an index. -/
theorem four_apply (r : Fin 4096) (g : Fin 4) (d : Fin 2048) :
    shapeCast ⟨3, ![4096, 4, 2048]⟩ (extractStridedSlice ⟨2, ![4096, 8192]⟩ ![0, 0] P hs) hc (ix3 r g d) = P (ix2 r (col g d)) := by
  have hg := g.isLt
  have hd := d.isLt
  refine (shapeCast_apply _ _ (ix3 r g d) (ix2 r (⟨2048 * g.val + d.val, by omega⟩ : Fin 8192)) ?_).trans ?_
  · rw [Shape.rowMajor_val_two, Shape.rowMajor_val_three]
    show r.val * 8192 + (2048 * g.val + d.val) = (r.val * 4 + g.val) * 2048 + d.val
    omega
  · exact extractStridedSlice_apply _ P _ _ (ix2 r (col g d)) fun a => match a with
      | ⟨0, _⟩ => (Nat.zero_add _).symm
      | ⟨1, _⟩ => (Nat.zero_add _).symm

/-- One gate as the reference holds it, at an index. -/
theorem gate_apply (g : Fin 4) (hs' : (⟨3, ![4096, 4, 2048]⟩ : Shape).Slices ![0, g.val, 0] ⟨3, ![4096, 1, 2048]⟩)
    (hc' : (⟨3, ![4096, 1, 2048]⟩ : Shape).ShapeCasts ⟨2, ![4096, 2048]⟩) (r : Fin 4096) (d : Fin 2048) :
    shapeCast ⟨2, ![4096, 2048]⟩ (extractStridedSlice ⟨3, ![4096, 1, 2048]⟩ ![0, g.val, 0]
      (shapeCast ⟨3, ![4096, 4, 2048]⟩ (extractStridedSlice ⟨2, ![4096, 8192]⟩ ![0, 0] P hs) hc) hs') hc' (ix2 r d) = P (ix2 r (col g d)) := by
  refine (shapeCast_apply _ _ (ix2 r d) (ix3 r (0 : Fin 1) d) ?_).trans ?_
  · rw [Shape.rowMajor_val_two, Shape.rowMajor_val_three]
    show (r.val * 1 + 0) * 2048 + d.val = r.val * 2048 + d.val
    omega
  · refine (extractStridedSlice_apply _ _ _ _ (ix3 r g d) fun a => match a with
      | ⟨0, _⟩ => (Nat.zero_add _).symm
      | ⟨1, _⟩ => rfl
      | ⟨2, _⟩ => (Nat.zero_add _).symm).trans (four_apply P hs hc r g d)

end read

section sigmoid
variable (X : FVec Ideal ⟨2, ![4096, 2048]⟩ .f32) (hb : (⟨0, ![]⟩ : Shape).BroadcastsInDim ⟨2, ![4096, 2048]⟩ ![])

/-- The reference's ones. -/
abbrev ones : FVec Ideal ⟨2, ![4096, 2048]⟩ .f32 := broadcastInDim ⟨2, ![4096, 2048]⟩ ![] hb (constant ⟨0, ![]⟩ .f32 0x3F800000#32)

/-- The reference's sigmoid. -/
abbrev sigmoid : FVec Ideal ⟨2, ![4096, 2048]⟩ .f32 := Host.divf (ones hb) (addf (ones hb) (Host.exp (Host.negf X)))

theorem ones_eq (i : (⟨2, ![4096, 2048]⟩ : Shape).Idx) : ones hb i = (1 : EReal) := (ValueIdx.broadcastInDim_scalar_apply _ _ _).trans ofBits_one'

theorem sigmoid_eq (i : (⟨2, ![4096, 2048]⟩ : Shape).Idx) : sigmoid X hb i = Ideal.logistic (X i) := by
  have e : sigmoid X hb i = Ideal.div (ones hb i) (ones hb i + Ideal.exp (-(X i))) := rfl
  rw [e, ones_eq]
  rfl

end sigmoid

end Cert.Proof.Gates

end
-- ==== Proof.MergeBwd.lean ====
/-
  The gradient of the merge: of each branch the gate's sigmoid times what comes back, of each gate the branch times what comes
  back times the sigmoid's slope.
-/
module

public import proofs.«01_k».proof.Defs
public import Idealize.ShloMosaic.Lib.KernelVsHost
public import proofs.«01_k».proof.Proof.Product
public import proofs.«01_k».proof.Proof.Gates
public import proofs.«01_k».proof.Proof.Gen.Kernel13Ideal.Value
public import proofs.«01_k».proof.Proof.Gen.Reference13Ideal.Run
public import proofs.«01_k».proof.Proof.Gen.Kernel13
public import proofs.«01_k».proof.Proof.Gen.Kernel13Ideal
public import proofs.«01_k».proof.Proof.Gen.Reference13Ideal

@[expose] public section

noncomputable section

namespace Cert.Proof.MergeBwd

open Cert.Kernel13Ideal Cert.Kernel13Ideal.Gen Idealize.ShloMosaic Idealize.ShloMosaic.TcCoe Idealize.SL.Sem

section body
variable {F : FTy → Type} [FloatOps F] (m : (ℓ : Loc nD τ sig) → Buf (Elt F) ℓ) (c : Dev nD) (t : Fin cfg0.N)

/-- The values the body reads and works on, as the payloads of what the buffers hold. -/
theorem w_eq (M) (h) (x) : kernelRun0_A.sl.r (F := F) c M h x = k0_pay1 x := congrArg k0_pay1 (Product.load_whole _ _ _)

theorem w1_eq (M) (h) (x) : kernelRun0_A.sl.r_1 (F := F) c M h x = k0_pay2 x := congrArg k0_pay2 (Product.load_whole _ _ _)

theorem w2_eq (M) (h) (x) : kernelRun0_A.sl.r_2 (F := F) c M h x = k0_pay3 x := congrArg k0_pay3 (Product.load_whole _ _ _)

theorem w3_eq (M) (h) (x) : kernelRun0_A.sl.r_3 (F := F) c M h x = k0_pay4 x := congrArg k0_pay4 (Product.load_whole _ _ _)

theorem w4_eq (M) (h) (x) : kernelRun0_A.sl.r_4 (F := F) c M h x = k0_pay5 x := congrArg k0_pay5 (Product.load_whole _ _ _)

theorem w5_eq (M) (h) (x) : kernelRun0_A.sl.r_5 (F := F) c M h x = k0_pay6 x := congrArg k0_pay6 (Product.load_whole _ _ _)

theorem w6_eq (M) (h) (x) : kernelRun0_A.sl.r_6 (F := F) c M h x = k0_pay8 x := congrArg k0_pay8 (Product.load_whole _ _ _)

theorem w7_eq (M) (h) (x) : kernelRun0_A.sl.r_7 (F := F) c M h x = k0_pay10 x := congrArg k0_pay10 (Product.load_whole _ _ _)

theorem w8_eq (M) (h) (N) (h') (x) (y) : kernelRun0_A.sl.r_8 (F := F) c M h N h' x y = k0_pay12 x y :=
  congrArg₂ k0_pay12 (Product.load_whole _ _ _) (Product.load_whole _ _ _)

theorem w10_eq (M) (h) (N) (h') (x) (y) : kernelRun0_A.sl.r_10 (F := F) c M h N h' x y = k0_pay14 x y :=
  congrArg₂ k0_pay14 (Product.load_whole _ _ _) (Product.load_whole _ _ _)

theorem w11_eq (M) (h) (N) (h') (x) (y) : kernelRun0_A.sl.r_11 (F := F) c M h N h' x y = k0_pay15 x y :=
  congrArg₂ k0_pay15 (Product.load_whole _ _ _) (Product.load_whole _ _ _)

theorem w9_eq (M) (h) (N) (h') (O) (h'') (x) (y) (z) : kernelRun0_A.sl.r_9 (F := F) c M h N h' O h'' x y z = k0_pay13 x y z := by
  unfold kernelRun0_A.sl.r_9
  exact congr (congrArg₂ k0_pay13 (Product.load_whole _ _ _) (Product.load_whole _ _ _)) (Product.load_whole _ _ _)

/-- What the body leaves in the branches' buffers. -/
theorem out0 : (outsAt0 m c t).1 = k0_pay16 (k0_pay3 (X0_0 m c t)) (k0_pay10 (iblk m c 8 t)) := by
  unfold outsAt0
  dsimp only
  unfold out0_A_9 kernelRun0_A
  dsimp only
  refine (Product.store_whole _ _ _).trans ?_
  rw [w2_eq, w7_eq]

theorem out1 : (outsAt0 m c t).2.1 = k0_pay17 (k0_pay5 (X0_1 m c t)) (k0_pay10 (iblk m c 8 t)) := by
  unfold outsAt0
  dsimp only
  unfold out0_A_10 kernelRun0_A
  dsimp only
  refine (Product.store_whole _ _ _).trans ?_
  rw [w4_eq, w7_eq]

theorem out2 : (outsAt0 m c t).2.2.1 = k0_pay18 (k0_pay14 (X0_2 m c t) (iblk m c 8 t)) := by
  unfold outsAt0
  dsimp only
  unfold out0_A_11 kernelRun0_A
  dsimp only
  refine (Product.store_whole _ _ _).trans ?_
  rw [w10_eq]

theorem out3 : (outsAt0 m c t).2.2.2.1 = k0_pay19 (k0_pay12 (X0_3 m c t) (iblk m c 8 t)) := by
  unfold outsAt0
  dsimp only
  unfold out0_A_12 kernelRun0_A
  dsimp only
  refine (Product.store_whole _ _ _).trans ?_
  rw [w8_eq]

/-- A slab's place among the four. -/
theorem slab_at (A : Fin 4 → Vec F S1x512x512 .bf16) (k : Fin 4) (B : Vec F S1x512x512 .bf16) (hB : A k = B) (x : S1x512x512.Idx) (w : S4x512x512.Idx)
    (h0 : (w 0).val = k.val) (h1 : (w 1).val = (x 1).val) (h2 : (w 2).val = (x 2).val) : B x = A (w 0) (ValueIdx.ix3 (0 : Fin 1) (w 1) (w 2)) := by
  subst hB
  rw [show w 0 = k from Fin.ext h0]
  refine congrArg (A k) (funext fun a => Fin.ext ?_)
  match a with
  | ⟨0, _⟩ => exact Nat.lt_one_iff.mp (x 0).isLt
  | ⟨1, _⟩ => exact h1.symm
  | ⟨2, _⟩ => exact h2.symm

/-- A buffer of four slabs written one by one holds each at its place. -/
theorem four_slabs (v : View sig .tc .vmem S4x512x512 .bf16) (A0 A1 A2 A3 : Vec F S1x512x512 .bf16) (h0 h1 h2 h3) (z : S4x512x512.Idx) :
    v.read (Elt F) (v.writes (Elt F) v.junk [⟨Rect.unit (s := S4x512x512) ![3, 0, 0] S1x512x512.size h3, A3⟩,
      ⟨Rect.unit (s := S4x512x512) ![2, 0, 0] S1x512x512.size h2, A2⟩, ⟨Rect.unit (s := S4x512x512) ![1, 0, 0] S1x512x512.size h1, A1⟩,
      ⟨Rect.unit (s := S4x512x512) ![0, 0, 0] S1x512x512.size h0, A0⟩]) z
      = (![A0, A1, A2, A3] : Fin 4 → Vec F S1x512x512 .bf16) (z 0) (ValueIdx.ix3 (0 : Fin 1) (z 1) (z 2)) := by
  rw [View.read_writes_junk_eq_canon]
  refine View.canon_apply_of_pieces (Val := Elt F) (S := S4x512x512) (e := .bf16)
    (fun z => (![A0, A1, A2, A3] : Fin 4 → Vec F S1x512x512 .bf16) (z 0) (ValueIdx.ix3 (0 : Fin 1) (z 1) (z 2))) _ ?_ z ?_
  · intro p hp x
    simp only [List.mem_cons, List.not_mem_nil, or_false] at hp
    rcases hp with rfl | rfl | rfl | rfl
    · exact slab_at ![A0, A1, A2, A3] 3 A3 rfl x _ ((Rect.idx_unit_val _ _ h3 x 0).trans (congrArg (3 + ·) (Nat.lt_one_iff.mp (x 0).isLt)))
        ((Rect.idx_unit_val _ _ h3 x 1).trans (Nat.zero_add _)) ((Rect.idx_unit_val _ _ h3 x 2).trans (Nat.zero_add _))
    · exact slab_at ![A0, A1, A2, A3] 2 A2 rfl x _ ((Rect.idx_unit_val _ _ h2 x 0).trans (congrArg (2 + ·) (Nat.lt_one_iff.mp (x 0).isLt)))
        ((Rect.idx_unit_val _ _ h2 x 1).trans (Nat.zero_add _)) ((Rect.idx_unit_val _ _ h2 x 2).trans (Nat.zero_add _))
    · exact slab_at ![A0, A1, A2, A3] 1 A1 rfl x _ ((Rect.idx_unit_val _ _ h1 x 0).trans (congrArg (1 + ·) (Nat.lt_one_iff.mp (x 0).isLt)))
        ((Rect.idx_unit_val _ _ h1 x 1).trans (Nat.zero_add _)) ((Rect.idx_unit_val _ _ h1 x 2).trans (Nat.zero_add _))
    · exact slab_at ![A0, A1, A2, A3] 0 A0 rfl x _ ((Rect.idx_unit_val _ _ h0 x 0).trans (congrArg (0 + ·) (Nat.lt_one_iff.mp (x 0).isLt)))
        ((Rect.idx_unit_val _ _ h0 x 1).trans (Nat.zero_add _)) ((Rect.idx_unit_val _ _ h0 x 2).trans (Nat.zero_add _))
  · simp only [List.mem_cons, List.not_mem_nil, or_false, exists_eq_or_imp, exists_eq_left, Rect.mem_set_unit]
    have e0 := (z 0).isLt
    have e1 := (z 1).isLt
    have e2 := (z 2).isLt
    have key : ∀ k : ℕ, (z 0).val = k → ∀ a : Fin 3, (![k, 0, 0] : Fin 3 → ℕ) a ≤ (z a).val ∧ (z a).val < (![k, 0, 0] : Fin 3 → ℕ) a + (![1, 512, 512] : Fin 3 → ℕ) a :=
      fun k hk a => match a with
        | ⟨0, _⟩ => ⟨le_of_eq hk.symm, by show (z 0).val < k + 1; omega⟩
        | ⟨1, _⟩ => ⟨Nat.zero_le _, by show (z 1).val < 0 + 512; exact (Nat.zero_add 512).symm ▸ e1⟩
        | ⟨2, _⟩ => ⟨Nat.zero_le _, by show (z 2).val < 0 + 512; exact (Nat.zero_add 512).symm ▸ e2⟩
    have hz : (z 0).val = 3 ∨ (z 0).val = 2 ∨ (z 0).val = 1 ∨ (z 0).val = 0 := by
      have : (z 0).val < 4 := e0
      omega
    exact hz.imp (key 3) (Or.imp (key 2) (Or.imp (key 1) (key 0)))

/-- What the body leaves in the gates' buffer. -/
theorem out4 (z : S4x512x512.Idx) : (outsAt0 m c t).2.2.2.2 z
    = (![k0_pay20 (k0_pay1 (iblk m c 4 t)) (k0_pay4 (X0_0 m c t)) (k0_pay10 (iblk m c 8 t)),
        k0_pay21 (k0_pay2 (iblk m c 5 t)) (k0_pay6 (X0_1 m c t)) (k0_pay10 (iblk m c 8 t)),
        k0_pay22 (k0_pay8 (X0_2 m c t)) (k0_pay15 (iblk m c 6 t) (iblk m c 8 t)),
        k0_pay23 (k0_pay13 (X0_3 m c t) (iblk m c 7 t) (iblk m c 8 t))] : Fin 4 → Vec F S1x512x512 .bf16) (z 0) (ValueIdx.ix3 (0 : Fin 1) (z 1) (z 2)) := by
  unfold outsAt0
  dsimp only
  unfold out0_A_13 kernelRun0_A
  dsimp only
  rw [w9_eq, w6_eq, w11_eq, w1_eq, w5_eq, w7_eq, w_eq, w3_eq]
  exact four_slabs _ _ _ _ _ _ _ _ _ z

end body

/-- What goes back to a branch at a place, from its gate and what comes back. -/
def dy (g d : EReal) : EReal := Ideal.logistic g * d

/-- What goes back to a gate at a place, from the gate, its branch and what comes back. -/
def dg (g y d : EReal) : EReal := d * y * (Ideal.logistic g * (1 - Ideal.logistic g))

/-- The gradient of branch `k` as an array. -/
def branch (k : Fin 4) (P : Vec Ideal S4096x12672 .f32) (D : Vec Ideal S4096x2048 .f32) : Vec Ideal S4096x2048 .bf16 := fun i =>
  dy (P (ValueIdx.ix2 (i 0) (Gates.col k (i 1)))) (D i)

/-- The gradient of the four gates as an array. -/
def gates (P : Vec Ideal S4096x12672 .f32) (Y : Fin 4 → Vec Ideal S4096x2048 .bf16) (D : Vec Ideal S4096x2048 .f32) : Vec Ideal S4x4096x2048 .bf16 := fun i =>
  dg (P (ValueIdx.ix2 (i 1) (Gates.col (i 0) (i 2)))) (Y (i 0) (ValueIdx.ix2 (i 1) (i 2))) (D (ValueIdx.ix2 (i 1) (i 2)))

/-- The sigmoid's slope as the body writes it. -/
theorem slope (s : EReal) : s * ((Scalar.ofBits (F := Ideal) .f32 0x3F800000#32 : EReal) - s) = s * (1 - s) := by rw [Gates.ofBits_one']

section values
variable (m : (ℓ : Loc nD τ sig) → Buf (Elt Ideal) ℓ) (c : Dev nD)

theorem idx_gate : ∀ t : Fin cfg0.N, ((cfg0.win 0).index t 0 = t.val / 4 ∧ (cfg0.win 0).index t 1 = t.val % 4)
    ∧ ((cfg0.win 1).index t 0 = t.val / 4 ∧ (cfg0.win 1).index t 1 = 4 + t.val % 4)
    ∧ ((cfg0.win 2).index t 0 = t.val / 4 ∧ (cfg0.win 2).index t 1 = 8 + t.val % 4)
    ∧ ((cfg0.win 3).index t 0 = t.val / 4 ∧ (cfg0.win 3).index t 1 = 12 + t.val % 4) := by decide +kernel

theorem idx_in : ∀ t : Fin cfg0.N, ((cfg0.win 4).index t 0 = t.val / 4 ∧ (cfg0.win 4).index t 1 = t.val % 4)
    ∧ ((cfg0.win 5).index t 0 = t.val / 4 ∧ (cfg0.win 5).index t 1 = t.val % 4)
    ∧ ((cfg0.win 6).index t 0 = t.val / 4 ∧ (cfg0.win 6).index t 1 = t.val % 4)
    ∧ ((cfg0.win 7).index t 0 = t.val / 4 ∧ (cfg0.win 7).index t 1 = t.val % 4)
    ∧ ((cfg0.win 8).index t 0 = t.val / 4 ∧ (cfg0.win 8).index t 1 = t.val % 4) := by decide +kernel

theorem idx_out : ∀ t : Fin cfg0.N, ((cfg0.win 9).index t 0 = t.val / 4 ∧ (cfg0.win 9).index t 1 = t.val % 4)
    ∧ ((cfg0.win 10).index t 0 = t.val / 4 ∧ (cfg0.win 10).index t 1 = t.val % 4)
    ∧ ((cfg0.win 11).index t 0 = t.val / 4 ∧ (cfg0.win 11).index t 1 = t.val % 4)
    ∧ ((cfg0.win 12).index t 0 = t.val / 4 ∧ (cfg0.win 12).index t 1 = t.val % 4)
    ∧ ((cfg0.win 13).index t 0 = 0 ∧ (cfg0.win 13).index t 1 = t.val / 4 ∧ (cfg0.win 13).index t 2 = t.val % 4) := by decide +kernel

variable (t : Fin cfg0.N) (y : S512x512.Idx) (i : S4096x2048.Idx) (h0 : (i 0).val = t.val / 4 * 512 + (y 0).val)
  (h1 : (i 1).val = t.val % 4 * 512 + (y 1).val)

include h0 h1

/-- The gates' blocks, at a place of a block. -/
theorem gate_at : X0_0 m c t y = m ((c : Thread nD τ).loc main_arg0) (ValueIdx.ix2 (i 0) (Gates.col 0 (i 1)))
    ∧ X0_1 m c t y = m ((c : Thread nD τ).loc main_arg0) (ValueIdx.ix2 (i 0) (Gates.col 1 (i 1)))
    ∧ X0_2 m c t y = m ((c : Thread nD τ).loc main_arg0) (ValueIdx.ix2 (i 0) (Gates.col 2 (i 1)))
    ∧ X0_3 m c t y = m ((c : Thread nD τ).loc main_arg0) (ValueIdx.ix2 (i 0) (Gates.col 3 (i 1))) := by
  refine ⟨?_, ?_, ?_, ?_⟩
  · refine (dif_pos (moved0_0 t y)).trans (congrArg (m ((c : Thread nD τ).loc main_arg0)) (Shape.idx_ext₂ ?_ ?_))
    · blk_simp [(idx_gate t).1.1]; show t.val / 4 * 512 + (y 0).val = (i 0).val; omega
    · blk_simp [(idx_gate t).1.2]; show t.val % 4 * 512 + (y 1).val = 2048 * 0 + (i 1).val; omega
  · refine (dif_pos (moved0_1 t y)).trans (congrArg (m ((c : Thread nD τ).loc main_arg0)) (Shape.idx_ext₂ ?_ ?_))
    · blk_simp [(idx_gate t).2.1.1]; show t.val / 4 * 512 + (y 0).val = (i 0).val; omega
    · blk_simp [(idx_gate t).2.1.2]; show (4 + t.val % 4) * 512 + (y 1).val = 2048 * 1 + (i 1).val; omega
  · refine (dif_pos (moved0_2 t y)).trans (congrArg (m ((c : Thread nD τ).loc main_arg0)) (Shape.idx_ext₂ ?_ ?_))
    · blk_simp [(idx_gate t).2.2.1.1]; show t.val / 4 * 512 + (y 0).val = (i 0).val; omega
    · blk_simp [(idx_gate t).2.2.1.2]; show (8 + t.val % 4) * 512 + (y 1).val = 2048 * 2 + (i 1).val; omega
  · refine (dif_pos (moved0_3 t y)).trans (congrArg (m ((c : Thread nD τ).loc main_arg0)) (Shape.idx_ext₂ ?_ ?_))
    · blk_simp [(idx_gate t).2.2.2.1]; show t.val / 4 * 512 + (y 0).val = (i 0).val; omega
    · blk_simp [(idx_gate t).2.2.2.2]; show (12 + t.val % 4) * 512 + (y 1).val = 2048 * 3 + (i 1).val; omega

/-- The branches' blocks and that of what comes back, at a place of a block. -/
theorem branch_at : (iblk m c 4 t y = m ((c : Thread nD τ).loc main_arg1) i ∧ iblk m c 5 t y = m ((c : Thread nD τ).loc main_arg2) i
    ∧ iblk m c 6 t y = m ((c : Thread nD τ).loc main_arg3) i ∧ iblk m c 7 t y = m ((c : Thread nD τ).loc main_arg4) i)
    ∧ iblk m c 8 t y = m ((c : Thread nD τ).loc main_arg5) i := by
  refine ⟨⟨congrArg (m ((c : Thread nD τ).loc main_arg1)) (Shape.idx_ext₂ ?_ ?_), congrArg (m ((c : Thread nD τ).loc main_arg2)) (Shape.idx_ext₂ ?_ ?_),
    congrArg (m ((c : Thread nD τ).loc main_arg3)) (Shape.idx_ext₂ ?_ ?_), congrArg (m ((c : Thread nD τ).loc main_arg4)) (Shape.idx_ext₂ ?_ ?_)⟩,
    congrArg (m ((c : Thread nD τ).loc main_arg5)) (Shape.idx_ext₂ ?_ ?_)⟩
  · blk_simp [(idx_in t).1.1]; show t.val / 4 * 512 + (y 0).val = (i 0).val; omega
  · blk_simp [(idx_in t).1.2]; show t.val % 4 * 512 + (y 1).val = (i 1).val; omega
  · blk_simp [(idx_in t).2.1.1]; show t.val / 4 * 512 + (y 0).val = (i 0).val; omega
  · blk_simp [(idx_in t).2.1.2]; show t.val % 4 * 512 + (y 1).val = (i 1).val; omega
  · blk_simp [(idx_in t).2.2.1.1]; show t.val / 4 * 512 + (y 0).val = (i 0).val; omega
  · blk_simp [(idx_in t).2.2.1.2]; show t.val % 4 * 512 + (y 1).val = (i 1).val; omega
  · blk_simp [(idx_in t).2.2.2.1.1]; show t.val / 4 * 512 + (y 0).val = (i 0).val; omega
  · blk_simp [(idx_in t).2.2.2.1.2]; show t.val % 4 * 512 + (y 1).val = (i 1).val; omega
  · blk_simp [(idx_in t).2.2.2.2.1]; show t.val / 4 * 512 + (y 0).val = (i 0).val; omega
  · blk_simp [(idx_in t).2.2.2.2.2]; show t.val % 4 * 512 + (y 1).val = (i 1).val; omega

omit h0 h1 in
theorem pay_dy (g d : Vec Ideal S512x512 .f32) : (k0_pay16 (F := Ideal) (k0_pay3 g) (k0_pay10 d) y = dy (g y) (d y)
    ∧ k0_pay17 (F := Ideal) (k0_pay5 g) (k0_pay10 d) y = dy (g y) (d y)) ∧ k0_pay18 (F := Ideal) (k0_pay14 g d) y = dy (g y) (d y)
    ∧ k0_pay19 (F := Ideal) (k0_pay12 g d) y = dy (g y) (d y) := by
  have e : k0_pay10 (F := Ideal) d = d := shapeCast_self _ _
  have e' : k0_pay11 (F := Ideal) d = d := shapeCast_self _ _
  refine ⟨⟨?_, ?_⟩, ?_, ?_⟩
  · rw [e]; rfl
  · rw [e]; rfl
  · unfold k0_pay14; rw [e]; rfl
  · unfold k0_pay12; rw [e']; rfl

omit y h0 h1 in
theorem slab_of (v : Vec Ideal S512x512 .bf16) (h) (a b : Fin 512) : shapeCast S1x512x512 v h (ValueIdx.ix3 (0 : Fin 1) a b) = v (ValueIdx.ix2 a b) := by
  refine shapeCast_apply _ _ _ _ ?_
  rw [Shape.rowMajor_val_two, Shape.rowMajor_val_three]
  show a.val * 512 + b.val = (0 * 512 + a.val) * 512 + b.val
  omega

omit y h0 h1 in
theorem pay_dg (g : Vec Ideal S512x512 .f32) (v : Vec Ideal S512x512 .bf16) (d : Vec Ideal S512x512 .f32) (a b : Fin 512) :
    (k0_pay20 (F := Ideal) (k0_pay1 v) (k0_pay4 g) (k0_pay10 d) (ValueIdx.ix3 (0 : Fin 1) a b) = dg (g (ValueIdx.ix2 a b)) (v (ValueIdx.ix2 a b)) (d (ValueIdx.ix2 a b))
    ∧ k0_pay21 (F := Ideal) (k0_pay2 v) (k0_pay6 g) (k0_pay10 d) (ValueIdx.ix3 (0 : Fin 1) a b) = dg (g (ValueIdx.ix2 a b)) (v (ValueIdx.ix2 a b)) (d (ValueIdx.ix2 a b)))
    ∧ k0_pay22 (F := Ideal) (k0_pay8 g) (k0_pay15 v d) (ValueIdx.ix3 (0 : Fin 1) a b) = dg (g (ValueIdx.ix2 a b)) (v (ValueIdx.ix2 a b)) (d (ValueIdx.ix2 a b))
    ∧ k0_pay23 (F := Ideal) (k0_pay13 g v d) (ValueIdx.ix3 (0 : Fin 1) a b) = dg (g (ValueIdx.ix2 a b)) (v (ValueIdx.ix2 a b)) (d (ValueIdx.ix2 a b)) := by
  have e : k0_pay10 (F := Ideal) d = d := shapeCast_self _ _
  have e' : k0_pay11 (F := Ideal) d = d := shapeCast_self _ _
  refine ⟨⟨?_, ?_⟩, ?_, ?_⟩
  · rw [e]; unfold k0_pay20; refine (slab_of _ _ a b).trans ?_; exact congrArg (fun x : EReal => d (ValueIdx.ix2 a b) * v (ValueIdx.ix2 a b) * x) (slope _)
  · rw [e]; unfold k0_pay21; refine (slab_of _ _ a b).trans ?_; exact congrArg (fun x : EReal => d (ValueIdx.ix2 a b) * v (ValueIdx.ix2 a b) * x) (slope _)
  · unfold k0_pay15; rw [e]; unfold k0_pay22; dsimp only; refine (slab_of _ _ a b).trans ?_; exact congrArg (fun x : EReal => d (ValueIdx.ix2 a b) * v (ValueIdx.ix2 a b) * x) (slope _)
  · unfold k0_pay13; rw [e']; unfold k0_pay23; dsimp only; refine (slab_of _ _ a b).trans ?_; exact congrArg (fun x : EReal => d (ValueIdx.ix2 a b) * v (ValueIdx.ix2 a b) * x) (slope _)

/-- A point's part of each branch's gradient. -/
theorem part : ((outsAt0 m c t).1 y = branch 0 (m ((c : Thread nD τ).loc main_arg0)) (m ((c : Thread nD τ).loc main_arg5)) i
    ∧ (outsAt0 m c t).2.1 y = branch 1 (m ((c : Thread nD τ).loc main_arg0)) (m ((c : Thread nD τ).loc main_arg5)) i)
    ∧ (outsAt0 m c t).2.2.1 y = branch 2 (m ((c : Thread nD τ).loc main_arg0)) (m ((c : Thread nD τ).loc main_arg5)) i
    ∧ (outsAt0 m c t).2.2.2.1 y = branch 3 (m ((c : Thread nD τ).loc main_arg0)) (m ((c : Thread nD τ).loc main_arg5)) i := by
  have hg := gate_at m c t y i h0 h1
  have hb := (branch_at m c t y i h0 h1).2
  rw [out0, out1, out2, out3]
  exact ⟨⟨(pay_dy y _ _).1.1.trans (congrArg₂ dy hg.1 hb), (pay_dy y _ _).1.2.trans (congrArg₂ dy hg.2.1 hb)⟩,
    (pay_dy y _ _).2.1.trans (congrArg₂ dy hg.2.2.1 hb), (pay_dy y _ _).2.2.trans (congrArg₂ dy hg.2.2.2 hb)⟩

omit h0 h1 y i in
/-- A point's part of the gates' gradient. -/
theorem part_gates (z : S4x512x512.Idx) (i : S4x4096x2048.Idx) (hk : (i 0).val = (z 0).val) (h0 : (i 1).val = t.val / 4 * 512 + (z 1).val)
    (h1 : (i 2).val = t.val % 4 * 512 + (z 2).val) : (outsAt0 m c t).2.2.2.2 z = gates (m ((c : Thread nD τ).loc main_arg0))
      ![m ((c : Thread nD τ).loc main_arg1), m ((c : Thread nD τ).loc main_arg2), m ((c : Thread nD τ).loc main_arg3), m ((c : Thread nD τ).loc main_arg4)]
      (m ((c : Thread nD τ).loc main_arg5)) i := by
  have hg := gate_at m c t (ValueIdx.ix2 (z 1) (z 2)) (ValueIdx.ix2 (i 1) (i 2)) h0 h1
  have hb := branch_at m c t (ValueIdx.ix2 (z 1) (z 2)) (ValueIdx.ix2 (i 1) (i 2)) h0 h1
  have hi : i 0 = (z 0 : Fin 4) := Fin.ext hk
  rw [out4]
  unfold gates
  rw [hi]
  have key : ∀ k : Fin 4, (![k0_pay20 (F := Ideal) (k0_pay1 (iblk m c 4 t)) (k0_pay4 (X0_0 m c t)) (k0_pay10 (iblk m c 8 t)),
        k0_pay21 (k0_pay2 (iblk m c 5 t)) (k0_pay6 (X0_1 m c t)) (k0_pay10 (iblk m c 8 t)),
        k0_pay22 (k0_pay8 (X0_2 m c t)) (k0_pay15 (iblk m c 6 t) (iblk m c 8 t)),
        k0_pay23 (k0_pay13 (X0_3 m c t) (iblk m c 7 t) (iblk m c 8 t))] : Fin 4 → Vec Ideal S1x512x512 .bf16) k (ValueIdx.ix3 (0 : Fin 1) (z 1) (z 2))
      = dg (m ((c : Thread nD τ).loc main_arg0) (ValueIdx.ix2 (i 1) (Gates.col k (i 2))))
        ((![m ((c : Thread nD τ).loc main_arg1), m ((c : Thread nD τ).loc main_arg2), m ((c : Thread nD τ).loc main_arg3), m ((c : Thread nD τ).loc main_arg4)]
          : Fin 4 → Vec Ideal S4096x2048 .bf16) k (ValueIdx.ix2 (i 1) (i 2))) (m ((c : Thread nD τ).loc main_arg5) (ValueIdx.ix2 (i 1) (i 2))) := fun k =>
    match k with
    | 0 => (pay_dg _ _ _ _ _).1.1.trans (congr (congrArg₂ dg hg.1 hb.1.1) hb.2)
    | 1 => (pay_dg _ _ _ _ _).1.2.trans (congr (congrArg₂ dg hg.2.1 hb.1.2.1) hb.2)
    | 2 => (pay_dg _ _ _ _ _).2.1.trans (congr (congrArg₂ dg hg.2.2.1 hb.1.2.2.1) hb.2)
    | 3 => (pay_dg _ _ _ _ _).2.2.trans (congr (congrArg₂ dg hg.2.2.2 hb.1.2.2.2) hb.2)
  exact key (z 0)

end values

section arrays
variable (m : (ℓ : Loc nD τ sig) → Buf (Elt Ideal) ℓ) (c : Dev nD)

theorem arr0 : (dats m 0 c).arrAt 9 cfg0.N = branch 0 (m ((c : Thread nD τ).loc main_arg0)) (m ((c : Thread nD τ).loc main_arg5)) := by
  refine (dats m 0 c).arrAt_eq_of_covers 9 _ (by decide +kernel) fun t hf y => ?_
  blk_simp
  rw [after0_9]
  refine (part m c t _ _ ?_ ?_).1.1
  · blk_simp [show win0_9.index t 0 = _ from (idx_out t).1.1]
  · blk_simp [show win0_9.index t 1 = _ from (idx_out t).1.2]

theorem arr1 : (dats m 0 c).arrAt 10 cfg0.N = branch 1 (m ((c : Thread nD τ).loc main_arg0)) (m ((c : Thread nD τ).loc main_arg5)) := by
  refine (dats m 0 c).arrAt_eq_of_covers 10 _ (by decide +kernel) fun t hf y => ?_
  blk_simp
  rw [after0_10]
  refine (part m c t _ _ ?_ ?_).1.2
  · blk_simp [show win0_10.index t 0 = _ from (idx_out t).2.1.1]
  · blk_simp [show win0_10.index t 1 = _ from (idx_out t).2.1.2]

theorem arr2 : (dats m 0 c).arrAt 11 cfg0.N = branch 2 (m ((c : Thread nD τ).loc main_arg0)) (m ((c : Thread nD τ).loc main_arg5)) := by
  refine (dats m 0 c).arrAt_eq_of_covers 11 _ (by decide +kernel) fun t hf y => ?_
  blk_simp
  rw [after0_11]
  refine (part m c t _ _ ?_ ?_).2.1
  · blk_simp [show win0_11.index t 0 = _ from (idx_out t).2.2.1.1]
  · blk_simp [show win0_11.index t 1 = _ from (idx_out t).2.2.1.2]

theorem arr3 : (dats m 0 c).arrAt 12 cfg0.N = branch 3 (m ((c : Thread nD τ).loc main_arg0)) (m ((c : Thread nD τ).loc main_arg5)) := by
  refine (dats m 0 c).arrAt_eq_of_covers 12 _ (by decide +kernel) fun t hf y => ?_
  blk_simp
  rw [after0_12]
  refine (part m c t _ _ ?_ ?_).2.2
  · blk_simp [show win0_12.index t 0 = _ from (idx_out t).2.2.2.1.1]
  · blk_simp [show win0_12.index t 1 = _ from (idx_out t).2.2.2.1.2]

theorem arr4 : (dats m 0 c).arrAt 13 cfg0.N = gates (m ((c : Thread nD τ).loc main_arg0))
      ![m ((c : Thread nD τ).loc main_arg1), m ((c : Thread nD τ).loc main_arg2), m ((c : Thread nD τ).loc main_arg3), m ((c : Thread nD τ).loc main_arg4)]
      (m ((c : Thread nD τ).loc main_arg5)) := by
  refine (dats m 0 c).arrAt_eq_of_covers 13 _ (by decide +kernel) fun t hf y => ?_
  blk_simp
  rw [after0_13]
  refine part_gates m c t _ _ ?_ ?_ ?_
  · blk_simp [show win0_13.index t 0 = _ from (idx_out t).2.2.2.2.1]
  · blk_simp [show win0_13.index t 1 = _ from (idx_out t).2.2.2.2.2.1]
  · blk_simp [show win0_13.index t 2 = _ from (idx_out t).2.2.2.2.2.2]

end arrays

section reference

/-- The reference's gradient of a branch at an index. -/
theorem share (G D : FVec Ideal S4096x2048 .f32) (hb hc) (h : FTy.bits .bf16 < FTy.bits .f32) (i : S4096x2048.Idx) (g : EReal) (hg : G i = g) :
    truncf .bf16 (mulf (Gates.sigmoid G hb) (shapeCast S4096x2048 D hc : FVec Ideal S4096x2048 .f32)) h i = dy g (D i) := by
  subst hg
  rw [shapeCast_self]
  exact congrArg (fun x : EReal => x * D i) (Gates.sigmoid_eq G hb i)

/-- The reference's gradient of a gate at an index. -/
theorem slope_at (G D : FVec Ideal S4096x2048 .f32) (Y : Vec Ideal S4096x2048 .bf16) (hb hc) (h : FTy.bits .bf16 < FTy.bits .f32) (i : S4096x2048.Idx) (g : EReal)
    (hg : G i = g) : mulf (mulf (shapeCast S4096x2048 D hc : FVec Ideal S4096x2048 .f32) (extf .f32 Y h))
      (mulf (Gates.sigmoid G hb) (subf (Gates.ones hb) (Gates.sigmoid G hb))) i = dg g (Y i) (D i) := by
  subst hg
  rw [shapeCast_self]
  exact congrArg (fun x : EReal => D i * Y i * x) (congr (congrArg₂ (fun a b c : EReal => a * (b - c)) (Gates.sigmoid_eq G hb i) (Gates.ones_eq hb i)) (Gates.sigmoid_eq G hb i))

/-- A gate's gradient put at its place among the four. -/
theorem placed (k : ℕ) (hi : Fin 3 → ℕ) (X : FVec Ideal S4096x2048 .f32) (hb hp hu) (r : Fin 4096) (g : Fin 4) (d : Fin 2048) :
    pad Reference13Ideal.S4096x4x2048 ![0, k, 0] hi ![0, 0, 0] (broadcastInDim Reference13Ideal.S4096x1x2048 ![0, 2] hb X) (constant (F := Ideal) Reference13Ideal.S_ .f32 0x00000000#32) hp hu (ValueIdx.ix3 r g d)
      = if g.val = k then X (ValueIdx.ix2 r d) else (0 : EReal) := by
  by_cases h : g.val = k
  · rw [if_pos h]
    refine (pad_apply_of_inside _ _ _ _ _ _ _ _ (ValueIdx.ix3 r (0 : Fin 1) d) fun a => ?_).trans (broadcastInDim_apply _ _ X _ (ValueIdx.ix2 r d) fun a => ?_)
    · match a with
      | ⟨0, _⟩ => show r.val = 0 + r.val * (0 + 1); omega
      | ⟨1, _⟩ => show g.val = k + 0 * (0 + 1); omega
      | ⟨2, _⟩ => show d.val = 0 + d.val * (0 + 1); omega
    · match a with
      | ⟨0, _⟩ => rfl
      | ⟨1, _⟩ => rfl
  · rw [if_neg h]
    refine (pad_apply_of_not_inside _ _ _ _ _ _ _ _ (1 : Fin 3) fun hh => h ?_).trans Ideal.ofBits_zero_f32
    have h1 : k ≤ g.val := hh.1
    have h2 : (g.val - k) / (0 + 1) < 1 := hh.2.2
    rw [Nat.zero_add, Nat.div_one] at h2
    omega

/-- The gates' axis brought to the front, at an index. -/
theorem swapped (Z : FVec Ideal Reference13Ideal.S4096x4x2048 .f32) (ht) (h : FTy.bits .bf16 < FTy.bits .f32) (g : Fin 4) (r : Fin 4096) (d : Fin 2048) :
    truncf .bf16 (transpose S4x4096x2048 [1, 0, 2] Z ht : FVec Ideal S4x4096x2048 .f32) h (ValueIdx.ix3 g r d) = Z (ValueIdx.ix3 r g d) := by
  show transpose S4x4096x2048 [1, 0, 2] Z ht (ValueIdx.ix3 g r d) = Z (ValueIdx.ix3 r g d)
  refine transpose_apply _ _ ht (ValueIdx.ix3 g r d) (ValueIdx.ix3 r g d) fun b => ?_
  match b with
  | ⟨0, _⟩ => rfl
  | ⟨1, _⟩ => rfl
  | ⟨2, _⟩ => rfl

/-- Four gates' gradients put together, at an index. -/
theorem total (X0 X1 X2 X3 : FVec Ideal S4096x2048 .f32) (hi0 hi1 hi2 hi3 : Fin 3 → ℕ) (hb hu ht hp0 hp1 hp2 hp3) (h : FTy.bits .bf16 < FTy.bits .f32)
    (g : Fin 4) (r : Fin 4096) (d : Fin 2048) (G : Fin 4 → EReal) (e0 : X0 (ValueIdx.ix2 r d) = G 0) (e1 : X1 (ValueIdx.ix2 r d) = G 1)
    (e2 : X2 (ValueIdx.ix2 r d) = G 2) (e3 : X3 (ValueIdx.ix2 r d) = G 3) :
    truncf .bf16 (transpose S4x4096x2048 [1, 0, 2] (addf (addf (addf
      (pad Reference13Ideal.S4096x4x2048 ![0, 3, 0] hi3 ![0, 0, 0] (broadcastInDim Reference13Ideal.S4096x1x2048 ![0, 2] hb X3) (constant (F := Ideal) Reference13Ideal.S_ .f32 0x00000000#32) hp3 hu)
      (pad Reference13Ideal.S4096x4x2048 ![0, 2, 0] hi2 ![0, 0, 0] (broadcastInDim Reference13Ideal.S4096x1x2048 ![0, 2] hb X2) (constant (F := Ideal) Reference13Ideal.S_ .f32 0x00000000#32) hp2 hu))
      (pad Reference13Ideal.S4096x4x2048 ![0, 1, 0] hi1 ![0, 0, 0] (broadcastInDim Reference13Ideal.S4096x1x2048 ![0, 2] hb X1) (constant (F := Ideal) Reference13Ideal.S_ .f32 0x00000000#32) hp1 hu))
      (pad Reference13Ideal.S4096x4x2048 ![0, 0, 0] hi0 ![0, 0, 0] (broadcastInDim Reference13Ideal.S4096x1x2048 ![0, 2] hb X0) (constant (F := Ideal) Reference13Ideal.S_ .f32 0x00000000#32) hp0 hu)
      : FVec Ideal Reference13Ideal.S4096x4x2048 .f32) ht) h (ValueIdx.ix3 g r d) = G g := by
  refine (swapped _ ht h g r d).trans ?_
  refine (congr (congr (congrArg₂ (fun p q s u : EReal => p + q + s + u) (placed 3 hi3 X3 hb hp3 hu r g d) (placed 2 hi2 X2 hb hp2 hu r g d))
    (placed 1 hi1 X1 hb hp1 hu r g d)) (placed 0 hi0 X0 hb hp0 hu r g d)).trans ?_
  rw [e0, e1, e2, e3]
  match g with
  | 0 => simp
  | 1 => simp
  | 2 => simp
  | 3 => simp

/-- The reference's gradient of the gates at an index. -/
theorem reference (m : (ℓ : Loc Reference13Ideal.nD Reference13Ideal.τ Reference13Ideal.sig) → Buf (Elt Ideal) ℓ) (c : Dev Reference13Ideal.nD)
    (i : S4x4096x2048.Idx) : Reference13Ideal.Value.res_main_v89 m c i
      = gates (m ((c.tc : Thread Reference13Ideal.nD Reference13Ideal.τ).loc Reference13Ideal.main_arg0))
        ![m ((c.tc : Thread Reference13Ideal.nD Reference13Ideal.τ).loc Reference13Ideal.main_arg1), m ((c.tc : Thread Reference13Ideal.nD Reference13Ideal.τ).loc Reference13Ideal.main_arg2),
          m ((c.tc : Thread Reference13Ideal.nD Reference13Ideal.τ).loc Reference13Ideal.main_arg3), m ((c.tc : Thread Reference13Ideal.nD Reference13Ideal.τ).loc Reference13Ideal.main_arg4)]
        (m ((c.tc : Thread Reference13Ideal.nD Reference13Ideal.τ).loc Reference13Ideal.main_arg5)) i := by
  have e : i = ValueIdx.ix3 (i 0) (i 1) (i 2) := funext fun a => match a with
    | ⟨0, _⟩ => rfl
    | ⟨1, _⟩ => rfl
    | ⟨2, _⟩ => rfl
  rw [e]
  unfold Reference13Ideal.Value.res_main_v89
  exact total _ _ _ _ _ _ _ _ _ _ _ _ _ _ _ _ (i 0) (i 1) (i 2)
    (fun k => dg (m ((c.tc : Thread Reference13Ideal.nD Reference13Ideal.τ).loc Reference13Ideal.main_arg0) (ValueIdx.ix2 (i 1) (Gates.col k (i 2))))
      ((![m ((c.tc : Thread Reference13Ideal.nD Reference13Ideal.τ).loc Reference13Ideal.main_arg1), m ((c.tc : Thread Reference13Ideal.nD Reference13Ideal.τ).loc Reference13Ideal.main_arg2),
        m ((c.tc : Thread Reference13Ideal.nD Reference13Ideal.τ).loc Reference13Ideal.main_arg3), m ((c.tc : Thread Reference13Ideal.nD Reference13Ideal.τ).loc Reference13Ideal.main_arg4)]
        : Fin 4 → Vec Ideal S4096x2048 .bf16) k (ValueIdx.ix2 (i 1) (i 2)))
      (m ((c.tc : Thread Reference13Ideal.nD Reference13Ideal.τ).loc Reference13Ideal.main_arg5) (ValueIdx.ix2 (i 1) (i 2))))
    (slope_at _ _ _ _ _ _ _ _ (Gates.gate_apply _ _ _ 0 _ _ _ _)) (slope_at _ _ _ _ _ _ _ _ (Gates.gate_apply _ _ _ 1 _ _ _ _))
    (slope_at _ _ _ _ _ _ _ _ (Gates.gate_apply _ _ _ 2 _ _ _ _)) (slope_at _ _ _ _ _ _ _ _ (Gates.gate_apply _ _ _ 3 _ _ _ _))

end reference

theorem quiescent_ideal : Cert.quiescent_Kernel13Ideal := fun m ρ _ => Cert.Kernel13Ideal.Gen.frame m ρ

theorem bodies_eq {F : FTy → Type} [FloatOps F] : (Kernel13.defs₀ (F := F)) = (Kernel13Ideal.defs₀ (F := F)) := by
  unfold Kernel13.defs₀ Kernel13Ideal.defs₀
  congr 1
  funext l a
  fin_cases l
  rfl

theorem defs_eq {F : FTy → Type} [FloatOps F] : (Kernel13.defs (F := F)) = (Kernel13Ideal.defs (F := F)) := by
  show Pipeline.defs _ Kernel13.defs₀ = Pipeline.defs _ Kernel13Ideal.defs₀
  rw [bodies_eq]
  rfl

theorem quiescent : Cert.quiescent_Kernel13 := by
  intro m ρ _
  show θ_run Kernel13.defs _ _ _
  rw [defs_eq]
  exact Cert.Kernel13Ideal.Gen.frame (F := Bits) m ρ

theorem quiescent_reference : Cert.quiescent_Reference13Ideal := fun m ρ _ =>
  (θ_run _ _ _).mono (fun r h => ⟨fun c => (h c).2.2.2.2.2, sem_eq_zero_of_no_sems (by decide) r.2⟩) (Cert.Reference13Ideal.Value.run (F := Ideal) m ρ)

theorem algebraic : Cert.algebraic_Kernel13Ideal_Reference13Ideal := by
  intro m g m' g' _ hsame
  refine ⟨fun c => branch 0 (m ((c.tc : Thread nD τ).loc main_arg0)) (m ((c.tc : Thread nD τ).loc main_arg5)),
    fun c => branch 1 (m ((c.tc : Thread nD τ).loc main_arg0)) (m ((c.tc : Thread nD τ).loc main_arg5)),
    fun c => branch 2 (m ((c.tc : Thread nD τ).loc main_arg0)) (m ((c.tc : Thread nD τ).loc main_arg5)),
    fun c => branch 3 (m ((c.tc : Thread nD τ).loc main_arg0)) (m ((c.tc : Thread nD τ).loc main_arg5)),
    fun c => gates (m ((c.tc : Thread nD τ).loc main_arg0)) ![m ((c.tc : Thread nD τ).loc main_arg1), m ((c.tc : Thread nD τ).loc main_arg2),
      m ((c.tc : Thread nD τ).loc main_arg3), m ((c.tc : Thread nD τ).loc main_arg4)] (m ((c.tc : Thread nD τ).loc main_arg5)), ?_, ?_⟩
  · exact (θ_run _ _ _).mono (fun r h c => ⟨(h c).1.trans (arr0 m c), (h c).2.1.trans (arr1 m c), (h c).2.2.1.trans (arr2 m c),
      (h c).2.2.2.1.trans (arr3 m c), (h c).2.2.2.2.1.trans (arr4 m c), (h c).2.2.2.2.2⟩) (Value.run_blocks m g)
  · refine (θ_run _ _ _).mono (fun r h c => ⟨(h c).1.trans (funext fun i => ?_), (h c).2.1.trans (funext fun i => ?_), (h c).2.2.1.trans (funext fun i => ?_),
      (h c).2.2.2.1.trans (funext fun i => ?_), (h c).2.2.2.2.1.trans (funext fun i => ?_), (h c).2.2.2.2.2⟩) (Cert.Reference13Ideal.Value.run (F := Ideal) m' g')
    · have e : i = ValueIdx.ix2 (i 0) (i 1) := Shape.idx_ext₂ rfl rfl
      rw [e]
      refine (share _ _ _ _ _ _ _ (Gates.gate_apply _ _ _ 0 _ _ _ _)).trans ?_
      rw [(hsame c).1, (hsame c).2.2.2.2.2]
      rfl
    · have e : i = ValueIdx.ix2 (i 0) (i 1) := Shape.idx_ext₂ rfl rfl
      rw [e]
      refine (share _ _ _ _ _ _ _ (Gates.gate_apply _ _ _ 1 _ _ _ _)).trans ?_
      rw [(hsame c).1, (hsame c).2.2.2.2.2]
      rfl
    · have e : i = ValueIdx.ix2 (i 0) (i 1) := Shape.idx_ext₂ rfl rfl
      rw [e]
      refine (share _ _ _ _ _ _ _ (Gates.gate_apply _ _ _ 2 _ _ _ _)).trans ?_
      rw [(hsame c).1, (hsame c).2.2.2.2.2]
      rfl
    · have e : i = ValueIdx.ix2 (i 0) (i 1) := Shape.idx_ext₂ rfl rfl
      rw [e]
      refine (share _ _ _ _ _ _ _ (Gates.gate_apply _ _ _ 3 _ _ _ _)).trans ?_
      rw [(hsame c).1, (hsame c).2.2.2.2.2]
      rfl
    · exact reference m' c i |>.trans (by rw [(hsame c).1, (hsame c).2.1, (hsame c).2.2.1, (hsame c).2.2.2.1, (hsame c).2.2.2.2.1, (hsame c).2.2.2.2.2])

end Cert.Proof.MergeBwd

end
-- ==== Proof.Rows.lean ====
/-
  Rows of 2048 and their sums: what the kernels' and the reference's reductions and broadcasts along a row are at an index, and
  the reciprocal root mean square of a row.
-/
module

public import Idealize.ShloMosaic.Lib.Pipeline.Value
public import Idealize.ShloMosaic.Lib.IdealHost
public import proofs.«01_k».proof.Proof.Head

@[expose] public section

noncomputable section

namespace Cert.Proof.Rows

open Idealize.ShloMosaic

/-- The row's length as both programs write it. -/
def len : EReal := Ideal.ofBits .f32 0x45000000#32

/-- The number kept away from zero by. -/
def eps : EReal := Ideal.ofBits .f32 0x358637BD#32

/-- A row's mean square, kept away from zero. -/
def square (R : Fin 2048 → EReal) : EReal := Ideal.div (∑ j, R j * R j) len + eps

/-- One over its root. -/
def scale (R : Fin 2048 → EReal) : EReal := Ideal.rsqrt (square R)

section kernel
variable {n : ℕ}

/-- A row summed and kept as a column. -/
theorem sum_row (x : FVec Ideal ⟨2, ![256, n]⟩ .f32) (h : Shape.Reduces ⟨2, ![256, n]⟩ [1] ⟨1, ![256]⟩) (hφ : FKind.Formats .f32)
    (hacc : (0x00000000#32 : BitVec 32) = FKind.add.neutral .f32 hφ) (hc : (⟨1, ![256]⟩ : Shape).ShapeCasts ⟨2, ![256, 1]⟩) (t : Fin 256) (u : Fin 1) :
    shapeCast ⟨2, ![256, 1]⟩ (multiReduction .add [1] ⟨1, ![256]⟩ x 0x00000000#32 h hφ hacc) hc (ValueIdx.ix2 t u) = ∑ j : Fin n, x (ValueIdx.ix2 t j) := by
  rw [shapeCast_apply _ hc (ValueIdx.ix2 t u) (ValueIdx.ix1 t)
    (by rw [Shape.rowMajor_val_one, Shape.rowMajor_val_two]; have := u.isLt; show t.val = t.val * 1 + u.val; omega)]
  refine (Ideal.multiReduction_add_single x _ h hφ hacc (ValueIdx.ix1 t)).trans ?_
  exact Finset.sum_congr rfl fun k _ => congrArg x (Shape.idx_ext₂ rfl rfl)

/-- A column summed and kept as a row. -/
theorem sum_column (x : FVec Ideal ⟨2, ![256, 2048]⟩ .f32) (h : Shape.Reduces ⟨2, ![256, 2048]⟩ [0] ⟨1, ![2048]⟩) (hφ : FKind.Formats .f32)
    (hacc : (0x00000000#32 : BitVec 32) = FKind.add.neutral .f32 hφ) (hc : (⟨1, ![2048]⟩ : Shape).ShapeCasts ⟨2, ![1, 2048]⟩) (u : Fin 1) (d : Fin 2048) :
    shapeCast ⟨2, ![1, 2048]⟩ (multiReduction .add [0] ⟨1, ![2048]⟩ x 0x00000000#32 h hφ hacc) hc (ValueIdx.ix2 u d) = ∑ j : Fin 256, x (ValueIdx.ix2 j d) := by
  rw [shapeCast_apply _ hc (ValueIdx.ix2 u d) (ValueIdx.ix1 d)
    (by rw [Shape.rowMajor_val_one, Shape.rowMajor_val_two]; have := u.isLt; show d.val = u.val * 2048 + d.val; omega)]
  refine (Ideal.multiReduction_add_single x _ h hφ hacc (ValueIdx.ix1 d)).trans ?_
  exact Finset.sum_congr rfl fun k _ => congrArg x (Shape.idx_ext₂ rfl rfl)

/-- A column spread over its rows. -/
theorem spread_column (v : FVec Ideal ⟨2, ![256, 1]⟩ .f32) (h : (⟨2, ![256, 1]⟩ : Shape).Broadcasts ⟨2, ![256, 2048]⟩) (t : Fin 256) (d : Fin 2048) :
    broadcastTo ⟨2, ![256, 2048]⟩ v h (ValueIdx.ix2 t d) = v (ValueIdx.ix2 t (0 : Fin 1)) :=
  broadcastTo_apply v h _ (ValueIdx.ix2 t (0 : Fin 1)) fun a => match a with
    | ⟨0, _⟩ => rfl
    | ⟨1, _⟩ => rfl

/-- A row spread over its columns. -/
theorem spread_row (v : FVec Ideal ⟨2, ![1, 2048]⟩ .f32) (h : (⟨2, ![1, 2048]⟩ : Shape).Broadcasts ⟨2, ![256, 2048]⟩) (t : Fin 256) (d : Fin 2048) :
    broadcastTo ⟨2, ![256, 2048]⟩ v h (ValueIdx.ix2 t d) = v (ValueIdx.ix2 (0 : Fin 1) d) :=
  broadcastTo_apply v h _ (ValueIdx.ix2 (0 : Fin 1) d) fun a => match a with
    | ⟨0, _⟩ => rfl
    | ⟨1, _⟩ => rfl

end kernel

section host

/-- The reference's sum of a row. -/
theorem host_sum_row (x : FVec Ideal ⟨2, ![4096, 2048]⟩ .f32) (h : Shape.ReducesTo ⟨2, ![4096, 2048]⟩ [1] ⟨1, ![4096]⟩) (hu : 0 < (⟨0, ![]⟩ : Shape).numel) (t : Fin 4096) :
    Host.reduceAdd x (constant (F := Ideal) ⟨0, ![]⟩ .f32 0x00000000#32) h hu (ValueIdx.ix1 t) = ∑ j : Fin 2048, x (ValueIdx.ix2 t j) := by
  refine (Ideal.hostReduceAdd_single h (by decide) x _ (ValueIdx.ix1 t)).trans ?_
  rw [show (constant (F := Ideal) ⟨0, ![]⟩ .f32 0x00000000#32) (Shape.Idx.first hu) = (0 : EReal) from Ideal.ofBits_zero_f32, zero_add]
  exact Finset.sum_congr rfl fun k _ => congrArg x (Shape.idx_ext₂ rfl rfl)

/-- The reference's sum of a column. -/
theorem host_sum_column (x : FVec Ideal ⟨2, ![4096, 2048]⟩ .f32) (h : Shape.ReducesTo ⟨2, ![4096, 2048]⟩ [0] ⟨1, ![2048]⟩) (hu : 0 < (⟨0, ![]⟩ : Shape).numel)
    (d : Fin 2048) : Host.reduceAdd x (constant (F := Ideal) ⟨0, ![]⟩ .f32 0x00000000#32) h hu (ValueIdx.ix1 d) = ∑ j : Fin 4096, x (ValueIdx.ix2 j d) := by
  refine (Ideal.hostReduceAdd_single h (by decide) x _ (ValueIdx.ix1 d)).trans ?_
  rw [show (constant (F := Ideal) ⟨0, ![]⟩ .f32 0x00000000#32) (Shape.Idx.first hu) = (0 : EReal) from Ideal.ofBits_zero_f32, zero_add]
  exact Finset.sum_congr rfl fun k _ => congrArg x (Shape.idx_ext₂ rfl rfl)

/-- The reference's sum over a column's one place a row. -/
theorem host_sum_one (x : FVec Ideal ⟨2, ![4096, 1]⟩ .f32) (h : Shape.ReducesTo ⟨2, ![4096, 1]⟩ [1] ⟨1, ![4096]⟩) (hu : 0 < (⟨0, ![]⟩ : Shape).numel) (t : Fin 4096) :
    Host.reduceAdd x (constant (F := Ideal) ⟨0, ![]⟩ .f32 0x00000000#32) h hu (ValueIdx.ix1 t) = ∑ u : Fin 1, x (ValueIdx.ix2 t u) := by
  refine (Ideal.hostReduceAdd_single h (by decide) x _ (ValueIdx.ix1 t)).trans ?_
  rw [show (constant (F := Ideal) ⟨0, ![]⟩ .f32 0x00000000#32) (Shape.Idx.first hu) = (0 : EReal) from Ideal.ofBits_zero_f32, zero_add]
  exact Finset.sum_congr rfl fun k _ => congrArg x (Shape.idx_ext₂ rfl rfl)

/-- The reference's sum over a row's one place a column. -/
theorem host_sum_first (x : FVec Ideal ⟨2, ![1, 2048]⟩ .f32) (h : Shape.ReducesTo ⟨2, ![1, 2048]⟩ [0] ⟨1, ![2048]⟩) (hu : 0 < (⟨0, ![]⟩ : Shape).numel)
    (d : Fin 2048) : Host.reduceAdd x (constant (F := Ideal) ⟨0, ![]⟩ .f32 0x00000000#32) h hu (ValueIdx.ix1 d) = ∑ u : Fin 1, x (ValueIdx.ix2 u d) := by
  refine (Ideal.hostReduceAdd_single h (by decide) x _ (ValueIdx.ix1 d)).trans ?_
  rw [show (constant (F := Ideal) ⟨0, ![]⟩ .f32 0x00000000#32) (Shape.Idx.first hu) = (0 : EReal) from Ideal.ofBits_zero_f32, zero_add]
  exact Finset.sum_congr rfl fun k _ => congrArg x (Shape.idx_ext₂ rfl rfl)

/-- The reference's column of one number a row. -/
theorem host_column (x : FVec Ideal ⟨1, ![4096]⟩ .f32) (h : (⟨1, ![4096]⟩ : Shape).BroadcastsInDim ⟨2, ![4096, 1]⟩ ![0]) (t : Fin 4096) (u : Fin 1) :
    broadcastInDim ⟨2, ![4096, 1]⟩ ![0] h x (ValueIdx.ix2 t u) = x (ValueIdx.ix1 t) :=
  broadcastInDim_apply _ h x _ (ValueIdx.ix1 t) fun a => match a with
    | ⟨0, _⟩ => rfl

/-- The same by a change of shape. -/
theorem host_cast_column (x : FVec Ideal ⟨1, ![4096]⟩ .f32) (hc : (⟨1, ![4096]⟩ : Shape).ShapeCasts ⟨2, ![4096, 1]⟩) (t : Fin 4096) (u : Fin 1) :
    shapeCast ⟨2, ![4096, 1]⟩ x hc (ValueIdx.ix2 t u) = x (ValueIdx.ix1 t) := by
  refine shapeCast_apply _ hc _ (ValueIdx.ix1 t) ?_
  rw [Shape.rowMajor_val_one, Shape.rowMajor_val_two]
  have := u.isLt
  show t.val = t.val * 1 + u.val
  omega

/-- The reference's row of one number a column, by a change of shape. -/
theorem host_cast_row (x : FVec Ideal ⟨1, ![2048]⟩ .f32) (hc : (⟨1, ![2048]⟩ : Shape).ShapeCasts ⟨2, ![1, 2048]⟩) (u : Fin 1) (d : Fin 2048) :
    shapeCast ⟨2, ![1, 2048]⟩ x hc (ValueIdx.ix2 u d) = x (ValueIdx.ix1 d) := by
  refine shapeCast_apply _ hc _ (ValueIdx.ix1 d) ?_
  rw [Shape.rowMajor_val_one, Shape.rowMajor_val_two]
  have := u.isLt
  show d.val = u.val * 2048 + d.val
  omega

/-- The same by a broadcast. -/
theorem host_row (x : FVec Ideal ⟨1, ![2048]⟩ .f32) (h : (⟨1, ![2048]⟩ : Shape).BroadcastsInDim ⟨2, ![1, 2048]⟩ ![1]) (u : Fin 1) (d : Fin 2048) :
    broadcastInDim ⟨2, ![1, 2048]⟩ ![1] h x (ValueIdx.ix2 u d) = x (ValueIdx.ix1 d) :=
  broadcastInDim_apply _ h x _ (ValueIdx.ix1 d) fun a => match a with
    | ⟨0, _⟩ => rfl

/-- One number a row spread over the row. -/
theorem host_spread (x : FVec Ideal ⟨1, ![4096]⟩ .f32) (h : (⟨1, ![4096]⟩ : Shape).BroadcastsInDim ⟨2, ![4096, 2048]⟩ ![0]) (t : Fin 4096) (d : Fin 2048) :
    broadcastInDim ⟨2, ![4096, 2048]⟩ ![0] h x (ValueIdx.ix2 t d) = x (ValueIdx.ix1 t) :=
  broadcastInDim_apply _ h x _ (ValueIdx.ix1 t) fun a => match a with
    | ⟨0, _⟩ => rfl

/-- The reference's column spread over its rows. -/
theorem host_spread_column (x : FVec Ideal ⟨2, ![4096, 1]⟩ .f32) (h : (⟨2, ![4096, 1]⟩ : Shape).BroadcastsInDim ⟨2, ![4096, 2048]⟩ ![0, 1]) (t : Fin 4096)
    (d : Fin 2048) : broadcastInDim ⟨2, ![4096, 2048]⟩ ![0, 1] h x (ValueIdx.ix2 t d) = x (ValueIdx.ix2 t (0 : Fin 1)) :=
  broadcastInDim_apply _ h x _ (ValueIdx.ix2 t (0 : Fin 1)) fun a => match a with
    | ⟨0, _⟩ => rfl
    | ⟨1, _⟩ => rfl

/-- The reference's row spread over its columns, from the row without its unit axis. -/
theorem host_spread_row (g : FVec Ideal ⟨2, ![1, 2048]⟩ .f32) (hc : (⟨2, ![1, 2048]⟩ : Shape).ShapeCasts ⟨1, ![2048]⟩)
    (h : (⟨2, ![1, 2048]⟩ : Shape).BroadcastsInDim ⟨2, ![4096, 2048]⟩ ![0, 1]) (h' : (⟨1, ![2048]⟩ : Shape).BroadcastsInDim ⟨2, ![1, 2048]⟩ ![1])
    (t : Fin 4096) (d : Fin 2048) : broadcastInDim ⟨2, ![4096, 2048]⟩ ![0, 1] h (broadcastInDim ⟨2, ![1, 2048]⟩ ![1] h' (shapeCast ⟨1, ![2048]⟩ g hc))
      (ValueIdx.ix2 t d) = g (ValueIdx.ix2 (0 : Fin 1) d) := by
  refine (broadcastInDim_apply _ h _ _ (ValueIdx.ix2 (0 : Fin 1) d) fun a => match a with
    | ⟨0, _⟩ => rfl
    | ⟨1, _⟩ => rfl).trans ?_
  refine (broadcastInDim_apply _ h' _ _ (ValueIdx.ix1 d) fun a => match a with
    | ⟨0, _⟩ => rfl).trans ?_
  refine shapeCast_apply _ hc _ (ValueIdx.ix2 (0 : Fin 1) d) ?_
  rw [Shape.rowMajor_val_one, Shape.rowMajor_val_two]
  show 0 * 2048 + d.val = d.val
  omega

/-- The reference's mean square of a row, kept away from zero. -/
theorem host_square (x : FVec Ideal ⟨2, ![4096, 2048]⟩ .f32) (h : Shape.ReducesTo ⟨2, ![4096, 2048]⟩ [1] ⟨1, ![4096]⟩) (hu : 0 < (⟨0, ![]⟩ : Shape).numel)
    (hb : (⟨1, ![4096]⟩ : Shape).BroadcastsInDim ⟨2, ![4096, 1]⟩ ![0]) (hb0 : (⟨0, ![]⟩ : Shape).BroadcastsInDim ⟨2, ![4096, 1]⟩ ![]) (t : Fin 4096) (u : Fin 1) :
    addf (Host.divf (broadcastInDim ⟨2, ![4096, 1]⟩ ![0] hb (Host.reduceAdd (mulf x x) (constant (F := Ideal) ⟨0, ![]⟩ .f32 0x00000000#32) h hu))
      (broadcastInDim ⟨2, ![4096, 1]⟩ ![] hb0 (constant (F := Ideal) ⟨0, ![]⟩ .f32 0x45000000#32)))
      (broadcastInDim ⟨2, ![4096, 1]⟩ ![] hb0 (constant (F := Ideal) ⟨0, ![]⟩ .f32 0x358637BD#32)) (ValueIdx.ix2 t u)
      = square fun j => x (ValueIdx.ix2 t j) :=
  congr (congrArg₂ (fun a b c : EReal => Ideal.div a b + c) ((host_column _ hb t u).trans (host_sum_row _ h hu t)) (ValueIdx.broadcastInDim_scalar_apply _ _ _))
    (ValueIdx.broadcastInDim_scalar_apply _ _ _)

end host

end Cert.Proof.Rows

end
-- ==== Proof.NormBwd.lean ====
/-
  The gradient of the root-mean-square norm of the rows: by the stream, added to what comes down the residual, and by the weight,
  summed over the rows.
-/
module

public import proofs.«01_k».proof.Defs
public import Idealize.ShloMosaic.Lib.VecWindow
public import proofs.«01_k».proof.Proof.Product
public import proofs.«01_k».proof.Proof.Rows
public import proofs.«01_k».proof.Proof.Gen.Kernel14Ideal.Value
public import proofs.«01_k».proof.Proof.Gen.Reference14Ideal.Run
public import proofs.«01_k».proof.Proof.Gen.Kernel14
public import proofs.«01_k».proof.Proof.Gen.Kernel14Ideal
public import proofs.«01_k».proof.Proof.Gen.Reference14Ideal

@[expose] public section

noncomputable section

namespace Cert.Proof.NormBwd

open Cert.Kernel14Ideal Cert.Kernel14Ideal.Gen Idealize.ShloMosaic Idealize.ShloMosaic.TcCoe Idealize.SL.Sem

section body
variable {F : FTy → Type} [FloatOps F] (m : (ℓ : Loc nD τ sig) → Buf (Elt F) ℓ) (c : Dev nD) (t : Fin cfg0.N)

/-- What the body leaves in the stream's buffers. -/
theorem out_x : (outsAt0 m c t.val t.isLt).1 = k0_pay6 (iblk m c 0 t) (iblk m c 1 t) (iblk m c 2 t) (iblk m c 3 t) := by
  by_cases h : t.val % 16 = 0
  · rw [outsAt0_A m c t h]
    dsimp only
    unfold out0_A_4 kernelRun0_A
    dsimp only
    refine (Product.store_whole _ _ _).trans ?_
    exact congr (congr (congrArg₂ k0_pay6 (Product.load_whole _ _ _) (Product.load_whole _ _ _)) (Product.load_whole _ _ _)) (Product.load_whole _ _ _)
  · rw [outsAt0_B m c t h]
    dsimp only
    unfold out0_B_4 kernelRun0_B
    dsimp only
    refine (Product.store_whole _ _ _).trans ?_
    exact congr (congr (congrArg₂ k0_pay6 (Product.load_whole _ _ _) (Product.load_whole _ _ _)) (Product.load_whole _ _ _)) (Product.load_whole _ _ _)

theorem out_xb : (outsAt0 m c t.val t.isLt).2.1 = k0_pay7 (iblk m c 0 t) (iblk m c 1 t) (iblk m c 2 t) (iblk m c 3 t) := by
  by_cases h : t.val % 16 = 0
  · rw [outsAt0_A m c t h]
    dsimp only
    unfold out0_A_5 kernelRun0_A
    dsimp only
    refine (Product.store_whole _ _ _).trans ?_
    unfold kernelRun0_A.sl.r_1
    exact congr (congr (congrArg₂ k0_pay7 (Product.load_whole _ _ _) (Product.load_whole _ _ _)) (Product.load_whole _ _ _)) (Product.load_whole _ _ _)
  · rw [outsAt0_B m c t h]
    dsimp only
    unfold out0_B_5 kernelRun0_B
    dsimp only
    refine (Product.store_whole _ _ _).trans ?_
    unfold kernelRun0_B.sl.r_1
    exact congr (congr (congrArg₂ k0_pay7 (Product.load_whole _ _ _) (Product.load_whole _ _ _)) (Product.load_whole _ _ _)) (Product.load_whole _ _ _)

/-- The first point leaves its rows' part of the weight's gradient, added to zeros. -/
theorem out_g_first (h : t.val % 16 = 0) : (outsAt0 m c t.val t.isLt).2.2 = k0_pay2 (k0_pay5 (iblk m c 0 t) (iblk m c 2 t)) k0_pay1 := by
  rw [outsAt0_A m c t h]
  dsimp only
  unfold out0_A_6 kernelRun0_A
  dsimp only
  refine (View.read_writes_full _ _ _ _ _).trans ?_
  exact congrArg₂ k0_pay2 (congrArg₂ k0_pay5 (Product.load_whole _ _ _) (Product.load_whole _ _ _)) (View.readCov_full _ _ _ _ _)

/-- A later point adds its rows' part. -/
theorem out_g_next (h : ¬t.val % 16 = 0) : (outsAt0 m c t.val t.isLt).2.2
    = k0_pay2 (k0_pay5 (iblk m c 0 t) (iblk m c 2 t)) (outsAt0 m c (t.val - 1) (Nat.lt_of_le_of_lt (Nat.sub_le _ _) t.isLt)).2.2 := by
  rw [outsAt0_B m c t h]
  dsimp only
  unfold out0_B_6 kernelRun0_B
  dsimp only
  refine (View.read_writes_full _ _ _ _ _).trans ?_
  exact congrArg₂ k0_pay2 (congrArg₂ k0_pay5 (Product.load_whole _ _ _) (Product.load_whole _ _ _)) (Product.load_whole _ _ _)

end body

/-! ## The gradients at an index -/

/-- The factor -1/2 as both programs write it. -/
def half : EReal := Ideal.ofBits .f32 0xBF000000#32

/-- What reaches the mean of a row's squares. -/
def pull (R H g : Fin 2048 → EReal) : EReal :=
  Ideal.div ((∑ j, R j * (H j * g j)) * (half * Ideal.div (Rows.scale R) (Rows.square R))) Rows.len

/-- The same summed over the mean's one place. -/
def slope (R H g : Fin 2048 → EReal) : EReal := ∑ _u : Fin 1, pull R H g

/-- A row's gradient. -/
def dx (R H g : Fin 2048 → EReal) (d : Fin 2048) : EReal := H d * g d * Rows.scale R + R d * slope R H g + slope R H g * R d

section payloads
variable (x h : Vec Ideal S256x2048 .f32) (g : Vec Ideal S1x2048 .f32) (t : Fin 256)

theorem pay_square (u : Fin 1) : k0_pay3 (F := Ideal) x (ValueIdx.ix2 t u) = Rows.square fun j => x (ValueIdx.ix2 t j) := by
  unfold k0_pay3
  exact congrArg (fun a : EReal => Ideal.div a Rows.len + Rows.eps) (Rows.sum_row _ _ _ _ _ t u)

theorem pay_scale (u : Fin 1) : k0_pay4 (F := Ideal) x (ValueIdx.ix2 t u) = Rows.scale fun j => x (ValueIdx.ix2 t j) := by
  unfold k0_pay4
  exact congrArg Ideal.rsqrt (pay_square x t u)

theorem pay_dg (u : Fin 1) (d : Fin 2048) : k0_pay5 (F := Ideal) x h (ValueIdx.ix2 u d)
    = (∑ j : Fin 256, x (ValueIdx.ix2 j d) * Rows.scale (fun k => x (ValueIdx.ix2 j k)) * h (ValueIdx.ix2 j d) : EReal) := by
  unfold k0_pay5
  refine (Rows.sum_column _ _ _ _ _ u d).trans ?_
  refine Finset.sum_congr rfl fun j _ => ?_
  exact congrArg (fun a : EReal => (x (ValueIdx.ix2 j d) * a * h (ValueIdx.ix2 j d) : EReal)) ((Rows.spread_column _ _ j d).trans (pay_scale x j 0))

theorem pay_dx (e : Vec Ideal S256x2048 .f32) (d : Fin 2048) : k0_pay6 (F := Ideal) x g h e (ValueIdx.ix2 t d)
    = (e (ValueIdx.ix2 t d) + dx (fun j => x (ValueIdx.ix2 t j)) (fun j => h (ValueIdx.ix2 t j)) (fun j => g (ValueIdx.ix2 (0 : Fin 1) j)) d : EReal) := by
  unfold k0_pay6
  refine congrArg ((fun z a : EReal => z + a) (e (ValueIdx.ix2 t d))) ?_
  have hg : ∀ j : Fin 2048, (mulf h (broadcastTo S256x2048 g broadcasts_S1x2048_S256x2048) : FVec Ideal S256x2048 .f32) (ValueIdx.ix2 t j)
      = (h (ValueIdx.ix2 t j) * g (ValueIdx.ix2 (0 : Fin 1) j) : EReal) := fun j =>
    congrArg ((fun z a : EReal => z * a) (h (ValueIdx.ix2 t j))) (Rows.spread_row _ _ t j)
  have hs := (Rows.sum_row (n := 1) (divf (mulf (shapeCast S256x1 (multiReduction .add [1] S256 (mulf x (mulf h (broadcastTo S256x2048 g broadcasts_S1x2048_S256x2048)))
      0x00000000#32 reduces_S256x2048_S256 (.inl rfl) rfl) shapeCasts_S256_S256x1) (mulf (broadcast S256x1 (Scalar.ofBits (F := Ideal) .f32 0xBF000000#32))
        (divf (k0_pay4 x) (k0_pay3 x)))) (broadcast S256x1 (Scalar.ofBits (F := Ideal) .f32 0x45000000#32)))
      reduces_S256x1_S256 (.inl rfl) rfl shapeCasts_S256_S256x1 t 0).trans (Finset.sum_congr rfl fun u _ =>
    (congrArg₂ (fun a b : EReal => Ideal.div (a * (half * b)) Rows.len)
      ((Rows.sum_row _ _ _ _ _ t u).trans (Finset.sum_congr rfl fun j _ => congrArg ((fun z a : EReal => z * a) (x (ValueIdx.ix2 t j))) (hg j)))
      (congrArg₂ Ideal.div (pay_scale x t u) (pay_square x t u)) :
      _ = pull (fun j => x (ValueIdx.ix2 t j)) (fun j => h (ValueIdx.ix2 t j)) (fun j => g (ValueIdx.ix2 (0 : Fin 1) j))))
  refine congr (congrArg₂ (fun a b w : EReal => a + b + w) ?_ ?_) ?_
  · exact congrArg₂ (fun a b : EReal => a * b) (hg d) ((Rows.spread_column _ _ t d).trans (pay_scale x t 0))
  · exact congrArg ((fun z a : EReal => z * a) (x (ValueIdx.ix2 t d))) ((Rows.spread_column _ _ t d).trans hs)
  · exact congrArg (fun a : EReal => (a * x (ValueIdx.ix2 t d) : EReal)) ((Rows.spread_column _ _ t d).trans hs)

end payloads

/-- The stream's gradient as an array. -/
def stream (X : Vec Ideal S4096x2048 .f32) (g : Vec Ideal S1x2048 .f32) (H E : Vec Ideal S4096x2048 .f32) : Vec Ideal S4096x2048 .f32 := fun i =>
  (E i + dx (fun j => X (ValueIdx.ix2 (i 0) j)) (fun j => H (ValueIdx.ix2 (i 0) j)) (fun j => g (ValueIdx.ix2 (0 : Fin 1) j)) (i 1) : EReal)

/-- A row's part of the weight's gradient. -/
def summand (X H : Vec Ideal S4096x2048 .f32) (d : Fin 2048) (j : Fin 4096) : EReal :=
  X (ValueIdx.ix2 j d) * Rows.scale (fun k => X (ValueIdx.ix2 j k)) * H (ValueIdx.ix2 j d)

/-- The weight's gradient as an array. -/
def weight (X H : Vec Ideal S4096x2048 .f32) : Vec Ideal S1x2048 .f32 := fun i => (∑ j, summand X H (i 1) j : EReal)

section values
variable (m : (ℓ : Loc nD τ sig) → Buf (Elt Ideal) ℓ) (c : Dev nD)

theorem idx_in : ∀ t : Fin cfg0.N, ((cfg0.win 0).index t 0 = t.val ∧ (cfg0.win 0).index t 1 = 0)
    ∧ ((cfg0.win 1).index t 0 = 0 ∧ (cfg0.win 1).index t 1 = 0)
    ∧ ((cfg0.win 2).index t 0 = t.val ∧ (cfg0.win 2).index t 1 = 0)
    ∧ ((cfg0.win 3).index t 0 = t.val ∧ (cfg0.win 3).index t 1 = 0) := by decide +kernel

theorem idx_out : ∀ t : Fin cfg0.N, ((cfg0.win 4).index t 0 = t.val ∧ (cfg0.win 4).index t 1 = 0)
    ∧ ((cfg0.win 5).index t 0 = t.val ∧ (cfg0.win 5).index t 1 = 0)
    ∧ ((cfg0.win 6).index t 0 = 0 ∧ (cfg0.win 6).index t 1 = 0) := by decide +kernel

/-- The weight's block goes back once, after the last point. -/
theorem last_flush : ∀ t : Fin cfg0.N, (cfg0.win 6).flush t = true → t.val = 15 := by decide +kernel

section rows
variable (t : Fin cfg0.N) (r : Fin 256) (i : Fin 4096) (hi : i.val = t.val * 256 + r.val) (d : Fin 2048)
include hi

/-- A row of a block is a row of its array. -/
theorem x_at : iblk m c 0 t (ValueIdx.ix2 r d) = m ((c : Thread nD τ).loc main_arg0) (ValueIdx.ix2 i d) := by
  refine congrArg (m ((c : Thread nD τ).loc main_arg0)) (Shape.idx_ext₂ ?_ ?_)
  · blk_simp [(idx_in t).1.1]; show t.val * 256 + r.val = i.val; omega
  · blk_simp [(idx_in t).1.2]

theorem h_at : iblk m c 2 t (ValueIdx.ix2 r d) = m ((c : Thread nD τ).loc main_arg2) (ValueIdx.ix2 i d) := by
  refine congrArg (m ((c : Thread nD τ).loc main_arg2)) (Shape.idx_ext₂ ?_ ?_)
  · blk_simp [(idx_in t).2.2.1.1]; show t.val * 256 + r.val = i.val; omega
  · blk_simp [(idx_in t).2.2.1.2]

theorem e_at : iblk m c 3 t (ValueIdx.ix2 r d) = m ((c : Thread nD τ).loc main_arg3) (ValueIdx.ix2 i d) := by
  refine congrArg (m ((c : Thread nD τ).loc main_arg3)) (Shape.idx_ext₂ ?_ ?_)
  · blk_simp [(idx_in t).2.2.2.1]; show t.val * 256 + r.val = i.val; omega
  · blk_simp [(idx_in t).2.2.2.2]

end rows

theorem g_at (t : Fin cfg0.N) (d : Fin 2048) :
    iblk m c 1 t (ValueIdx.ix2 (0 : Fin 1) d) = m ((c : Thread nD τ).loc main_arg1) (ValueIdx.ix2 (0 : Fin 1) d) := by
  refine congrArg (m ((c : Thread nD τ).loc main_arg1)) (Shape.idx_ext₂ ?_ ?_)
  · blk_simp [(idx_in t).2.1.1]
  · blk_simp [(idx_in t).2.1.2]

/-- A point's part of the stream's gradient. -/
theorem part (t : Fin cfg0.N) (y : S256x2048.Idx) (i : S4096x2048.Idx) (h0 : (i 0).val = t.val * 256 + (y 0).val) (h1 : (i 1).val = (y 1).val) :
    k0_pay6 (F := Ideal) (iblk m c 0 t) (iblk m c 1 t) (iblk m c 2 t) (iblk m c 3 t) y = stream (m ((c : Thread nD τ).loc main_arg0))
      (m ((c : Thread nD τ).loc main_arg1)) (m ((c : Thread nD τ).loc main_arg2)) (m ((c : Thread nD τ).loc main_arg3)) i := by
  obtain ⟨a, b, rfl⟩ : ∃ (a : Fin 256) (b : Fin 2048), y = ValueIdx.ix2 a b := ⟨y 0, y 1, Shape.idx_ext₂ rfl rfl⟩
  obtain ⟨p, q, rfl⟩ : ∃ (p : Fin 4096) (q : Fin 2048), i = ValueIdx.ix2 p q := ⟨i 0, i 1, Shape.idx_ext₂ rfl rfl⟩
  obtain rfl : q = b := Fin.ext h1
  refine (pay_dx _ _ _ _ _ _).trans ?_
  have hx := funext fun j => x_at m c t a p h0 j
  have hh := funext fun j => h_at m c t a p h0 j
  have hg := funext fun j => g_at m c t j
  exact congrArg₂ (fun z w : EReal => z + w) (e_at m c t a p h0 q) (congrFun (congr (congrArg₂ dx hx hh) hg) q)

theorem arr_x : (dats m 0 c).arrAt 4 cfg0.N = stream (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  blk_simp
  rw [after0_4, out_x]
  refine part m c t _ _ ?_ ?_
  · blk_simp [show win0_4.index t 0 = _ from (idx_out t).1.1]
  · blk_simp [show win0_4.index t 1 = _ from (idx_out t).1.2]

theorem arr_xb : (dats m 0 c).arrAt 5 cfg0.N = stream (m ((c : Thread nD τ).loc main_arg0)) (m ((c : Thread nD τ).loc main_arg1))
    (m ((c : Thread nD τ).loc main_arg2)) (m ((c : Thread nD τ).loc main_arg3)) := by
  refine (dats m 0 c).arrAt_eq_of_covers 5 _ (by decide +kernel) fun t hf y => ?_
  blk_simp
  rw [after0_5, out_xb]
  refine part m c t _ _ ?_ ?_
  · blk_simp [show win0_5.index t 0 = _ from (idx_out t).2.1.1]
  · blk_simp [show win0_5.index t 1 = _ from (idx_out t).2.1.2]

/-- A point's part of the weight's gradient is a tile of the sum over the rows. -/
theorem tile (t : Fin cfg0.N) (u : Fin 1) (d : Fin 2048) : k0_pay5 (F := Ideal) (iblk m c 0 t) (iblk m c 2 t) (ValueIdx.ix2 u d)
    = Product.tile (summand (m ((c : Thread nD τ).loc main_arg0)) (m ((c : Thread nD τ).loc main_arg2)) d) 256 t.val := by
  have ht : t.val < 16 := lt_of_lt_of_eq t.isLt N_0
  refine (pay_dg _ _ u d).trans ?_
  refine Product.tile_of_places _ _ _ (by omega) fun k => ?_
  have hp : 256 * t.val + k.val = t.val * 256 + k.val := by omega
  have hx : (fun j => iblk m c 0 t (ValueIdx.ix2 k j)) = _ := funext fun j => x_at m c t k ⟨256 * t.val + k.val, by omega⟩ hp j
  exact congr (congrArg₂ (fun a b w : EReal => a * b * w) (congrFun hx d) (congrArg Rows.scale hx)) (h_at m c t k ⟨256 * t.val + k.val, by omega⟩ hp d)

/-- What the weight's buffer holds after a point: the sum over the rows so far. -/
theorem sums (u : Fin 1) (d : Fin 2048) : ∀ j h, j < 16 → (outsAt0 m c (0 + j) h).2.2 (ValueIdx.ix2 u d)
    = ∑ s ∈ Finset.range (j + 1), Product.tile (summand (m ((c : Thread nD τ).loc main_arg0)) (m ((c : Thread nD τ).loc main_arg2)) d) 256 s := by
  refine Product.total (fun n h => (outsAt0 m c n h).2.2 (ValueIdx.ix2 u d)) _ 0 16 (fun h => ?_) (fun j h h' hj => ?_)
  · refine (congrFun (out_g_first m c ⟨0, h⟩ rfl) _).trans ?_
    unfold k0_pay2 k0_pay1
    refine (congrArg₂ (fun a b : EReal => a + b) ((congrFun (shapeCast_self _ _) _).trans Ideal.ofBits_zero_f32) (tile m c ⟨0, h⟩ u d)).trans ?_
    exact zero_add _
  · have e : (⟨0 + (j + 1), h⟩ : Fin cfg0.N).val - 1 = 0 + j := by show 0 + (j + 1) - 1 = 0 + j; omega
    refine (congrFun (out_g_next m c ⟨0 + (j + 1), h⟩ (by show ¬(0 + (j + 1)) % 16 = 0; omega)) _).trans ?_
    unfold k0_pay2
    refine congrArg₂ (fun a b : EReal => a + b) (congrFun (shapeCast_self _ _) _) ((tile m c ⟨0 + (j + 1), h⟩ u d).trans ?_)
    exact congrArg _ (Nat.zero_add _)

theorem arr_g : (dats m 0 c).arrAt 6 cfg0.N = weight (m ((c : Thread nD τ).loc main_arg0)) (m ((c : Thread nD τ).loc main_arg2)) := by
  refine (dats m 0 c).arrAt_eq_of_covers 6 _ (by decide +kernel) fun t hf y => ?_
  have key : ∀ (n : ℕ) (hn : n < cfg0.N), n = 15 → ∀ y i : S1x2048.Idx, i 1 = y 1 → (outsAt0 m c n hn).2.2 y
      = weight (m ((c : Thread nD τ).loc main_arg0)) (m ((c : Thread nD τ).loc main_arg2)) i := by
    rintro n hn rfl y i hi
    obtain ⟨u, d, rfl⟩ : ∃ (u : Fin 1) (d : Fin 2048), y = ValueIdx.ix2 u d := ⟨y 0, y 1, Shape.idx_ext₂ rfl rfl⟩
    refine (sums m c u d 15 hn (by omega)).trans ((Product.sum_all _ 256 16 rfl).trans ?_)
    unfold weight
    rw [hi]
  blk_simp
  rw [after0_6]
  refine key t.val t.isLt (last_flush t hf) y _ (Fin.ext ?_)
  blk_simp [show win0_6.index t 1 = _ from (idx_out t).2.2.2]

end values

/-! ## The reference -/

section reference
open Reference14Ideal.Gen (bcast_S4096_S4096x1_0 bcast_S_S4096x1 bcast_S1x2048_S4096x2048_0_1 bcast_S2048_S1x2048_1 bcast_S4096x1_S4096x2048_0_1
  bcast_S4096_S4096x2048_0 reducesTo_S4096x2048_S4096_d1 reducesTo_S4096x1_S4096_d1 reducesTo_S4096x2048_S2048_d0 reducesTo_S1x2048_S2048_d0
  shapeCasts_S1x2048_S2048 shapeCasts_S4096_S4096x1 h_S_)

variable (X H E : FVec Ideal Reference14Ideal.S4096x2048 .f32) (g : FVec Ideal Reference14Ideal.S1x2048 .f32) (t : Fin 4096)

/-- The rows' mean squares as the reference computes them. -/
def hostSquare : FVec Ideal Reference14Ideal.S4096x1 .f32 :=
  addf (Host.divf (broadcastInDim Reference14Ideal.S4096x1 ![0] bcast_S4096_S4096x1_0 (Host.reduceAdd (mulf X X) (constant Reference14Ideal.S_ .f32 0x00000000#32)
      reducesTo_S4096x2048_S4096_d1 h_S_)) (broadcastInDim Reference14Ideal.S4096x1 ![] bcast_S_S4096x1 (constant Reference14Ideal.S_ .f32 0x45000000#32)))
    (broadcastInDim Reference14Ideal.S4096x1 ![] bcast_S_S4096x1 (constant Reference14Ideal.S_ .f32 0x358637BD#32))

/-- The cotangent times the weight. -/
def hostWeighted : FVec Ideal Reference14Ideal.S4096x2048 .f32 :=
  mulf H (broadcastInDim Reference14Ideal.S4096x2048 ![0, 1] bcast_S1x2048_S4096x2048_0_1 (broadcastInDim Reference14Ideal.S1x2048 ![1] bcast_S2048_S1x2048_1
    (shapeCast Reference14Ideal.S2048 g shapeCasts_S1x2048_S2048)))

/-- What reaches the rows' mean squares. -/
def hostSlope : FVec Ideal Reference14Ideal.S4096 .f32 :=
  Host.reduceAdd (Host.divf (mulf (shapeCast Reference14Ideal.S4096x1 (Host.reduceAdd (mulf X (hostWeighted H g)) (constant Reference14Ideal.S_ .f32 0x00000000#32)
      reducesTo_S4096x2048_S4096_d1 h_S_) shapeCasts_S4096_S4096x1) (mulf (broadcastInDim Reference14Ideal.S4096x1 ![] bcast_S_S4096x1 (constant Reference14Ideal.S_ .f32 0xBF000000#32))
      (Host.divf (Host.rsqrt (hostSquare X)) (hostSquare X)))) (broadcastInDim Reference14Ideal.S4096x1 ![] bcast_S_S4096x1 (constant Reference14Ideal.S_ .f32 0x45000000#32)))
    (constant Reference14Ideal.S_ .f32 0x00000000#32) reducesTo_S4096x1_S4096_d1 h_S_

/-- The stream's gradient as the reference computes it. -/
def hostStream : FVec Ideal Reference14Ideal.S4096x2048 .f32 :=
  addf E (addf (addf (mulf (hostWeighted H g) (broadcastInDim Reference14Ideal.S4096x2048 ![0, 1] bcast_S4096x1_S4096x2048_0_1 (Host.rsqrt (hostSquare X))))
    (mulf X (broadcastInDim Reference14Ideal.S4096x2048 ![0] bcast_S4096_S4096x2048_0 (hostSlope X H g))))
    (mulf (broadcastInDim Reference14Ideal.S4096x2048 ![0] bcast_S4096_S4096x2048_0 (hostSlope X H g)) X))

/-- The weight's gradient as the reference computes it. -/
def hostWeight : FVec Ideal Reference14Ideal.S1x2048 .f32 :=
  broadcastInDim Reference14Ideal.S1x2048 ![1] bcast_S2048_S1x2048_1 (Host.reduceAdd (shapeCast Reference14Ideal.S1x2048 (Host.reduceAdd (mulf (mulf X
    (broadcastInDim Reference14Ideal.S4096x2048 ![0, 1] bcast_S4096x1_S4096x2048_0_1 (Host.rsqrt (hostSquare X)))) H) (constant Reference14Ideal.S_ .f32 0x00000000#32)
    reducesTo_S4096x2048_S2048_d0 h_S_) Reference14Ideal.Gen.shapeCasts_S2048_S1x2048) (constant Reference14Ideal.S_ .f32 0x00000000#32) reducesTo_S1x2048_S2048_d0 h_S_)

theorem square_apply (u : Fin 1) : hostSquare X (ValueIdx.ix2 t u) = Rows.square fun j => X (ValueIdx.ix2 t j) := Rows.host_square X _ _ _ _ t u

theorem weighted_apply (d : Fin 2048) : hostWeighted H g (ValueIdx.ix2 t d) = (H (ValueIdx.ix2 t d) * g (ValueIdx.ix2 (0 : Fin 1) d) : EReal) :=
  congrArg ((fun z a : EReal => z * a) (H (ValueIdx.ix2 t d))) (Rows.host_spread_row g _ _ _ t d)

theorem slope_apply : hostSlope X H g (ValueIdx.ix1 t)
    = slope (fun j => X (ValueIdx.ix2 t j)) (fun j => H (ValueIdx.ix2 t j)) (fun j => g (ValueIdx.ix2 (0 : Fin 1) j)) := by
  refine (Rows.host_sum_one _ _ _ t).trans (Finset.sum_congr rfl fun u _ => ?_)
  refine congrArg₂ Ideal.div ?_ (ValueIdx.broadcastInDim_scalar_apply _ _ _)
  refine congrArg₂ (fun a b : EReal => a * b) ?_ (congrArg₂ (fun a b : EReal => a * b) (ValueIdx.broadcastInDim_scalar_apply _ _ _)
    (congrArg₂ Ideal.div (congrArg Ideal.rsqrt (square_apply X t u)) (square_apply X t u)))
  refine (Rows.host_cast_column _ _ t u).trans ((Rows.host_sum_row _ _ _ t).trans (Finset.sum_congr rfl fun j _ => ?_))
  exact congrArg ((fun z a : EReal => z * a) (X (ValueIdx.ix2 t j))) (weighted_apply H g t j)

theorem stream_eq : hostStream X H E g = stream X g H E := by
  funext i
  obtain ⟨t, d, rfl⟩ : ∃ (t : Fin 4096) (d : Fin 2048), i = ValueIdx.ix2 t d := ⟨i 0, i 1, Shape.idx_ext₂ rfl rfl⟩
  have hs := (Rows.host_spread _ bcast_S4096_S4096x2048_0 t d).trans (slope_apply X H g t)
  refine congrArg ((fun z a : EReal => z + a) (E (ValueIdx.ix2 t d))) ?_
  refine congr (congrArg₂ (fun a b w : EReal => a + b + w) ?_ ?_) ?_
  · exact congrArg₂ (fun a b : EReal => a * b) (weighted_apply H g t d)
      ((Rows.host_spread_column _ _ t d).trans (congrArg Ideal.rsqrt (square_apply X t 0)))
  · exact congrArg ((fun z a : EReal => z * a) (X (ValueIdx.ix2 t d))) hs
  · exact congrArg (fun a : EReal => (a * X (ValueIdx.ix2 t d) : EReal)) hs

theorem weight_eq : hostWeight X H = weight X H := by
  funext i
  obtain ⟨u, d, rfl⟩ : ∃ (u : Fin 1) (d : Fin 2048), i = ValueIdx.ix2 u d := ⟨i 0, i 1, Shape.idx_ext₂ rfl rfl⟩
  refine (Rows.host_row _ _ u d).trans ((Rows.host_sum_first _ _ _ d).trans ((Fin.sum_univ_one _).trans ((Rows.host_cast_row _ _ 0 d).trans
    ((Rows.host_sum_column _ _ _ d).trans (Finset.sum_congr rfl fun j _ => ?_)))))
  exact congrArg (fun a : EReal => (X (ValueIdx.ix2 j d) * a * H (ValueIdx.ix2 j d) : EReal))
    ((Rows.host_spread_column _ _ j d).trans (congrArg Ideal.rsqrt (square_apply X j 0)))

end reference

theorem quiescent_ideal : Cert.quiescent_Kernel14Ideal := fun m ρ _ => Cert.Kernel14Ideal.Gen.frame m ρ

theorem bodies_eq {F : FTy → Type} [FloatOps F] : (Kernel14.defs₀ (F := F)) = (Kernel14Ideal.defs₀ (F := F)) := by
  unfold Kernel14.defs₀ Kernel14Ideal.defs₀
  congr 1
  funext l a
  fin_cases l
  rfl

theorem defs_eq {F : FTy → Type} [FloatOps F] : (Kernel14.defs (F := F)) = (Kernel14Ideal.defs (F := F)) := by
  show Pipeline.defs _ Kernel14.defs₀ = Pipeline.defs _ Kernel14Ideal.defs₀
  rw [bodies_eq]
  rfl

theorem quiescent : Cert.quiescent_Kernel14 := by
  intro m ρ _
  show θ_run Kernel14.defs _ _ _
  rw [defs_eq]
  exact Cert.Kernel14Ideal.Gen.frame (F := Bits) m ρ

theorem quiescent_reference : Cert.quiescent_Reference14Ideal := fun m ρ _ =>
  (θ_run _ _ _).mono (fun r h => ⟨fun c => (h c).2.2.2, sem_eq_zero_of_no_sems (by decide) r.2⟩) (Cert.Reference14Ideal.Value.run (F := Ideal) m ρ)

theorem algebraic : Cert.algebraic_Kernel14Ideal_Reference14Ideal := by
  intro m g m' g' _ hsame
  refine ⟨fun c => stream (m ((c.tc : Thread nD τ).loc main_arg0)) (m ((c.tc : Thread nD τ).loc main_arg1)) (m ((c.tc : Thread nD τ).loc main_arg2))
      (m ((c.tc : Thread nD τ).loc main_arg3)),
    fun c => stream (m ((c.tc : Thread nD τ).loc main_arg0)) (m ((c.tc : Thread nD τ).loc main_arg1)) (m ((c.tc : Thread nD τ).loc main_arg2))
      (m ((c.tc : Thread nD τ).loc main_arg3)),
    fun c => weight (m ((c.tc : Thread nD τ).loc main_arg0)) (m ((c.tc : Thread nD τ).loc main_arg2)), ?_, ?_⟩
  · exact (θ_run _ _ _).mono (fun r h c => ⟨(h c).1.trans (arr_x m c), (h c).2.1.trans (arr_xb m c), (h c).2.2.1.trans (arr_g m c), (h c).2.2.2⟩)
      (Value.run_blocks m g)
  · refine (θ_run _ _ _).mono (fun r h c => ⟨(h c).1.trans ?_, (h c).2.1.trans ?_, (h c).2.2.1.trans ?_, (h c).2.2.2⟩)
      (Cert.Reference14Ideal.Value.run (F := Ideal) m' g')
    · exact (stream_eq _ _ _ _).trans (congr (congr (congrArg₂ stream (hsame c).1 (hsame c).2.1) (hsame c).2.2.1) (hsame c).2.2.2)
    · exact (stream_eq _ _ _ _).trans (congr (congr (congrArg₂ stream (hsame c).1 (hsame c).2.1) (hsame c).2.2.1) (hsame c).2.2.2)
    · exact (weight_eq _ _).trans (congrArg₂ weight (hsame c).1 (hsame c).2.2.1)

end Cert.Proof.NormBwd

end
-- ==== Proof.Plain.lean ====
/-
  A plain product of two matrices, rows by columns, read at an index.
-/
module

public import proofs.«01_k».proof.Proof.Product

@[expose] public section

noncomputable section

namespace Cert.Proof.Product

open Idealize.ShloMosaic
open Idealize.ShloMosaic.ValueIdx (contrEquiv1 contrEquiv1_symm_val)

theorem nn_lhs {M K N : ℕ} (r : Fin M) (c : Fin N) (k : Fin K) :
    (DotDims.plain M K N).lhsIdx (ValueIdx.ix2 r c) ((DotDims.plainContr M K N).symm k) = ValueIdx.ix2 r k := by
  have hk := contrEquiv1_symm_val (DotDims.plain M K N) K rfl rfl k
  funext a; apply Fin.ext
  match a with
  | ⟨0, _⟩ => rfl
  | ⟨1, _⟩ => exact hk

theorem nn_rhs {M K N : ℕ} (r : Fin M) (c : Fin N) (k : Fin K) :
    (DotDims.plain M K N).rhsIdx (ValueIdx.ix2 r c) ((DotDims.plainContr M K N).symm k) = ValueIdx.ix2 k c := by
  have hk := contrEquiv1_symm_val (DotDims.plain M K N) K rfl rfl k
  funext a; apply Fin.ext
  match a with
  | ⟨0, _⟩ => exact hk
  | ⟨1, _⟩ => rfl

section at_index

variable {K M N : ℕ} {φ₁ φ₂ : FTy}

/-- A tile's product, rows by columns, from a zero accumulator. -/
theorem matmul_nn (prec : Option ContractPrecision) (l : FVec Ideal ⟨2, ![M, K]⟩ φ₁) (r : FVec Ideal ⟨2, ![K, N]⟩ φ₂) (i : Fin M) (j : Fin N) :
    FloatOps.matmul (DotDims.plain M K N) prec l r (constant ⟨2, ![M, N]⟩ .f32 0x00000000#32) (ValueIdx.ix2 i j)
      = ∑ k : Fin K, (l (ValueIdx.ix2 i k) * r (ValueIdx.ix2 k j) : EReal) := by
  rw [Ideal.matmul_constant_zero_apply, ← Equiv.sum_comp (DotDims.plainContr M K N).symm]
  exact Finset.sum_congr rfl fun k _ => by rw [nn_lhs, nn_rhs]

/-- A host product, rows by columns. -/
theorem dot_nn (prec : Option ContractPrecision) (l : FVec Ideal ⟨2, ![M, K]⟩ φ₁) (r : FVec Ideal ⟨2, ![K, N]⟩ φ₂) (i : Fin M) (j : Fin N) :
    Host.dotGeneral (DotDims.plain M K N) prec l r (ValueIdx.ix2 i j) = ∑ k : Fin K, (l (ValueIdx.ix2 i k) * r (ValueIdx.ix2 k j) : EReal) := by
  unfold Host.dotGeneral
  rw [Ideal.dotGeneral_apply, ← Equiv.sum_comp (DotDims.plainContr M K N).symm]
  exact Finset.sum_congr rfl fun k _ => by rw [nn_lhs, nn_rhs]

end at_index

end Cert.Proof.Product

end
-- ==== Proof.Gate.lean ====
/-
  The feed-forward gate before its activation, a = h · Wg: what each point of the kernel leaves, and
  the array it ends with.
-/
module

public import proofs.«01_k».proof.Defs
public import proofs.«01_k».proof.Proof.Plain
public import proofs.«01_k».proof.Proof.Gen.Kernel15Ideal.Value
public import proofs.«01_k».proof.Proof.Gen.Reference15Ideal.Run
public import proofs.«01_k».proof.Proof.Gen.Kernel15
public import proofs.«01_k».proof.Proof.Gen.Kernel15Ideal
public import proofs.«01_k».proof.Proof.Gen.Reference15Ideal

@[expose] public section

noncomputable section

namespace Cert.Proof.Gate

open Cert.Kernel15Ideal Cert.Kernel15Ideal.Gen Idealize.ShloMosaic Idealize.ShloMosaic.TcCoe Idealize.SL.Sem

/-- What the body leaves in the output's buffer. -/
theorem out {F : FTy → Type} [FloatOps F] (x0 : Vec F S1024x2048 .bf16) (x1 : Vec F S2048x512 .bf16) : out0_2 x0 x1 = k0_pay1 x0 x1 := by
  unfold out0_2
  refine (View.canon_unit_zero Product.off_zero _ _).trans ?_
  exact congrArg₂ k0_pay1 (View.ld_unit_zero Product.off_zero _ _) (View.ld_unit_zero Product.off_zero _ _)

/-- The product. -/
def prod (A : Vec Ideal S4096x2048 .bf16) (B : Vec Ideal S2048x5632 .bf16) : Vec Ideal S4096x5632 .bf16 :=
  fun i => (∑ k : Fin 2048, A (ValueIdx.ix2 (i 0) k) * B (ValueIdx.ix2 k (i 1)) : EReal)

section values
variable (m : (ℓ : Loc nD τ sig) → Buf (Elt Ideal) ℓ) (c : Dev nD)

theorem idx_in : ∀ t : Fin cfg0.N, ((cfg0.win 0).index t 0 = t.val / 11 ∧ (cfg0.win 0).index t 1 = 0)
    ∧ ((cfg0.win 1).index t 0 = 0 ∧ (cfg0.win 1).index t 1 = t.val % 11)
    ∧ ((cfg0.win 2).index t 0 = t.val / 11 ∧ (cfg0.win 2).index t 1 = t.val % 11) := by decide +kernel

/-- A point's product, at a place of its block, is the whole product there. -/
theorem product_at (t : Fin cfg0.N) (y : S1024x512.Idx) (i : S4096x5632.Idx) (h0 : (i 0).val = t.val / 11 * 1024 + (y 0).val)
    (h1 : (i 1).val = t.val % 11 * 512 + (y 1).val) :
    k0_pay1 (F := Ideal) (iblk m c 0 t) (iblk m c 1 t) y = prod (m ((c : Thread nD τ).loc main_arg0)) (m ((c : Thread nD τ).loc main_arg1)) i := by
  rw [show y = ValueIdx.ix2 (y 0) (y 1) from Shape.idx_ext₂ rfl rfl]
  refine (Product.matmul_nn (φ₁ := .bf16) (φ₂ := .bf16) none _ _ _ _).trans ?_
  refine Finset.sum_congr rfl fun k _ => congrArg₂ (· * ·) ?_ ?_
  · refine congrArg (m ((c : Thread nD τ).loc main_arg0)) (Shape.idx_ext₂ ?_ ?_)
    · blk_simp [(idx_in t).1.1]; show t.val / 11 * 1024 + (y 0).val = (i 0).val; omega
    · blk_simp [(idx_in t).1.2]
  · refine congrArg (m ((c : Thread nD τ).loc main_arg1)) (Shape.idx_ext₂ ?_ ?_)
    · blk_simp [(idx_in t).2.1.1]
    · blk_simp [(idx_in t).2.1.2]; show t.val % 11 * 512 + (y 1).val = (i 1).val; omega

/-- The array the kernel ends with. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out]
  refine (product_at m c t _ _ ?_ ?_)
  · blk_simp [show win0_2.index t 0 = _ from (idx_in t).2.2.1]
  · blk_simp [show win0_2.index t 1 = _ from (idx_in t).2.2.2]

end values

/-- What the reference computes. -/
theorem reference (A : Vec Ideal S4096x2048 .bf16) (B : Vec Ideal S2048x5632 .bf16) (h : FTy.bits .bf16 < FTy.bits .f32) :
    truncf .bf16 (Host.dotGeneral Reference15Ideal.dot_S4096x2048_S2048x5632_S4096x5632_1_0_0_1_n_n none
      (extf .f32 A h : FVec Ideal S4096x2048 .f32) (extf .f32 B h : FVec Ideal S2048x5632 .f32)) h = prod A B := by
  funext i
  rw [show i = ValueIdx.ix2 (i 0) (i 1) from Shape.idx_ext₂ rfl rfl]
  exact Product.dot_nn none (extf .f32 A h : FVec Ideal S4096x2048 .f32) (extf .f32 B h : FVec Ideal S2048x5632 .f32) (i 0) (i 1)

theorem quiescent_ideal : Cert.quiescent_Kernel15Ideal := fun m ρ _ => Cert.Kernel15Ideal.Gen.frame m ρ

theorem bodies_eq {F : FTy → Type} [FloatOps F] : (Kernel15.defs₀ (F := F)) = (Kernel15Ideal.defs₀ (F := F)) := by
  unfold Kernel15.defs₀ Kernel15Ideal.defs₀
  congr 1
  funext l a
  fin_cases l
  rfl

theorem defs_eq {F : FTy → Type} [FloatOps F] : (Kernel15.defs (F := F)) = (Kernel15Ideal.defs (F := F)) := by
  show Pipeline.defs _ Kernel15.defs₀ = Pipeline.defs _ Kernel15Ideal.defs₀
  rw [bodies_eq]
  rfl

theorem quiescent : Cert.quiescent_Kernel15 := by
  intro m ρ _
  show θ_run Kernel15.defs _ _ _
  rw [defs_eq]
  exact Cert.Kernel15Ideal.Gen.frame (F := Bits) m ρ

theorem quiescent_reference : Cert.quiescent_Reference15Ideal := fun m ρ _ =>
  (θ_run _ _ _).mono (fun r h => ⟨fun c => (h c).2, sem_eq_zero_of_no_sems (by decide) r.2⟩) (Cert.Reference15Ideal.Value.run (F := Ideal) m ρ)

theorem algebraic : Cert.algebraic_Kernel15Ideal_Reference15Ideal := by
  intro m g m' g' _ hsame
  refine ⟨fun c => prod (m ((c.tc : Thread nD τ).loc main_arg0)) (m ((c.tc : Thread nD τ).loc main_arg1)), ?_, ?_⟩
  · exact (θ_run _ _ _).mono (fun r h c => ⟨(h c).1.trans (arr m c), (h c).2⟩) (Value.run_blocks m g)
  · refine (θ_run _ _ _).mono (fun r h c => ⟨((h c).1.trans (reference _ _ _)).trans ?_, (h c).2⟩) (Cert.Reference15Ideal.Value.run (F := Ideal) m' g')
    rw [(hsame c).1, (hsame c).2]

end Cert.Proof.Gate

end
-- ==== Proof.Up.lean ====
/-
  The other factor b = h · Wu of the feed-forward gate, and the gated activation silu(a) · b: what each point of
  the kernel leaves, and the two arrays it ends with.
-/
module

public import proofs.«01_k».proof.Defs
public import Idealize.ShloMosaic.Lib.IdealHost
public import proofs.«01_k».proof.Proof.Head
public import proofs.«01_k».proof.Proof.Plain
public import proofs.«01_k».proof.Proof.Gen.Kernel16Ideal.Value
public import proofs.«01_k».proof.Proof.Gen.Reference16Ideal.Run
public import proofs.«01_k».proof.Proof.Gen.Kernel16
public import proofs.«01_k».proof.Proof.Gen.Kernel16Ideal
public import proofs.«01_k».proof.Proof.Gen.Reference16Ideal

@[expose] public section

noncomputable section

namespace Cert.Proof.Up

open Cert.Kernel16Ideal Cert.Kernel16Ideal.Gen Idealize.ShloMosaic Idealize.ShloMosaic.TcCoe Idealize.SL.Sem

section points
variable {F : FTy → Type} [FloatOps F] (x0 : Vec F S1024x2048 .bf16) (x1 : Vec F S2048x512 .bf16) (x2 : Vec F S1024x512 .bf16)

/-- What the body leaves in the first output's buffer. -/
theorem out_b : out0_3 x0 x1 x2 = k0_pay2 x0 x1 := by
  unfold out0_3
  refine (View.canon_unit_zero Product.off_zero _ _).trans ?_
  exact congrArg₂ k0_pay2 (View.ld_unit_zero Product.off_zero _ _) (View.ld_unit_zero Product.off_zero _ _)

/-- What the body leaves in the second output's buffer. -/
theorem out_act : out0_4 x0 x1 x2 = k0_pay3 x0 x1 x2 := by
  unfold out0_4
  refine (View.canon_unit_zero Product.off_zero _ _).trans ?_
  exact congr (congrArg₂ k0_pay3 (View.ld_unit_zero Product.off_zero _ _) (View.ld_unit_zero Product.off_zero _ _)) (View.ld_unit_zero Product.off_zero _ _)

end points

/-- The product. -/
def prod (A : Vec Ideal S4096x2048 .bf16) (B : Vec Ideal S2048x5632 .bf16) : Vec Ideal S4096x5632 .bf16 :=
  fun i => (∑ k : Fin 2048, A (ValueIdx.ix2 (i 0) k) * B (ValueIdx.ix2 k (i 1)) : EReal)

/-- The gated activation silu(x) · (A · B). -/
def acts (A : Vec Ideal S4096x2048 .bf16) (B : Vec Ideal S2048x5632 .bf16) (X : Vec Ideal S4096x5632 .bf16) : Vec Ideal S4096x5632 .bf16 :=
  fun i => (X i * Ideal.logistic (X i) * prod A B i : EReal)

theorem ofBits_one' : (Scalar.ofBits (F := Ideal) .f32 0x3F800000#32 : EReal) = 1 := Head.ofBits_one.trans EReal.coe_one

section values
variable (m : (ℓ : Loc nD τ sig) → Buf (Elt Ideal) ℓ) (c : Dev nD)

theorem idx_in : ∀ t : Fin cfg0.N, ((cfg0.win 0).index t 0 = t.val / 11 ∧ (cfg0.win 0).index t 1 = 0)
    ∧ ((cfg0.win 1).index t 0 = 0 ∧ (cfg0.win 1).index t 1 = t.val % 11)
    ∧ ((cfg0.win 2).index t 0 = t.val / 11 ∧ (cfg0.win 2).index t 1 = t.val % 11)
    ∧ ((cfg0.win 3).index t 0 = t.val / 11 ∧ (cfg0.win 3).index t 1 = t.val % 11)
    ∧ ((cfg0.win 4).index t 0 = t.val / 11 ∧ (cfg0.win 4).index t 1 = t.val % 11) := by decide +kernel

/-- A point's product, at a place of its block, is the whole product there. -/
theorem product_at (t : Fin cfg0.N) (y : S1024x512.Idx) (i : S4096x5632.Idx) (h0 : (i 0).val = t.val / 11 * 1024 + (y 0).val)
    (h1 : (i 1).val = t.val % 11 * 512 + (y 1).val) :
    k0_pay1 (F := Ideal) (iblk m c 0 t) (iblk m c 1 t) y = prod (m ((c : Thread nD τ).loc main_arg0)) (m ((c : Thread nD τ).loc main_arg1)) i := by
  rw [show y = ValueIdx.ix2 (y 0) (y 1) from Shape.idx_ext₂ rfl rfl]
  refine (Product.matmul_nn (φ₁ := .bf16) (φ₂ := .bf16) none _ _ _ _).trans ?_
  refine Finset.sum_congr rfl fun k _ => congrArg₂ (· * ·) ?_ ?_
  · refine congrArg (m ((c : Thread nD τ).loc main_arg0)) (Shape.idx_ext₂ ?_ ?_)
    · blk_simp [(idx_in t).1.1]; show t.val / 11 * 1024 + (y 0).val = (i 0).val; omega
    · blk_simp [(idx_in t).1.2]
  · refine congrArg (m ((c : Thread nD τ).loc main_arg1)) (Shape.idx_ext₂ ?_ ?_)
    · blk_simp [(idx_in t).2.1.1]
    · blk_simp [(idx_in t).2.1.2]; show t.val % 11 * 512 + (y 1).val = (i 1).val; omega

/-- The block of the gate, at a place of it. -/
theorem gate_at (t : Fin cfg0.N) (y : S1024x512.Idx) (i : S4096x5632.Idx) (h0 : (i 0).val = t.val / 11 * 1024 + (y 0).val)
    (h1 : (i 1).val = t.val % 11 * 512 + (y 1).val) : iblk m c 2 t y = m ((c : Thread nD τ).loc main_arg2) i := by
  refine congrArg (m ((c : Thread nD τ).loc main_arg2)) (Shape.idx_ext₂ ?_ ?_)
  · blk_simp [(idx_in t).2.2.1.1]; show t.val / 11 * 1024 + (y 0).val = (i 0).val; omega
  · blk_simp [(idx_in t).2.2.1.2]; show t.val % 11 * 512 + (y 1).val = (i 1).val; omega

theorem pay_act (x0 : Vec Ideal S1024x2048 .bf16) (x1 : Vec Ideal S2048x512 .bf16) (x2 : Vec Ideal S1024x512 .bf16) (y : S1024x512.Idx) :
    k0_pay3 (F := Ideal) x0 x1 x2 y = (x2 y * Ideal.logistic (x2 y) * k0_pay1 (F := Ideal) x0 x1 y : EReal) := rfl

/-- A point's part of the gated activation. -/
theorem part_act (t : Fin cfg0.N) (y : S1024x512.Idx) (i : S4096x5632.Idx) (h0 : (i 0).val = t.val / 11 * 1024 + (y 0).val)
    (h1 : (i 1).val = t.val % 11 * 512 + (y 1).val) : k0_pay3 (F := Ideal) (iblk m c 0 t) (iblk m c 1 t) (iblk m c 2 t) y
      = acts (m ((c : Thread nD τ).loc main_arg0)) (m ((c : Thread nD τ).loc main_arg1)) (m ((c : Thread nD τ).loc main_arg2)) i := by
  refine (pay_act _ _ _ _).trans ?_
  rw [product_at m c t y i h0 h1, gate_at m c t y i h0 h1]
  rfl

/-- The first array the kernel ends with. -/
theorem arr_b : (dats m 0 c).arrAt 3 cfg0.N = prod (m ((c : Thread nD τ).loc main_arg0)) (m ((c : Thread nD τ).loc main_arg1)) := by
  refine (dats m 0 c).arrAt_eq_of_covers 3 _ (by decide +kernel) fun t hf y => ?_
  blk_simp
  rw [after0_3, out_b]
  refine (product_at m c t _ _ ?_ ?_)
  · blk_simp [show win0_3.index t 0 = _ from (idx_in t).2.2.2.1.1]
  · blk_simp [show win0_3.index t 1 = _ from (idx_in t).2.2.2.1.2]

/-- The second array the kernel ends with. -/
theorem arr_act : (dats m 0 c).arrAt 4 cfg0.N = acts (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, out_act]
  refine (part_act m c t _ _ ?_ ?_)
  · blk_simp [show win0_4.index t 0 = _ from (idx_in t).2.2.2.2.1]
  · blk_simp [show win0_4.index t 1 = _ from (idx_in t).2.2.2.2.2]

end values

section reference
variable (A : Vec Ideal S4096x2048 .bf16) (B : Vec Ideal S2048x5632 .bf16) (X : Vec Ideal S4096x5632 .bf16)
  (h : FTy.bits .bf16 < FTy.bits .f32) (hb : Reference16Ideal.S_.BroadcastsInDim S4096x5632 ![])

/-- The reference's product. -/
abbrev product : FVec Ideal S4096x5632 .f32 :=
  Host.dotGeneral Reference16Ideal.dot_S4096x2048_S2048x5632_S4096x5632_1_0_0_1_n_n none (extf .f32 A h : FVec Ideal S4096x2048 .f32) (extf .f32 B h : FVec Ideal S2048x5632 .f32)

/-- The reference's ones. -/
abbrev ones : FVec Ideal S4096x5632 .f32 := broadcastInDim S4096x5632 ![] hb (constant Reference16Ideal.S_ .f32 0x3F800000#32)

/-- The reference's sigmoid. -/
abbrev sigmoid : FVec Ideal S4096x5632 .f32 := Host.divf (ones hb) (addf (ones hb) (Host.exp (Host.negf (extf .f32 X h : FVec Ideal S4096x5632 .f32))))

theorem product_eq (i : S4096x5632.Idx) : product A B h i = prod A B i := by
  rw [show i = ValueIdx.ix2 (i 0) (i 1) from Shape.idx_ext₂ rfl rfl]
  exact Product.dot_nn none (extf .f32 A h : FVec Ideal S4096x2048 .f32) (extf .f32 B h : FVec Ideal S2048x5632 .f32) (i 0) (i 1)

theorem ones_eq (i : S4096x5632.Idx) : ones hb i = (1 : EReal) := (ValueIdx.broadcastInDim_scalar_apply _ _ _).trans ofBits_one'

theorem sigmoid_eq (i : S4096x5632.Idx) : sigmoid X h hb i = Ideal.logistic (X i) := by
  have e : sigmoid X h hb i = Ideal.div (ones hb i) (ones hb i + Ideal.exp (-(X i))) := rfl
  rw [e, ones_eq]
  rfl

/-- What the reference computes first. -/
theorem reference_b : truncf .bf16 (product A B h) h = prod A B := funext fun i => product_eq A B h i

/-- What the reference computes second. -/
theorem reference_act : truncf .bf16 (mulf (mulf (extf .f32 X h : FVec Ideal S4096x5632 .f32) (sigmoid X h hb)) (product A B h)) h = acts A B X := by
  funext i
  exact congrArg₂ (fun D S : EReal => X i * S * D) (product_eq A B h i) (sigmoid_eq X h hb i)

end reference

theorem quiescent_ideal : Cert.quiescent_Kernel16Ideal := fun m ρ _ => Cert.Kernel16Ideal.Gen.frame m ρ

theorem bodies_eq {F : FTy → Type} [FloatOps F] : (Kernel16.defs₀ (F := F)) = (Kernel16Ideal.defs₀ (F := F)) := by
  unfold Kernel16.defs₀ Kernel16Ideal.defs₀
  congr 1
  funext l a
  fin_cases l
  rfl

theorem defs_eq {F : FTy → Type} [FloatOps F] : (Kernel16.defs (F := F)) = (Kernel16Ideal.defs (F := F)) := by
  show Pipeline.defs _ Kernel16.defs₀ = Pipeline.defs _ Kernel16Ideal.defs₀
  rw [bodies_eq]
  rfl

theorem quiescent : Cert.quiescent_Kernel16 := by
  intro m ρ _
  show θ_run Kernel16.defs _ _ _
  rw [defs_eq]
  exact Cert.Kernel16Ideal.Gen.frame (F := Bits) m ρ

theorem quiescent_reference : Cert.quiescent_Reference16Ideal := fun m ρ _ =>
  (θ_run _ _ _).mono (fun r h => ⟨fun c => (h c).2.2, sem_eq_zero_of_no_sems (by decide) r.2⟩) (Cert.Reference16Ideal.Value.run (F := Ideal) m ρ)

theorem algebraic : Cert.algebraic_Kernel16Ideal_Reference16Ideal := by
  intro m g m' g' _ hsame
  refine ⟨fun c => prod (m ((c.tc : Thread nD τ).loc main_arg0)) (m ((c.tc : Thread nD τ).loc main_arg1)),
    fun c => acts (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (arr_b m c), (h c).2.1.trans (arr_act m c), (h c).2.2⟩) (Value.run_blocks m g)
  · refine (θ_run _ _ _).mono (fun r h c => ⟨((h c).1.trans (reference_b _ _ _)).trans ?_,
      ((h c).2.1.trans (reference_act _ _ _ _ _)).trans ?_, (h c).2.2⟩) (Cert.Reference16Ideal.Value.run (F := Ideal) m' g')
    · rw [(hsame c).1, (hsame c).2.1]
    · rw [(hsame c).1, (hsame c).2.1, (hsame c).2.2]

end Cert.Proof.Up

end
-- ==== Proof.Down.lean ====
/-
  The feed-forward output, r + act · Wd, with r the residual stream: what each point of the kernel leaves, and the array it ends with.
-/
module

public import proofs.«01_k».proof.Defs
public import proofs.«01_k».proof.Proof.Plain
public import proofs.«01_k».proof.Proof.Gen.Kernel17Ideal.Value
public import proofs.«01_k».proof.Proof.Gen.Reference17Ideal.Run
public import proofs.«01_k».proof.Proof.Gen.Kernel17
public import proofs.«01_k».proof.Proof.Gen.Kernel17Ideal
public import proofs.«01_k».proof.Proof.Gen.Reference17Ideal

@[expose] public section

noncomputable section

namespace Cert.Proof.Down

open Cert.Kernel17Ideal Cert.Kernel17Ideal.Gen Idealize.ShloMosaic Idealize.ShloMosaic.TcCoe Idealize.SL.Sem

section points
variable {F : FTy → Type} [FloatOps F] (m : (ℓ : Loc nD τ sig) → Buf (Elt F) ℓ) (c : Dev nD) (t : Fin cfg0.N)

/-- The first point of a block leaves its tile's product in the scratch. -/
theorem scr_first (h : t.val % 4 = 0) : (outsAt0 m c t.val t.isLt).2 = k0_pay1 (iblk m c 0 t) (iblk m c 1 t) := by
  rw [outsAt0_A m c t h (by omega) (by omega)]
  dsimp only
  unfold sout0_A_0 kernelRun0_A
  refine ((Product.store_whole _ _ _).trans (congrArg₂ k0_pay2 (Product.load_whole _ _ _) (Product.load_whole _ _ _))).trans ?_
  unfold k0_pay2
  exact shapeCast_self _ _

/-- A point in the middle adds its tile's product to the scratch. -/
theorem scr_next (h0 : ¬t.val % 4 = 0) (h2 : ¬t.val % 4 = 3) : (outsAt0 m c t.val t.isLt).2
    = addf (outsAt0 m c (t.val - 1) (Nat.lt_of_le_of_lt (Nat.sub_le _ _) t.isLt)).2 (k0_pay1 (iblk m c 0 t) (iblk m c 1 t)) := by
  rw [outsAt0_B m c t h0 (by omega) h2]
  dsimp only
  unfold sout0_B_0 kernelRun0_B
  refine ((Product.store_whole _ _ _).trans (c := k0_pay3 (iblk m c 0 t) (iblk m c 1 t)
      (outsAt0 m c (t.val - 1) (Nat.lt_of_le_of_lt (Nat.sub_le _ _) t.isLt)).2)
    (congr (congrArg₂ k0_pay3 (Product.load_whole _ _ _) (Product.load_whole _ _ _)) (Product.load_whole _ _ _))).trans ?_
  unfold k0_pay3
  exact shapeCast_self _ _

/-- The last point of a block writes the scratch and its tile's product, added, and the block of the residual stream on top. -/
theorem out_last (h : t.val % 4 = 3) : (outsAt0 m c t.val t.isLt).1
    = addf (addf (outsAt0 m c (t.val - 1) (Nat.lt_of_le_of_lt (Nat.sub_le _ _) t.isLt)).2 (k0_pay1 (iblk m c 0 t) (iblk m c 1 t))) (iblk m c 2 t) := by
  rw [outsAt0_C m c t (by omega) (by omega) h]
  dsimp only
  unfold out0_C_3 kernelRun0_C
  exact (Product.store_whole _ _ _).trans (c := k0_pay4 (iblk m c 0 t) (iblk m c 1 t)
      (outsAt0 m c (t.val - 1) (Nat.lt_of_le_of_lt (Nat.sub_le _ _) t.isLt)).2 (iblk m c 2 t))
    (congr (congr (congrArg₂ k0_pay4 (Product.load_whole _ _ _) (Product.load_whole _ _ _)) (Product.load_whole _ _ _)) (Product.load_whole _ _ _))

end points

variable (m : (ℓ : Loc nD τ sig) → Buf (Elt Ideal) ℓ) (c : Dev nD)

/-- The products the element at `i` sums. -/
def summand (A : Vec Ideal S4096x5632 .bf16) (B : Vec Ideal S5632x2048 .bf16) (i : S4096x2048.Idx) (k : Fin 5632) : EReal :=
  A (ValueIdx.ix2 (i 0) k) * B (ValueIdx.ix2 k (i 1))

/-- The residual stream and the whole sum, at each element. -/
def sums (A : Vec Ideal S4096x5632 .bf16) (B : Vec Ideal S5632x2048 .bf16) (R : Vec Ideal S4096x2048 .f32) : Vec Ideal S4096x2048 .f32 :=
  fun i => (R i + ∑ k, summand A B i k : EReal)

theorem idx_in : ∀ t : Fin cfg0.N, ((cfg0.win 0).index t 0 = t.val / 8 ∧ (cfg0.win 0).index t 1 = t.val % 4)
    ∧ ((cfg0.win 1).index t 0 = t.val % 4 ∧ (cfg0.win 1).index t 1 = t.val / 4 % 2)
    ∧ ((cfg0.win 2).index t 0 = t.val / 8 ∧ (cfg0.win 2).index t 1 = t.val / 4 % 2) := by decide +kernel

/-- A point's product, at the place of `i` in the block, is its tile of `i`'s sum. -/
theorem product_tile (t : Fin cfg0.N) (i : S4096x2048.Idx) (h0 : t.val / 8 = (i 0).val / 1024) (h1 : t.val / 4 % 2 = (i 1).val / 1024) :
    k0_pay1 (F := Ideal) (iblk m c 0 t) (iblk m c 1 t) (Value.loc3Of i)
      = Product.tile (summand (m ((c : Thread nD τ).loc main_arg0)) (m ((c : Thread nD τ).loc main_arg1)) i) 1408 (t.val % 4) := by
  have hl : Value.loc3Of i = ValueIdx.ix2 ⟨(i 0).val % 1024, by omega⟩ ⟨(i 1).val % 1024, by omega⟩ :=
    Shape.idx_ext₂ rfl rfl
  rw [hl]
  refine (Product.matmul_nn (φ₁ := .bf16) (φ₂ := .bf16) none _ _ _ _).trans ?_
  refine Product.tile_of_places _ _ _ (by omega) fun k => ?_
  refine congrArg₂ (· * ·) ?_ ?_
  · refine congrArg (m ((c : Thread nD τ).loc main_arg0)) (Shape.idx_ext₂ ?_ ?_)
    · blk_simp [(idx_in t).1.1]; show t.val / 8 * 1024 + (i 0).val % 1024 = (i 0).val; omega
    · blk_simp [(idx_in t).1.2]; show t.val % 4 * 1408 + k.val = 1408 * (t.val % 4) + k.val; omega
  · refine congrArg (m ((c : Thread nD τ).loc main_arg1)) (Shape.idx_ext₂ ?_ ?_)
    · blk_simp [(idx_in t).2.1.1]; show t.val % 4 * 1408 + k.val = 1408 * (t.val % 4) + k.val; omega
    · blk_simp [(idx_in t).2.1.2]; show t.val / 4 % 2 * 1024 + (i 1).val % 1024 = (i 1).val; omega

/-- The block of the residual stream, at the place of `i` in it. -/
theorem share (t : Fin cfg0.N) (i : S4096x2048.Idx) (h0 : t.val / 8 = (i 0).val / 1024) (h1 : t.val / 4 % 2 = (i 1).val / 1024) :
    iblk m c 2 t (Value.loc3Of i) = m ((c : Thread nD τ).loc main_arg2) i := by
  have hl : Value.loc3Of i = ValueIdx.ix2 ⟨(i 0).val % 1024, by omega⟩ ⟨(i 1).val % 1024, by omega⟩ :=
    Shape.idx_ext₂ rfl rfl
  rw [hl]
  refine congrArg (m ((c : Thread nD τ).loc main_arg2)) (Shape.idx_ext₂ ?_ ?_)
  · blk_simp [(idx_in t).2.2.1]; show t.val / 8 * 1024 + (i 0).val % 1024 = (i 0).val; omega
  · blk_simp [(idx_in t).2.2.2]; show t.val / 4 % 2 * 1024 + (i 1).val % 1024 = (i 1).val; omega

/-- What the scratch holds after the first points of the block of `i`: the sum of their tiles. -/
theorem scr_total (i : S4096x2048.Idx) (b : ℕ) (h0 : b % 4 = 0) (hb0 : b / 8 = (i 0).val / 1024) (hb1 : b / 4 % 2 = (i 1).val / 1024)
    (j : ℕ) (h : b + j < cfg0.N) (hj : j < 3) : (outsAt0 m c (b + j) h).2 (Value.loc3Of i)
      = ∑ s ∈ Finset.range (j + 1), Product.tile (summand (m ((c : Thread nD τ).loc main_arg0)) (m ((c : Thread nD τ).loc main_arg1)) i) 1408 s := by
  refine Product.total (fun n h => (outsAt0 m c n h).2 (Value.loc3Of i)) _ b 3 (fun h => ?_) (fun j h h' hj => ?_) j h hj
  · refine (congrFun (scr_first m c ⟨b, h⟩ h0) _).trans ?_
    exact (product_tile m c ⟨b, h⟩ i hb0 hb1).trans (congrArg (Product.tile _ _) h0)
  · refine (congrFun (scr_next m c ⟨b + (j + 1), h⟩ (by show ¬(b + (j + 1)) % 4 = 0; omega) (by show ¬(b + (j + 1)) % 4 = 3; omega)) _).trans ?_
    exact congrArg₂ (fun x y : EReal => x + y) rfl ((product_tile m c ⟨b + (j + 1), h⟩ i
      (by show (b + (j + 1)) / 8 = _; omega) (by show (b + (j + 1)) / 4 % 2 = _; omega)).trans
        (congrArg (Product.tile _ _) (show (b + (j + 1)) % 4 = j + 1 by omega)))

/-- The array the kernel ends with. -/
theorem value : Value.G3 m c = sums (m ((c : Thread nD τ).loc main_arg0)) (m ((c : Thread nD τ).loc main_arg1)) (m ((c : Thread nD τ).loc main_arg2)) := by
  funext i
  have hi0 : (i 0).val < 4096 := (i 0).isLt
  have hi1 : (i 1).val < 2048 := (i 1).isLt
  have hp : Value.pt3Of i < cfg0.N := lt_of_lt_of_eq (show Value.pt3Of i < 32 by unfold Value.pt3Of Value.run3Of; omega) N_0.symm
  obtain ⟨t, ht⟩ : ∃ t : Fin cfg0.N, t.val = Value.pt3Of i := ⟨⟨_, hp⟩, rfl⟩
  have ht' : t.val = 4 * (2 * ((i 0).val / 1024 - 0) + 1 * ((i 1).val / 1024 - 0)) + 3 := ht
  unfold Value.G3
  rw [dif_pos hp, ← Value.outsAt0_sweep m c _ hp]
  simp only [← ht]
  unfold sums
  rw [out_last m c t (by omega), ← Product.sum_all _ 1408 4 rfl, Finset.sum_range_succ _ 3]
  refine (congrArg₂ (fun x y : EReal => x + y) ?_ (share m c t i (by omega) (by omega))).trans (add_comm _ _)
  refine congrArg₂ (fun x y : EReal => x + y) ?_ ((product_tile m c t i (by omega) (by omega)).trans (congrArg (Product.tile _ _) (show t.val % 4 = 3 by omega)))
  have e := scr_total m c i (t.val - 3) (by omega) (by omega) (by omega) 2 (by omega) (by omega)
  simpa only [show t.val - 3 + 2 = t.val - 1 by omega] using e

/-- What the reference computes. -/
theorem reference (A : Vec Ideal S4096x5632 .bf16) (B : Vec Ideal S5632x2048 .bf16) (R : Vec Ideal S4096x2048 .f32) (h : FTy.bits .bf16 < FTy.bits .f32) :
    addf R (Host.dotGeneral Reference17Ideal.dot_S4096x5632_S5632x2048_S4096x2048_1_0_0_1_n_n none
      (extf .f32 A h : FVec Ideal S4096x5632 .f32) (extf .f32 B h : FVec Ideal S5632x2048 .f32)) = sums A B R := by
  funext i
  refine congrArg (fun x : EReal => R i + x) ?_
  rw [show i = ValueIdx.ix2 (i 0) (i 1) from Shape.idx_ext₂ rfl rfl]
  exact Product.dot_nn none (extf .f32 A h : FVec Ideal S4096x5632 .f32) (extf .f32 B h : FVec Ideal S5632x2048 .f32) (i 0) (i 1)

theorem quiescent_ideal : Cert.quiescent_Kernel17Ideal := fun m ρ _ => Cert.Kernel17Ideal.Gen.frame m ρ

theorem bodies_eq {F : FTy → Type} [FloatOps F] : (Kernel17.defs₀ (F := F)) = (Kernel17Ideal.defs₀ (F := F)) := by
  unfold Kernel17.defs₀ Kernel17Ideal.defs₀
  congr 1
  funext l a
  fin_cases l
  rfl

theorem defs_eq {F : FTy → Type} [FloatOps F] : (Kernel17.defs (F := F)) = (Kernel17Ideal.defs (F := F)) := by
  show Pipeline.defs _ Kernel17.defs₀ = Pipeline.defs _ Kernel17Ideal.defs₀
  rw [bodies_eq]
  rfl

theorem quiescent : Cert.quiescent_Kernel17 := by
  intro m ρ _
  show θ_run Kernel17.defs _ _ _
  rw [defs_eq]
  exact Cert.Kernel17Ideal.Gen.frame (F := Bits) m ρ

theorem quiescent_reference : Cert.quiescent_Reference17Ideal := fun m ρ _ =>
  (θ_run _ _ _).mono (fun r h => ⟨fun c => (h c).2, sem_eq_zero_of_no_sems (by decide) r.2⟩) (Cert.Reference17Ideal.Value.run (F := Ideal) m ρ)

theorem algebraic : Cert.algebraic_Kernel17Ideal_Reference17Ideal := by
  intro m g m' g' _ hsame
  refine ⟨fun c => sums (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (value m c), (h c).2⟩) (Value.run m g)
  · refine (θ_run _ _ _).mono (fun r h c => ⟨((h c).1.trans (reference _ _ _ _)).trans ?_, (h c).2⟩) (Cert.Reference17Ideal.Value.run (F := Ideal) m' g')
    rw [(hsame c).1, (hsame c).2.1, (hsame c).2.2]

end Cert.Proof.Down

end
-- ==== Proof.Out.lean ====
/-
  The output projection on top of the residual stream, r + mix · Wo: what each point of the kernel leaves, and
  the array it ends with.
-/
module

public import proofs.«01_k».proof.Defs
public import proofs.«01_k».proof.Proof.Plain
public import proofs.«01_k».proof.Proof.Gen.Kernel18Ideal.Value
public import proofs.«01_k».proof.Proof.Gen.Reference18Ideal.Run
public import proofs.«01_k».proof.Proof.Gen.Kernel18
public import proofs.«01_k».proof.Proof.Gen.Kernel18Ideal
public import proofs.«01_k».proof.Proof.Gen.Reference18Ideal

@[expose] public section

noncomputable section

namespace Cert.Proof.Out

open Cert.Kernel18Ideal Cert.Kernel18Ideal.Gen Idealize.ShloMosaic Idealize.ShloMosaic.TcCoe Idealize.SL.Sem

/-- What the body leaves in the output's buffer. -/
theorem out {F : FTy → Type} [FloatOps F] (x0 : Vec F S1024x2048 .bf16) (x1 : Vec F S2048x1024 .bf16) (x2 : Vec F S1024x1024 .f32) :
    out0_3 x0 x1 x2 = k0_pay1 x0 x1 x2 := by
  unfold out0_3
  refine (View.canon_unit_zero Product.off_zero _ _).trans ?_
  exact congr (congrArg₂ k0_pay1 (View.ld_unit_zero Product.off_zero _ _) (View.ld_unit_zero Product.off_zero _ _)) (View.ld_unit_zero Product.off_zero _ _)

/-- The residual stream and the product, at each element. -/
def sums (A : Vec Ideal S4096x2048 .bf16) (B : Vec Ideal S2048x2048 .bf16) (R : Vec Ideal S4096x2048 .f32) : Vec Ideal S4096x2048 .f32 :=
  fun i => (R i + ∑ k : Fin 2048, A (ValueIdx.ix2 (i 0) k) * B (ValueIdx.ix2 k (i 1)) : EReal)

section values
variable (m : (ℓ : Loc nD τ sig) → Buf (Elt Ideal) ℓ) (c : Dev nD)

theorem idx_in : ∀ t : Fin cfg0.N, ((cfg0.win 0).index t 0 = t.val / 2 ∧ (cfg0.win 0).index t 1 = 0)
    ∧ ((cfg0.win 1).index t 0 = 0 ∧ (cfg0.win 1).index t 1 = t.val % 2)
    ∧ ((cfg0.win 2).index t 0 = t.val / 2 ∧ (cfg0.win 2).index t 1 = t.val % 2)
    ∧ ((cfg0.win 3).index t 0 = t.val / 2 ∧ (cfg0.win 3).index t 1 = t.val % 2) := by decide +kernel

/-- The payload at an element: the tile's product and the residual. -/
theorem pay (x0 : Vec Ideal S1024x2048 .bf16) (x1 : Vec Ideal S2048x1024 .bf16) (x2 : Vec Ideal S1024x1024 .f32) (y : S1024x1024.Idx) :
    k0_pay1 (F := Ideal) x0 x1 x2 y = (∑ k : Fin 2048, x0 (ValueIdx.ix2 (y 0) k) * x1 (ValueIdx.ix2 k (y 1)) : EReal) + x2 y := by
  refine congrArg (fun x : EReal => x + x2 y) ?_
  rw [show y = ValueIdx.ix2 (y 0) (y 1) from Shape.idx_ext₂ rfl rfl]
  exact Product.matmul_nn (φ₁ := .bf16) (φ₂ := .bf16) none _ _ _ _

/-- A point's payload, at a place of its block, is the whole sum there. -/
theorem sum_at (t : Fin cfg0.N) (y : S1024x1024.Idx) (i : S4096x2048.Idx) (h0 : (i 0).val = t.val / 2 * 1024 + (y 0).val)
    (h1 : (i 1).val = t.val % 2 * 1024 + (y 1).val) : k0_pay1 (F := Ideal) (iblk m c 0 t) (iblk m c 1 t) (iblk m c 2 t) y
      = sums (m ((c : Thread nD τ).loc main_arg0)) (m ((c : Thread nD τ).loc main_arg1)) (m ((c : Thread nD τ).loc main_arg2)) i := by
  refine ((pay _ _ _ _).trans (add_comm _ _)).trans (congrArg₂ (fun x z : EReal => x + z) ?_ (Finset.sum_congr rfl fun k _ => congrArg₂ (· * ·) ?_ ?_))
  · refine congrArg (m ((c : Thread nD τ).loc main_arg2)) (Shape.idx_ext₂ ?_ ?_)
    · blk_simp [(idx_in t).2.2.1.1]; show t.val / 2 * 1024 + (y 0).val = (i 0).val; omega
    · blk_simp [(idx_in t).2.2.1.2]; show t.val % 2 * 1024 + (y 1).val = (i 1).val; omega
  · refine congrArg (m ((c : Thread nD τ).loc main_arg0)) (Shape.idx_ext₂ ?_ ?_)
    · blk_simp [(idx_in t).1.1]; show t.val / 2 * 1024 + (y 0).val = (i 0).val; omega
    · blk_simp [(idx_in t).1.2]
  · refine congrArg (m ((c : Thread nD τ).loc main_arg1)) (Shape.idx_ext₂ ?_ ?_)
    · blk_simp [(idx_in t).2.1.1]
    · blk_simp [(idx_in t).2.1.2]; show t.val % 2 * 1024 + (y 1).val = (i 1).val; omega

/-- The array the kernel ends with. -/
theorem arr : (dats m 0 c).arrAt 3 cfg0.N
    = sums (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out]
  refine (sum_at m c t _ _ ?_ ?_)
  · blk_simp [show win0_3.index t 0 = _ from (idx_in t).2.2.2.1]
  · blk_simp [show win0_3.index t 1 = _ from (idx_in t).2.2.2.2]

end values

/-- What the reference computes. -/
theorem reference (A : Vec Ideal S4096x2048 .bf16) (B : Vec Ideal S2048x2048 .bf16) (R : Vec Ideal S4096x2048 .f32) (h : FTy.bits .bf16 < FTy.bits .f32) :
    addf R (Host.dotGeneral Reference18Ideal.dot_S4096x2048_S2048x2048_S4096x2048_1_0_0_1_n_n none
      (extf .f32 A h : FVec Ideal S4096x2048 .f32) (extf .f32 B h : FVec Ideal S2048x2048 .f32)) = sums A B R := by
  funext i
  refine congrArg (fun x : EReal => R i + x) ?_
  rw [show i = ValueIdx.ix2 (i 0) (i 1) from Shape.idx_ext₂ rfl rfl]
  exact Product.dot_nn none (extf .f32 A h : FVec Ideal S4096x2048 .f32) (extf .f32 B h : FVec Ideal S2048x2048 .f32) (i 0) (i 1)

theorem quiescent_ideal : Cert.quiescent_Kernel18Ideal := fun m ρ _ => Cert.Kernel18Ideal.Gen.frame m ρ

theorem bodies_eq {F : FTy → Type} [FloatOps F] : (Kernel18.defs₀ (F := F)) = (Kernel18Ideal.defs₀ (F := F)) := by
  unfold Kernel18.defs₀ Kernel18Ideal.defs₀
  congr 1
  funext l a
  fin_cases l
  rfl

theorem defs_eq {F : FTy → Type} [FloatOps F] : (Kernel18.defs (F := F)) = (Kernel18Ideal.defs (F := F)) := by
  show Pipeline.defs _ Kernel18.defs₀ = Pipeline.defs _ Kernel18Ideal.defs₀
  rw [bodies_eq]
  rfl

theorem quiescent : Cert.quiescent_Kernel18 := by
  intro m ρ _
  show θ_run Kernel18.defs _ _ _
  rw [defs_eq]
  exact Cert.Kernel18Ideal.Gen.frame (F := Bits) m ρ

theorem quiescent_reference : Cert.quiescent_Reference18Ideal := fun m ρ _ =>
  (θ_run _ _ _).mono (fun r h => ⟨fun c => (h c).2, sem_eq_zero_of_no_sems (by decide) r.2⟩) (Cert.Reference18Ideal.Value.run (F := Ideal) m ρ)

theorem algebraic : Cert.algebraic_Kernel18Ideal_Reference18Ideal := by
  intro m g m' g' _ hsame
  refine ⟨fun c => sums (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (arr m c), (h c).2⟩) (Value.run_blocks m g)
  · refine (θ_run _ _ _).mono (fun r h c => ⟨((h c).1.trans (reference _ _ _ _)).trans ?_, (h c).2⟩) (Cert.Reference18Ideal.Value.run (F := Ideal) m' g')
    rw [(hsame c).1, (hsame c).2.1, (hsame c).2.2]

end Cert.Proof.Out

end
-- ==== Proof.Branch.lean ====
/-
  A branch's share of the mixed stream, y · Wb: what each point of the kernel leaves, and
  the array it ends with.
-/
module

public import proofs.«01_k».proof.Defs
public import proofs.«01_k».proof.Proof.Plain
public import proofs.«01_k».proof.Proof.Gen.Kernel19Ideal.Value
public import proofs.«01_k».proof.Proof.Gen.Reference19Ideal.Run
public import proofs.«01_k».proof.Proof.Gen.Kernel19
public import proofs.«01_k».proof.Proof.Gen.Kernel19Ideal
public import proofs.«01_k».proof.Proof.Gen.Reference19Ideal

@[expose] public section

noncomputable section

namespace Cert.Proof.Branch

open Cert.Kernel19Ideal Cert.Kernel19Ideal.Gen Idealize.ShloMosaic Idealize.ShloMosaic.TcCoe Idealize.SL.Sem

/-- What the body leaves in the output's buffer. -/
theorem out {F : FTy → Type} [FloatOps F] (x0 : Vec F S1024x512 .bf16) (x1 : Vec F S512x1024 .bf16) : out0_2 x0 x1 = k0_pay1 x0 x1 := by
  unfold out0_2
  refine (View.canon_unit_zero Product.off_zero _ _).trans ?_
  exact congrArg₂ k0_pay1 (View.ld_unit_zero Product.off_zero _ _) (View.ld_unit_zero Product.off_zero _ _)

/-- The product. -/
def prod (A : Vec Ideal S4096x512 .bf16) (B : Vec Ideal S512x2048 .bf16) : Vec Ideal S4096x2048 .bf16 :=
  fun i => (∑ k : Fin 512, A (ValueIdx.ix2 (i 0) k) * B (ValueIdx.ix2 k (i 1)) : EReal)

section values
variable (m : (ℓ : Loc nD τ sig) → Buf (Elt Ideal) ℓ) (c : Dev nD)

theorem idx_in : ∀ t : Fin cfg0.N, ((cfg0.win 0).index t 0 = t.val / 2 ∧ (cfg0.win 0).index t 1 = 0)
    ∧ ((cfg0.win 1).index t 0 = 0 ∧ (cfg0.win 1).index t 1 = t.val % 2)
    ∧ ((cfg0.win 2).index t 0 = t.val / 2 ∧ (cfg0.win 2).index t 1 = t.val % 2) := by decide +kernel

/-- A point's product, at a place of its block, is the whole product there. -/
theorem product_at (t : Fin cfg0.N) (y : S1024x1024.Idx) (i : S4096x2048.Idx) (h0 : (i 0).val = t.val / 2 * 1024 + (y 0).val)
    (h1 : (i 1).val = t.val % 2 * 1024 + (y 1).val) :
    k0_pay1 (F := Ideal) (iblk m c 0 t) (iblk m c 1 t) y = prod (m ((c : Thread nD τ).loc main_arg0)) (m ((c : Thread nD τ).loc main_arg1)) i := by
  rw [show y = ValueIdx.ix2 (y 0) (y 1) from Shape.idx_ext₂ rfl rfl]
  refine (Product.matmul_nn (φ₁ := .bf16) (φ₂ := .bf16) none _ _ _ _).trans ?_
  refine Finset.sum_congr rfl fun k _ => congrArg₂ (· * ·) ?_ ?_
  · refine congrArg (m ((c : Thread nD τ).loc main_arg0)) (Shape.idx_ext₂ ?_ ?_)
    · blk_simp [(idx_in t).1.1]; show t.val / 2 * 1024 + (y 0).val = (i 0).val; omega
    · blk_simp [(idx_in t).1.2]
  · refine congrArg (m ((c : Thread nD τ).loc main_arg1)) (Shape.idx_ext₂ ?_ ?_)
    · blk_simp [(idx_in t).2.1.1]
    · blk_simp [(idx_in t).2.1.2]; show t.val % 2 * 1024 + (y 1).val = (i 1).val; omega

/-- The array the kernel ends with. -/
theorem arr : (dats m 0 c).arrAt 2 cfg0.N = prod (m ((c : Thread nD τ).loc main_arg0)) (m ((c : Thread nD τ).loc main_arg1)) := by
  refine (dats m 0 c).arrAt_eq_of_covers 2 _ (by decide +kernel) fun t hf y => ?_
  blk_simp
  rw [after0_2, out]
  refine (product_at m c t _ _ ?_ ?_)
  · blk_simp [show win0_2.index t 0 = _ from (idx_in t).2.2.1]
  · blk_simp [show win0_2.index t 1 = _ from (idx_in t).2.2.2]

end values

/-- What the reference computes. -/
theorem reference (A : Vec Ideal S4096x512 .bf16) (B : Vec Ideal S512x2048 .bf16) (h : FTy.bits .bf16 < FTy.bits .f32) :
    truncf .bf16 (Host.dotGeneral Reference19Ideal.dot_S4096x512_S512x2048_S4096x2048_1_0_0_1_n_n none
      (extf .f32 A h : FVec Ideal S4096x512 .f32) (extf .f32 B h : FVec Ideal S512x2048 .f32)) h = prod A B := by
  funext i
  rw [show i = ValueIdx.ix2 (i 0) (i 1) from Shape.idx_ext₂ rfl rfl]
  exact Product.dot_nn none (extf .f32 A h : FVec Ideal S4096x512 .f32) (extf .f32 B h : FVec Ideal S512x2048 .f32) (i 0) (i 1)

theorem quiescent_ideal : Cert.quiescent_Kernel19Ideal := fun m ρ _ => Cert.Kernel19Ideal.Gen.frame m ρ

theorem bodies_eq {F : FTy → Type} [FloatOps F] : (Kernel19.defs₀ (F := F)) = (Kernel19Ideal.defs₀ (F := F)) := by
  unfold Kernel19.defs₀ Kernel19Ideal.defs₀
  congr 1
  funext l a
  fin_cases l
  rfl

theorem defs_eq {F : FTy → Type} [FloatOps F] : (Kernel19.defs (F := F)) = (Kernel19Ideal.defs (F := F)) := by
  show Pipeline.defs _ Kernel19.defs₀ = Pipeline.defs _ Kernel19Ideal.defs₀
  rw [bodies_eq]
  rfl

theorem quiescent : Cert.quiescent_Kernel19 := by
  intro m ρ _
  show θ_run Kernel19.defs _ _ _
  rw [defs_eq]
  exact Cert.Kernel19Ideal.Gen.frame (F := Bits) m ρ

theorem quiescent_reference : Cert.quiescent_Reference19Ideal := fun m ρ _ =>
  (θ_run _ _ _).mono (fun r h => ⟨fun c => (h c).2, sem_eq_zero_of_no_sems (by decide) r.2⟩) (Cert.Reference19Ideal.Value.run (F := Ideal) m ρ)

theorem algebraic : Cert.algebraic_Kernel19Ideal_Reference19Ideal := by
  intro m g m' g' _ hsame
  refine ⟨fun c => prod (m ((c.tc : Thread nD τ).loc main_arg0)) (m ((c.tc : Thread nD τ).loc main_arg1)), ?_, ?_⟩
  · exact (θ_run _ _ _).mono (fun r h c => ⟨(h c).1.trans (arr m c), (h c).2⟩) (Value.run_blocks m g)
  · refine (θ_run _ _ _).mono (fun r h c => ⟨((h c).1.trans (reference _ _ _)).trans ?_, (h c).2⟩) (Cert.Reference19Ideal.Value.run (F := Ideal) m' g')
    rw [(hsame c).1, (hsame c).2]

end Cert.Proof.Branch

end
-- ==== Proof.Merge.lean ====
/-
  The merge of the four branches, each weighed by the sigmoid of its gate: what each point of the kernel leaves, and the array
  it ends with.
-/
module

public import proofs.«01_k».proof.Defs
public import proofs.«01_k».proof.Proof.Product
public import proofs.«01_k».proof.Proof.Gates
public import proofs.«01_k».proof.Proof.Gen.Kernel20Ideal.Value
public import proofs.«01_k».proof.Proof.Gen.Reference20Ideal.Run
public import proofs.«01_k».proof.Proof.Gen.Kernel20
public import proofs.«01_k».proof.Proof.Gen.Kernel20Ideal
public import proofs.«01_k».proof.Proof.Gen.Reference20Ideal

@[expose] public section

noncomputable section

namespace Cert.Proof.Merge

open Cert.Kernel20Ideal Cert.Kernel20Ideal.Gen Idealize.ShloMosaic Idealize.ShloMosaic.TcCoe Idealize.SL.Sem

/-- What the body leaves in the output's buffer. -/
theorem out {F : FTy → Type} [FloatOps F] (m : (ℓ : Loc nD τ sig) → Buf (Elt F) ℓ) (c : Dev nD) (t : Fin cfg0.N) :
    outsAt0 m c t = k0_pay1 (X0_0 m c t) (X0_1 m c t) (X0_2 m c t) (X0_3 m c t) (iblk m c 4 t) (iblk m c 5 t) (iblk m c 6 t) (iblk m c 7 t) := by
  unfold outsAt0 out0_A_8 kernelRun0_A
  exact (Product.store_whole _ _ _).trans (congr (congr (congr (congr (congr (congr (congrArg₂ k0_pay1 (Product.load_whole _ _ _) (Product.load_whole _ _ _))
    (Product.load_whole _ _ _)) (Product.load_whole _ _ _)) (Product.load_whole _ _ _)) (Product.load_whole _ _ _)) (Product.load_whole _ _ _)) (Product.load_whole _ _ _))

/-- The branches at a place, each weighed by the sigmoid of its gate. -/
def mix (g0 g1 g2 g3 y0 y1 y2 y3 : EReal) : EReal :=
  Ideal.logistic g0 * y0 + Ideal.logistic g1 * y1 + Ideal.logistic g2 * y2 + Ideal.logistic g3 * y3

/-- The merged stream as an array. -/
def merged (P : Vec Ideal S4096x12672 .f32) (Y0 Y1 Y2 Y3 : Vec Ideal S4096x2048 .bf16) : Vec Ideal S4096x2048 .bf16 := fun i =>
  mix (P (ValueIdx.ix2 (i 0) (Gates.col 0 (i 1)))) (P (ValueIdx.ix2 (i 0) (Gates.col 1 (i 1)))) (P (ValueIdx.ix2 (i 0) (Gates.col 2 (i 1))))
    (P (ValueIdx.ix2 (i 0) (Gates.col 3 (i 1)))) (Y0 i) (Y1 i) (Y2 i) (Y3 i)

section values
variable (m : (ℓ : Loc nD τ sig) → Buf (Elt Ideal) ℓ) (c : Dev nD)

theorem idx_gate : ∀ t : Fin cfg0.N, ((cfg0.win 0).index t 0 = t.val / 4 ∧ (cfg0.win 0).index t 1 = t.val % 4)
    ∧ ((cfg0.win 1).index t 0 = t.val / 4 ∧ (cfg0.win 1).index t 1 = 4 + t.val % 4)
    ∧ ((cfg0.win 2).index t 0 = t.val / 4 ∧ (cfg0.win 2).index t 1 = 8 + t.val % 4)
    ∧ ((cfg0.win 3).index t 0 = t.val / 4 ∧ (cfg0.win 3).index t 1 = 12 + t.val % 4) := by decide +kernel

theorem idx_in : ∀ t : Fin cfg0.N, ((cfg0.win 4).index t 0 = t.val / 4 ∧ (cfg0.win 4).index t 1 = t.val % 4)
    ∧ ((cfg0.win 5).index t 0 = t.val / 4 ∧ (cfg0.win 5).index t 1 = t.val % 4)
    ∧ ((cfg0.win 6).index t 0 = t.val / 4 ∧ (cfg0.win 6).index t 1 = t.val % 4)
    ∧ ((cfg0.win 7).index t 0 = t.val / 4 ∧ (cfg0.win 7).index t 1 = t.val % 4)
    ∧ ((cfg0.win 8).index t 0 = t.val / 4 ∧ (cfg0.win 8).index t 1 = t.val % 4) := by decide +kernel

variable (t : Fin cfg0.N) (y : S512x512.Idx) (i : S4096x2048.Idx) (h0 : (i 0).val = t.val / 4 * 512 + (y 0).val)
  (h1 : (i 1).val = t.val % 4 * 512 + (y 1).val)

include h0 h1

/-- The gates' blocks, at a place of a block. -/
theorem gate_at : X0_0 m c t y = m ((c : Thread nD τ).loc main_arg0) (ValueIdx.ix2 (i 0) (Gates.col 0 (i 1)))
    ∧ X0_1 m c t y = m ((c : Thread nD τ).loc main_arg0) (ValueIdx.ix2 (i 0) (Gates.col 1 (i 1)))
    ∧ X0_2 m c t y = m ((c : Thread nD τ).loc main_arg0) (ValueIdx.ix2 (i 0) (Gates.col 2 (i 1)))
    ∧ X0_3 m c t y = m ((c : Thread nD τ).loc main_arg0) (ValueIdx.ix2 (i 0) (Gates.col 3 (i 1))) := by
  refine ⟨?_, ?_, ?_, ?_⟩
  · refine (dif_pos (moved0_0 t y)).trans (congrArg (m ((c : Thread nD τ).loc main_arg0)) (Shape.idx_ext₂ ?_ ?_))
    · blk_simp [(idx_gate t).1.1]; show t.val / 4 * 512 + (y 0).val = (i 0).val; omega
    · blk_simp [(idx_gate t).1.2]; show t.val % 4 * 512 + (y 1).val = 2048 * 0 + (i 1).val; omega
  · refine (dif_pos (moved0_1 t y)).trans (congrArg (m ((c : Thread nD τ).loc main_arg0)) (Shape.idx_ext₂ ?_ ?_))
    · blk_simp [(idx_gate t).2.1.1]; show t.val / 4 * 512 + (y 0).val = (i 0).val; omega
    · blk_simp [(idx_gate t).2.1.2]; show (4 + t.val % 4) * 512 + (y 1).val = 2048 * 1 + (i 1).val; omega
  · refine (dif_pos (moved0_2 t y)).trans (congrArg (m ((c : Thread nD τ).loc main_arg0)) (Shape.idx_ext₂ ?_ ?_))
    · blk_simp [(idx_gate t).2.2.1.1]; show t.val / 4 * 512 + (y 0).val = (i 0).val; omega
    · blk_simp [(idx_gate t).2.2.1.2]; show (8 + t.val % 4) * 512 + (y 1).val = 2048 * 2 + (i 1).val; omega
  · refine (dif_pos (moved0_3 t y)).trans (congrArg (m ((c : Thread nD τ).loc main_arg0)) (Shape.idx_ext₂ ?_ ?_))
    · blk_simp [(idx_gate t).2.2.2.1]; show t.val / 4 * 512 + (y 0).val = (i 0).val; omega
    · blk_simp [(idx_gate t).2.2.2.2]; show (12 + t.val % 4) * 512 + (y 1).val = 2048 * 3 + (i 1).val; omega

/-- The branches' blocks, at a place of a block. -/
theorem branch_at : iblk m c 4 t y = m ((c : Thread nD τ).loc main_arg1) i ∧ iblk m c 5 t y = m ((c : Thread nD τ).loc main_arg2) i
    ∧ iblk m c 6 t y = m ((c : Thread nD τ).loc main_arg3) i ∧ iblk m c 7 t y = m ((c : Thread nD τ).loc main_arg4) i := by
  refine ⟨congrArg (m ((c : Thread nD τ).loc main_arg1)) (Shape.idx_ext₂ ?_ ?_), congrArg (m ((c : Thread nD τ).loc main_arg2)) (Shape.idx_ext₂ ?_ ?_),
    congrArg (m ((c : Thread nD τ).loc main_arg3)) (Shape.idx_ext₂ ?_ ?_), congrArg (m ((c : Thread nD τ).loc main_arg4)) (Shape.idx_ext₂ ?_ ?_)⟩
  · blk_simp [(idx_in t).1.1]; show t.val / 4 * 512 + (y 0).val = (i 0).val; omega
  · blk_simp [(idx_in t).1.2]; show t.val % 4 * 512 + (y 1).val = (i 1).val; omega
  · blk_simp [(idx_in t).2.1.1]; show t.val / 4 * 512 + (y 0).val = (i 0).val; omega
  · blk_simp [(idx_in t).2.1.2]; show t.val % 4 * 512 + (y 1).val = (i 1).val; omega
  · blk_simp [(idx_in t).2.2.1.1]; show t.val / 4 * 512 + (y 0).val = (i 0).val; omega
  · blk_simp [(idx_in t).2.2.1.2]; show t.val % 4 * 512 + (y 1).val = (i 1).val; omega
  · blk_simp [(idx_in t).2.2.2.1.1]; show t.val / 4 * 512 + (y 0).val = (i 0).val; omega
  · blk_simp [(idx_in t).2.2.2.1.2]; show t.val % 4 * 512 + (y 1).val = (i 1).val; omega

omit h0 h1 in
theorem pay (g0 g1 g2 g3 : Vec Ideal S512x512 .f32) (y0 y1 y2 y3 : Vec Ideal S512x512 .bf16) :
    k0_pay1 (F := Ideal) g0 g1 g2 g3 y0 y1 y2 y3 y = mix (g0 y) (g1 y) (g2 y) (g3 y) (y0 y) (y1 y) (y2 y) (y3 y) := rfl

/-- A point's part of the merged stream. -/
theorem part : k0_pay1 (F := Ideal) (X0_0 m c t) (X0_1 m c t) (X0_2 m c t) (X0_3 m c t) (iblk m c 4 t) (iblk m c 5 t) (iblk m c 6 t) (iblk m c 7 t) y
      = merged (m ((c : Thread nD τ).loc main_arg0)) (m ((c : Thread nD τ).loc main_arg1)) (m ((c : Thread nD τ).loc main_arg2))
        (m ((c : Thread nD τ).loc main_arg3)) (m ((c : Thread nD τ).loc main_arg4)) i := by
  have hg := gate_at m c t y i h0 h1
  have hb := branch_at m c t y i h0 h1
  refine (pay _ _ _ _ _ _ _ _ _).trans ?_
  rw [hg.1, hg.2.1, hg.2.2.1, hg.2.2.2, hb.1, hb.2.1, hb.2.2.1, hb.2.2.2]
  rfl

omit h0 h1 t y i in
/-- The array the kernel ends with. -/
theorem arr : (dats m 0 c).arrAt 8 cfg0.N = merged (m ((c : Thread nD τ).loc main_arg0)) (m ((c : Thread nD τ).loc main_arg1))
    (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, out]
  refine (part m c t _ _ ?_ ?_)
  · blk_simp [show win0_8.index t 0 = _ from (idx_in t).2.2.2.2.1]
  · blk_simp [show win0_8.index t 1 = _ from (idx_in t).2.2.2.2.2]

end values

/-- One branch's share as the reference computes it, at an index. -/
theorem share (G : FVec Ideal S4096x2048 .f32) (Y : Vec Ideal S4096x2048 .bf16) (h : FTy.bits .bf16 < FTy.bits .f32) (hb) (i : S4096x2048.Idx) (g y : EReal)
    (hg : G i = g) (hy : Y i = y) : mulf (Gates.sigmoid G hb) (extf .f32 Y h : FVec Ideal S4096x2048 .f32) i = Ideal.logistic g * y := by
  subst hg hy
  exact congrArg (fun x : EReal => x * Y i) (Gates.sigmoid_eq G hb i)

/-- A sum of five arrays the first of which is zero. -/
theorem sum_at (Z A B C D : FVec Ideal S4096x2048 .f32) (i : S4096x2048.Idx) (a b c d : EReal) (hz : Z i = (0 : EReal)) (ha : A i = a) (hb : B i = b)
    (hc : C i = c) (hd : D i = d) (h : FTy.bits .bf16 < FTy.bits .f32) : truncf .bf16 (addf (addf (addf (addf Z A) B) C) D) h i = a + b + c + d := by
  subst ha hb hc hd
  have e : truncf .bf16 (addf (addf (addf (addf Z A) B) C) D) h i = (Z i + A i + B i + C i + D i : EReal) := rfl
  rw [e, hz, zero_add]

theorem quiescent_ideal : Cert.quiescent_Kernel20Ideal := fun m ρ _ => Cert.Kernel20Ideal.Gen.frame m ρ

theorem bodies_eq {F : FTy → Type} [FloatOps F] : (Kernel20.defs₀ (F := F)) = (Kernel20Ideal.defs₀ (F := F)) := by
  unfold Kernel20.defs₀ Kernel20Ideal.defs₀
  congr 1
  funext l a
  fin_cases l
  rfl

theorem defs_eq {F : FTy → Type} [FloatOps F] : (Kernel20.defs (F := F)) = (Kernel20Ideal.defs (F := F)) := by
  show Pipeline.defs _ Kernel20.defs₀ = Pipeline.defs _ Kernel20Ideal.defs₀
  rw [bodies_eq]
  rfl

theorem quiescent : Cert.quiescent_Kernel20 := by
  intro m ρ _
  show θ_run Kernel20.defs _ _ _
  rw [defs_eq]
  exact Cert.Kernel20Ideal.Gen.frame (F := Bits) m ρ

theorem quiescent_reference : Cert.quiescent_Reference20Ideal := fun m ρ _ =>
  (θ_run _ _ _).mono (fun r h => ⟨fun c => (h c).2, sem_eq_zero_of_no_sems (by decide) r.2⟩) (Cert.Reference20Ideal.Value.run (F := Ideal) m ρ)

theorem algebraic : Cert.algebraic_Kernel20Ideal_Reference20Ideal := by
  intro m g m' g' _ hsame
  refine ⟨fun c => merged (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)), ?_, ?_⟩
  · exact (θ_run _ _ _).mono (fun r h c => ⟨(h c).1.trans (arr m c), (h c).2⟩) (Value.run_blocks m g)
  · refine (θ_run _ _ _).mono (fun r h c => ⟨(h c).1.trans (funext fun i => ?_), (h c).2⟩) (Cert.Reference20Ideal.Value.run (F := Ideal) m' g')
    have e : i = ValueIdx.ix2 (i 0) (i 1) := Shape.idx_ext₂ rfl rfl
    rw [e]
    refine sum_at _ _ _ _ _ _ _ _ _ _ ((ValueIdx.broadcastInDim_scalar_apply _ _ _).trans Ideal.ofBits_zero_f32)
      (share _ _ _ _ _ _ _ (Gates.gate_apply _ _ _ 0 _ _ _ _) rfl) (share _ _ _ _ _ _ _ (Gates.gate_apply _ _ _ 1 _ _ _ _) rfl)
      (share _ _ _ _ _ _ _ (Gates.gate_apply _ _ _ 2 _ _ _ _) rfl) (share _ _ _ _ _ _ _ (Gates.gate_apply _ _ _ 3 _ _ _ _) rfl) _ |>.trans ?_
    rw [(hsame c).1, (hsame c).2.1, (hsame c).2.2.1, (hsame c).2.2.2.1, (hsame c).2.2.2.2]
    rfl

end Cert.Proof.Merge

end
-- ==== Proof.Norm.lean ====
/-
  The root-mean-square norm of the rows: what each point of the kernel leaves, and the array it ends with.
-/
module

public import proofs.«01_k».proof.Defs
public import proofs.«01_k».proof.Proof.Product
public import proofs.«01_k».proof.Proof.Rows
public import proofs.«01_k».proof.Proof.Gen.Kernel21Ideal.Value
public import proofs.«01_k».proof.Proof.Gen.Reference21Ideal.Run
public import proofs.«01_k».proof.Proof.Gen.Kernel21
public import proofs.«01_k».proof.Proof.Gen.Kernel21Ideal
public import proofs.«01_k».proof.Proof.Gen.Reference21Ideal

@[expose] public section

noncomputable section

namespace Cert.Proof.Norm

open Cert.Kernel21Ideal Cert.Kernel21Ideal.Gen Idealize.ShloMosaic Idealize.ShloMosaic.TcCoe Idealize.SL.Sem

/-- What the body leaves in the output's buffer. -/
theorem out {F : FTy → Type} [FloatOps F] (x0 : Vec F S256x2048 .f32) (x1 : Vec F S1x2048 .f32) : out0_2 x0 x1 = k0_pay1 x0 x1 := by
  unfold out0_2
  refine (View.canon_unit_zero Product.off_zero _ _).trans ?_
  exact congrArg₂ k0_pay1 (View.ld_unit_zero Product.off_zero _ _) (View.ld_unit_zero Product.off_zero _ _)

/-- The normed stream as an array. -/
def normed (X : Vec Ideal S4096x2048 .f32) (g : Vec Ideal S1x2048 .f32) : Vec Ideal S4096x2048 .bf16 := fun i =>
  X i * Rows.scale (fun j => X (ValueIdx.ix2 (i 0) j)) * g (ValueIdx.ix2 (0 : Fin 1) (i 1))

/-- The body's payload, at a place of a block. -/
theorem pay (x : Vec Ideal S256x2048 .f32) (g : Vec Ideal S1x2048 .f32) (r : Fin 256) (d : Fin 2048) :
    k0_pay1 (F := Ideal) x g (ValueIdx.ix2 r d)
      = (x (ValueIdx.ix2 r d) * Rows.scale (fun j => x (ValueIdx.ix2 r j)) * g (ValueIdx.ix2 (0 : Fin 1) d) : EReal) := by
  unfold k0_pay1
  refine congrArg₂ (fun a b : EReal => x (ValueIdx.ix2 r d) * a * b) ((Rows.spread_column _ _ r d).trans ?_) (Rows.spread_row _ _ r d)
  exact congrArg (fun a : EReal => Ideal.rsqrt (Ideal.div a Rows.len + Rows.eps)) (Rows.sum_row _ _ _ _ _ r 0)

section values
variable (m : (ℓ : Loc nD τ sig) → Buf (Elt Ideal) ℓ) (c : Dev nD)

theorem idx_in : ∀ t : Fin cfg0.N, ((cfg0.win 0).index t 0 = t.val ∧ (cfg0.win 0).index t 1 = 0)
    ∧ ((cfg0.win 1).index t 0 = 0 ∧ (cfg0.win 1).index t 1 = 0)
    ∧ ((cfg0.win 2).index t 0 = t.val ∧ (cfg0.win 2).index t 1 = 0) := by decide +kernel

/-- A row of a block is a row of the stream. -/
theorem row_at (t : Fin cfg0.N) (r : Fin 256) (i : Fin 4096) (h : i.val = t.val * 256 + r.val) (d : Fin 2048) :
    iblk m c 0 t (ValueIdx.ix2 r d) = m ((c : Thread nD τ).loc main_arg0) (ValueIdx.ix2 i d) := by
  refine congrArg (m ((c : Thread nD τ).loc main_arg0)) (Shape.idx_ext₂ ?_ ?_)
  · blk_simp [(idx_in t).1.1]; show t.val * 256 + r.val = i.val; omega
  · blk_simp [(idx_in t).1.2]

theorem weight_at (t : Fin cfg0.N) (d : Fin 2048) :
    iblk m c 1 t (ValueIdx.ix2 (0 : Fin 1) d) = m ((c : Thread nD τ).loc main_arg1) (ValueIdx.ix2 (0 : Fin 1) d) := by
  refine congrArg (m ((c : Thread nD τ).loc main_arg1)) (Shape.idx_ext₂ ?_ ?_)
  · blk_simp [(idx_in t).2.1.1]
  · blk_simp [(idx_in t).2.1.2]

/-- A point's part of the normed stream. -/
theorem part (t : Fin cfg0.N) (y : S256x2048.Idx) (i : S4096x2048.Idx) (h0 : (i 0).val = t.val * 256 + (y 0).val) (h1 : (i 1).val = (y 1).val) :
    k0_pay1 (F := Ideal) (iblk m c 0 t) (iblk m c 1 t) y = normed (m ((c : Thread nD τ).loc main_arg0)) (m ((c : Thread nD τ).loc main_arg1)) i := by
  have e : y = ValueIdx.ix2 (y 0) (y 1) := Shape.idx_ext₂ rfl rfl
  have ei : i = ValueIdx.ix2 (i 0) (i 1) := Shape.idx_ext₂ rfl rfl
  have hd : (y 1 : Fin 2048) = i 1 := Fin.ext h1.symm
  rw [e]
  refine (pay _ _ _ _).trans ?_
  have hr : (fun j : Fin 2048 => iblk m c 0 t (ValueIdx.ix2 (y 0) j)) = fun j => m ((c : Thread nD τ).loc main_arg0) (ValueIdx.ix2 (i 0) j) :=
    funext fun j => row_at m c t (y 0) (i 0) h0 j
  refine congr (congrArg₂ (fun a b w : EReal => a * b * w) ?_ (congrArg Rows.scale hr)) ?_
  · exact (congrFun hr (y 1)).trans (congrArg (m ((c : Thread nD τ).loc main_arg0)) (Shape.idx_ext₂ rfl h1.symm))
  · exact (weight_at m c t (y 1)).trans (congrArg (fun k : Fin 2048 => m ((c : Thread nD τ).loc main_arg1) (ValueIdx.ix2 (0 : Fin 1) k)) hd)

/-- The array the kernel ends with. -/
theorem arr : (dats m 0 c).arrAt 2 cfg0.N = normed (m ((c : Thread nD τ).loc main_arg0)) (m ((c : Thread nD τ).loc main_arg1)) := by
  refine (dats m 0 c).arrAt_eq_of_covers 2 _ (by decide +kernel) fun t hf y => ?_
  blk_simp
  rw [after0_2, out]
  refine part m c t _ _ ?_ ?_
  · blk_simp [show win0_2.index t 0 = _ from (idx_in t).2.2.1]
  · blk_simp [show win0_2.index t 1 = _ from (idx_in t).2.2.2]

end values

theorem quiescent_ideal : Cert.quiescent_Kernel21Ideal := fun m ρ _ => Cert.Kernel21Ideal.Gen.frame m ρ

theorem bodies_eq {F : FTy → Type} [FloatOps F] : (Kernel21.defs₀ (F := F)) = (Kernel21Ideal.defs₀ (F := F)) := by
  unfold Kernel21.defs₀ Kernel21Ideal.defs₀
  congr 1
  funext l a
  fin_cases l
  rfl

theorem defs_eq {F : FTy → Type} [FloatOps F] : (Kernel21.defs (F := F)) = (Kernel21Ideal.defs (F := F)) := by
  show Pipeline.defs _ Kernel21.defs₀ = Pipeline.defs _ Kernel21Ideal.defs₀
  rw [bodies_eq]
  rfl

theorem quiescent : Cert.quiescent_Kernel21 := by
  intro m ρ _
  show θ_run Kernel21.defs _ _ _
  rw [defs_eq]
  exact Cert.Kernel21Ideal.Gen.frame (F := Bits) m ρ

theorem quiescent_reference : Cert.quiescent_Reference21Ideal := fun m ρ _ =>
  (θ_run _ _ _).mono (fun r h => ⟨fun c => (h c).2, sem_eq_zero_of_no_sems (by decide) r.2⟩) (Cert.Reference21Ideal.Value.run (F := Ideal) m ρ)

theorem algebraic : Cert.algebraic_Kernel21Ideal_Reference21Ideal := by
  intro m g m' g' _ hsame
  refine ⟨fun c => normed (m ((c.tc : Thread nD τ).loc main_arg0)) (m ((c.tc : Thread nD τ).loc main_arg1)), ?_, ?_⟩
  · exact (θ_run _ _ _).mono (fun r h c => ⟨(h c).1.trans (arr m c), (h c).2⟩) (Value.run_blocks m g)
  · refine (θ_run _ _ _).mono (fun r h c => ⟨(h c).1.trans (funext fun i => ?_), (h c).2⟩) (Cert.Reference21Ideal.Value.run (F := Ideal) m' g')
    have e : i = ValueIdx.ix2 (i 0) (i 1) := Shape.idx_ext₂ rfl rfl
    rw [e, (hsame c).1, (hsame c).2]
    refine congrArg₂ ((fun z a b : EReal => z * a * b) (m ((c.tc : Thread nD τ).loc main_arg0) (ValueIdx.ix2 (i 0) (i 1)))) ?_
      (Rows.host_spread_row _ _ _ _ (i 0) (i 1))
    refine (Rows.host_spread_column _ _ (i 0) (i 1)).trans ?_
    exact congrArg Ideal.rsqrt (Rows.host_square (m ((c.tc : Thread nD τ).loc main_arg0)) _ _ _ _ (i 0) 0)

end Cert.Proof.Norm

end
-- ==== Proof.lean ====
/-
  The claim: each program runs to the end on every schedule with every counter at zero and its arguments kept; and where
  every argument is finite, the attention's three gradients are the reference's. The other programs (the products, the
  merges and the norms of both passes) give their references' results on all arguments.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Body
public import proofs.«01_k».proof.Proof.Join
public import proofs.«01_k».proof.Proof.DownDx
public import proofs.«01_k».proof.Proof.GateDw
public import proofs.«01_k».proof.Proof.DownDw
public import proofs.«01_k».proof.Proof.UpDx
public import proofs.«01_k».proof.Proof.GateDx
public import proofs.«01_k».proof.Proof.InDw
public import proofs.«01_k».proof.Proof.InDx
public import proofs.«01_k».proof.Proof.OutDx
public import proofs.«01_k».proof.Proof.OutDw
public import proofs.«01_k».proof.Proof.BranchDx
public import proofs.«01_k».proof.Proof.BranchDw
public import proofs.«01_k».proof.Proof.MergeBwd
public import proofs.«01_k».proof.Proof.NormBwd
public import proofs.«01_k».proof.Proof.Gate
public import proofs.«01_k».proof.Proof.Up
public import proofs.«01_k».proof.Proof.Down
public import proofs.«01_k».proof.Proof.Out
public import proofs.«01_k».proof.Proof.Branch
public import proofs.«01_k».proof.Proof.Merge
public import proofs.«01_k».proof.Proof.Norm

@[expose] public section

noncomputable section

namespace Cert.Proof

open Idealize.ShloMosaic Idealize.SL.Sem

theorem quiescent_KernelIdeal : Cert.quiescent_KernelIdeal := by
  intro m ρ _
  exact (θ_run _ _ _).mono (fun r h => ⟨fun c => (h.1 c).2.2.2, h.2⟩) (Body.run_named m ρ)

/-- The two programs' body tables are one: the same functions on the same windows. -/
theorem bodies_eq {F : FTy → Type} [FloatOps F] : (Kernel.defs₀ (F := F)) = (KernelIdeal.defs₀ (F := F)) := by
  unfold Kernel.defs₀ KernelIdeal.defs₀
  congr 1
  funext l a
  fin_cases l
  rfl

/-- And so are the tables with the pipeline's region. -/
theorem defs_eq {F : FTy → Type} [FloatOps F] : (Kernel.defs (F := F)) = (KernelIdeal.defs (F := F)) := by
  show Pipeline.defs _ Kernel.defs₀ = Pipeline.defs _ KernelIdeal.defs₀
  rw [bodies_eq]
  rfl

theorem quiescent_Kernel : Cert.quiescent_Kernel := by
  intro m ρ _
  show θ_run Kernel.defs _ _ _
  rw [defs_eq]
  exact (θ_run _ _ _).mono (fun r h => ⟨fun c => (h.1 c).2.2.2, h.2⟩) (Body.run_named (F := Bits) m ρ)

theorem quiescent_ReferenceIdeal : Cert.quiescent_ReferenceIdeal := by
  intro m ρ _
  exact (θ_run _ _ _).mono (fun r h => ⟨fun c => (h c).2.2.2, sem_eq_zero_of_no_sems (by decide) r.2⟩)
    (Cert.ReferenceIdeal.Value.run (F := Ideal) m ρ)

section finite

attribute [local instance] Join.pre_facts

theorem quiescent_KernelIdeal_finite : Cert.quiescent_KernelIdeal_pre_finite := fun m ρ _ => quiescent_KernelIdeal m ρ trivial

theorem quiescent_ReferenceIdeal_finite : Cert.quiescent_ReferenceIdeal_pre_finite := fun m ρ _ => quiescent_ReferenceIdeal m ρ trivial

/-- The real arrays of a device's arguments. -/
def args (m : (ℓ : Loc KernelIdeal.nD KernelIdeal.τ KernelIdeal.sig) → Buf (Elt Ideal) ℓ) (c : Dev KernelIdeal.nD) : Spec.Args :=
  Join.reals (m ((c.tc : Thread KernelIdeal.nD KernelIdeal.τ).loc KernelIdeal.main_arg0)) (m ((c.tc : Thread KernelIdeal.nD KernelIdeal.τ).loc KernelIdeal.main_arg1))
    (m ((c.tc : Thread KernelIdeal.nD KernelIdeal.τ).loc KernelIdeal.main_arg2)) (m ((c.tc : Thread KernelIdeal.nD KernelIdeal.τ).loc KernelIdeal.main_arg3))
    (m ((c.tc : Thread KernelIdeal.nD KernelIdeal.τ).loc KernelIdeal.main_arg4))

theorem algebraic : Cert.algebraic_KernelIdeal_ReferenceIdeal_pre_finite := by
  intro m g m' g' hpre hsame
  have H := fun c => Join.holds _ _ _ _ _ (hpre c)
  have H' : ∀ c, RefRead.Holds (args m c) (StableHlo.launchContents m' c) := fun c =>
    ⟨fun s y => (congrFun (hsame c).1 _).trans ((H c).hq s y), fun s y => (congrFun (hsame c).2.1 _).trans ((H c).hk s y),
      fun s y => (congrFun (hsame c).2.2.1 _).trans ((H c).hv s y), fun s y => (congrFun (hsame c).2.2.2.1 _).trans ((H c).hgo s y),
      fun s y => (congrFun (hsame c).2.2.2.2 _).trans ((H c).hgl s y)⟩
  refine ⟨fun c => KernelValue.arr (args m c).dq, fun c => KernelValue.arr (args m c).dk, fun c => KernelValue.arr (args m c).dv, ?_, ?_⟩
  · exact (θ_run _ _ _).mono (fun r h c => ⟨(h.1 c).1.trans (KernelValue.arr_q m c (H c)), (h.1 c).2.1.trans (KernelValue.arr_k m c (H c)),
      (h.1 c).2.2.1.trans (KernelValue.arr_v m c (H c)), (h.1 c).2.2.2⟩) (Body.run_named m g)
  · exact (θ_run _ _ _).mono (fun r h c => ⟨(h c).1.trans (Join.arr_ext _ _ fun s n k t d => RefRead.result_q (H' c) s n k t d),
      (h c).2.1.trans (Join.arr_ext _ _ fun s n k t d => RefRead.result_k (H' c) s n k t d),
      (h c).2.2.1.trans (Join.arr_ext _ _ fun s n k t d => RefRead.result_v (H' c) s n k t d), (h c).2.2.2⟩)
      (Cert.ReferenceIdeal.Value.run (F := Ideal) m' g')

end finite

theorem claim : Cert.Claim :=
  ⟨Kernel.Gen.facts, KernelIdeal.Gen.facts, ReferenceIdeal.Gen.facts,
    Kernel2.Gen.facts, Kernel2Ideal.Gen.facts, Reference2Ideal.Gen.facts,
    Kernel3.Gen.facts, Kernel3Ideal.Gen.facts, Reference3Ideal.Gen.facts,
    Kernel4.Gen.facts, Kernel4Ideal.Gen.facts, Reference4Ideal.Gen.facts,
    Kernel5.Gen.facts, Kernel5Ideal.Gen.facts, Reference5Ideal.Gen.facts,
    Kernel6.Gen.facts, Kernel6Ideal.Gen.facts, Reference6Ideal.Gen.facts,
    Kernel7.Gen.facts, Kernel7Ideal.Gen.facts, Reference7Ideal.Gen.facts,
    Kernel8.Gen.facts, Kernel8Ideal.Gen.facts, Reference8Ideal.Gen.facts,
    Kernel9.Gen.facts, Kernel9Ideal.Gen.facts, Reference9Ideal.Gen.facts,
    Kernel10.Gen.facts, Kernel10Ideal.Gen.facts, Reference10Ideal.Gen.facts,
    Kernel11.Gen.facts, Kernel11Ideal.Gen.facts, Reference11Ideal.Gen.facts,
    Kernel12.Gen.facts, Kernel12Ideal.Gen.facts, Reference12Ideal.Gen.facts,
    Kernel13.Gen.facts, Kernel13Ideal.Gen.facts, Reference13Ideal.Gen.facts,
    Kernel14.Gen.facts, Kernel14Ideal.Gen.facts, Reference14Ideal.Gen.facts,
    Kernel15.Gen.facts, Kernel15Ideal.Gen.facts, Reference15Ideal.Gen.facts,
    Kernel16.Gen.facts, Kernel16Ideal.Gen.facts, Reference16Ideal.Gen.facts,
    Kernel17.Gen.facts, Kernel17Ideal.Gen.facts, Reference17Ideal.Gen.facts,
    Kernel18.Gen.facts, Kernel18Ideal.Gen.facts, Reference18Ideal.Gen.facts,
    Kernel19.Gen.facts, Kernel19Ideal.Gen.facts, Reference19Ideal.Gen.facts,
    Kernel20.Gen.facts, Kernel20Ideal.Gen.facts, Reference20Ideal.Gen.facts,
    Kernel21.Gen.facts, Kernel21Ideal.Gen.facts, Reference21Ideal.Gen.facts,
    Join.pre_facts,
    quiescent_Kernel, quiescent_KernelIdeal, quiescent_KernelIdeal_finite, quiescent_ReferenceIdeal, quiescent_ReferenceIdeal_finite,
    DownDx.quiescent, DownDx.quiescent_ideal, DownDx.quiescent_reference,
    GateDw.quiescent, GateDw.quiescent_ideal, GateDw.quiescent_reference,
    DownDw.quiescent, DownDw.quiescent_ideal, DownDw.quiescent_reference,
    UpDx.quiescent, UpDx.quiescent_ideal, UpDx.quiescent_reference,
    GateDx.quiescent, GateDx.quiescent_ideal, GateDx.quiescent_reference,
    InDw.quiescent, InDw.quiescent_ideal, InDw.quiescent_reference,
    InDx.quiescent, InDx.quiescent_ideal, InDx.quiescent_reference,
    OutDx.quiescent, OutDx.quiescent_ideal, OutDx.quiescent_reference,
    OutDw.quiescent, OutDw.quiescent_ideal, OutDw.quiescent_reference,
    BranchDx.quiescent, BranchDx.quiescent_ideal, BranchDx.quiescent_reference,
    BranchDw.quiescent, BranchDw.quiescent_ideal, BranchDw.quiescent_reference,
    MergeBwd.quiescent, MergeBwd.quiescent_ideal, MergeBwd.quiescent_reference,
    NormBwd.quiescent, NormBwd.quiescent_ideal, NormBwd.quiescent_reference,
    Gate.quiescent, Gate.quiescent_ideal, Gate.quiescent_reference,
    Up.quiescent, Up.quiescent_ideal, Up.quiescent_reference,
    Down.quiescent, Down.quiescent_ideal, Down.quiescent_reference,
    Out.quiescent, Out.quiescent_ideal, Out.quiescent_reference,
    Branch.quiescent, Branch.quiescent_ideal, Branch.quiescent_reference,
    Merge.quiescent, Merge.quiescent_ideal, Merge.quiescent_reference,
    Norm.quiescent, Norm.quiescent_ideal, Norm.quiescent_reference,
    trivial, algebraic,
    trivial, DownDx.algebraic,
    trivial, GateDw.algebraic,
    trivial, DownDw.algebraic,
    trivial, UpDx.algebraic,
    trivial, GateDx.algebraic,
    trivial, InDw.algebraic,
    trivial, InDx.algebraic,
    trivial, OutDx.algebraic,
    trivial, OutDw.algebraic,
    trivial, BranchDx.algebraic,
    trivial, BranchDw.algebraic,
    trivial, MergeBwd.algebraic,
    trivial, NormBwd.algebraic,
    trivial, Gate.algebraic,
    trivial, Up.algebraic,
    trivial, Down.algebraic,
    trivial, Out.algebraic,
    trivial, Branch.algebraic,
    trivial, Merge.algebraic,
    trivial, Norm.algebraic⟩

end Cert.Proof

end
